-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_proper [hPre_proper : Cert.Pre_proper.Facts] (m : (ℓ : Loc Cert.KernelIdeal.nD Cert.KernelIdeal.τ Cert.KernelIdeal.sig) → Buf (Elt Ideal) ℓ) : Prop :=
  ∀ c : Dev Cert.KernelIdeal.nD,
    (Cert.Pre_proper.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_proper.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_proper.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_proper.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.1 = (fun _ => 1#1)
    ∧ (Cert.Pre_proper.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_proper [hPre_proper : Cert.Pre_proper.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_proper.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_proper.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_proper.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_proper.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.1 = (fun _ => 1#1)
    ∧ (Cert.Pre_proper.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_proper [hKernelIdeal : Cert.KernelIdeal.Facts] [hPre_proper : Cert.Pre_proper.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_proper m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_proper [hReferenceIdeal : Cert.ReferenceIdeal.Facts] [hPre_proper : Cert.Pre_proper.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_proper m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_proper [hKernelIdeal : Cert.KernelIdeal.Facts] [hReferenceIdeal : Cert.ReferenceIdeal.Facts] [hPre_proper : Cert.Pre_proper.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_proper m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v17)) (v2 : (c : Dev Cert.KernelIdeal.nD) → Buf (Elt Ideal) ((c.tc : Thread Cert.KernelIdeal.nD Cert.KernelIdeal.τ).loc Cert.KernelIdeal.main_v21)) (v3 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_v21) = v2 c
          ∧ r.2.mem ((c.tc : Thread Cert.KernelIdeal.nD Cert.KernelIdeal.τ).loc Cert.KernelIdeal.main_v10) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_v106) = v1 c
          ∧ r.2.mem ((c.tc : Thread Cert.ReferenceIdeal.nD Cert.ReferenceIdeal.τ).loc Cert.ReferenceIdeal.main_v118) = v2 c
          ∧ r.2.mem ((c.tc : Thread Cert.ReferenceIdeal.nD Cert.ReferenceIdeal.τ).loc Cert.ReferenceIdeal.main_v119) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_proper : Cert.Pre_proper.Facts),
    quiescent_Kernel (hKernel := hKernel)
    ∧ quiescent_KernelIdeal (hKernelIdeal := hKernelIdeal)
    ∧ quiescent_KernelIdeal_pre_proper (hKernelIdeal := hKernelIdeal) (hPre_proper := hPre_proper)
    ∧ quiescent_ReferenceIdeal (hReferenceIdeal := hReferenceIdeal)
    ∧ quiescent_ReferenceIdeal_pre_proper (hReferenceIdeal := hReferenceIdeal) (hPre_proper := hPre_proper)
    ∧ preserves_Kernel_KernelIdeal
    ∧ algebraic_KernelIdeal_ReferenceIdeal_pre_proper (hKernelIdeal := hKernelIdeal) (hReferenceIdeal := hReferenceIdeal) (hPre_proper := hPre_proper)
-- ==== Pre_proper.lean ====
abbrev S8x384x32x32 : Shape := ⟨4, ![8, 384, 32, 32]⟩
abbrev S64x384 : Shape := ⟨2, ![64, 384]⟩
abbrev S64 : Shape := ⟨1, ![64]⟩
abbrev S8192x64 : Shape := ⟨2, ![8192, 64]⟩
abbrev S_ : Shape := ⟨0, ![]⟩
abbrev S8192 : Shape := ⟨1, ![8192]⟩

class Facts : Prop where
  bcast_S_S8x384x32x32 : S_.BroadcastsInDim S8x384x32x32 (![] : Fin 0 → Fin S8x384x32x32.rank)
  bcast_S_S64x384 : S_.BroadcastsInDim S64x384 (![] : Fin 0 → Fin S64x384.rank)
  bcast_S_S64 : S_.BroadcastsInDim S64 (![] : Fin 0 → Fin S64.rank)
  bcast_S_S8192x64 : S_.BroadcastsInDim S8192x64 (![] : Fin 0 → Fin S8192x64.rank)
  reducesTo_S8192x64_S8192_d1 : S8192x64.ReducesTo [1] S8192
  h_S_ : 0 < S_.numel

variable [Facts]

def fn {F : FTy → Type} [FloatOps F] (main_arg0 : FVec F S8x384x32x32 .f32) (main_arg1 : FVec F S64x384 .f32) (main_arg2 : FVec F S64 .f32) (main_arg3 : FVec F S8192x64 .f32) : IVec S8x384x32x32 1 × IVec S64x384 1 × IVec S64 1 × IVec S8192x64 1 × IVec S8192 1 :=
  let main_v0 : FVec F S8x384x32x32 .f32 := Host.absf main_arg0
  let main_cst : FVec F S_ .f32 := constant S_ .f32 0x7F800000#32
  let main_v1 : FVec F S8x384x32x32 .f32 := broadcastInDim S8x384x32x32 ![] bcast_S_S8x384x32x32 main_cst
  let main_v2 : IVec S8x384x32x32 1 := cmpf .olt main_v0 main_v1
  let main_v3 : FVec F S64x384 .f32 := Host.absf main_arg1
  let main_cst_0 : FVec F S_ .f32 := constant S_ .f32 0x7F800000#32
  let main_v4 : FVec F S64x384 .f32 := broadcastInDim S64x384 ![] bcast_S_S64x384 main_cst_0
  let main_v5 : IVec S64x384 1 := cmpf .olt main_v3 main_v4
  let main_v6 : FVec F S64 .f32 := Host.absf main_arg2
  let main_cst_1 : FVec F S_ .f32 := constant S_ .f32 0x7F800000#32
  let main_v7 : FVec F S64 .f32 := broadcastInDim S64 ![] bcast_S_S64 main_cst_1
  let main_v8 : IVec S64 1 := cmpf .olt main_v6 main_v7
  let main_v9 : FVec F S8192x64 .f32 := Host.absf main_arg3
  let main_cst_2 : FVec F S_ .f32 := constant S_ .f32 0x7F800000#32
  let main_v10 : FVec F S8192x64 .f32 := broadcastInDim S8192x64 ![] bcast_S_S8192x64 main_cst_2
  let main_v11 : IVec S8192x64 1 := cmpf .olt main_v9 main_v10
  let main_cst_3 : FVec F S_ .f32 := constant S_ .f32 0x00000000#32
  let main_v12 : FVec F S8192x64 .f32 := broadcastInDim S8192x64 ![] bcast_S_S8192x64 main_cst_3
  let main_v13 : IVec S8192x64 1 := cmpf .une main_arg3 main_v12
  let main_c : IVec S_ 1 := constantI S_ 1 0#1
  let main_v14 : IVec S8192 1 := (fun x v => Host.reduce IntOp.ori x v reducesTo_S8192x64_S8192_d1 h_S_) main_v13 main_c
  (main_v2, main_v5, main_v8, main_v11, main_v14)
-- ==== Kernel.lean ====
abbrev S8x384x32x32 : Shape := ⟨4, ![8, 384, 32, 32]⟩
abbrev S64x384 : Shape := ⟨2, ![64, 384]⟩
abbrev S64 : Shape := ⟨1, ![64]⟩
abbrev S8192x64 : Shape := ⟨2, ![8192, 64]⟩
abbrev S8x32x32x384 : Shape := ⟨4, ![8, 32, 32, 384]⟩
abbrev S8192x384 : Shape := ⟨2, ![8192, 384]⟩
abbrev S1024x384 : Shape := ⟨2, ![1024, 384]⟩
abbrev S1024x64 : Shape := ⟨2, ![1024, 64]⟩
abbrev S1x64 : Shape := ⟨2, ![1, 64]⟩
abbrev S8x16x2x32x64 : Shape := ⟨5, ![8, 16, 2, 32, 64]⟩
abbrev S8x64x16x2x32 : Shape := ⟨5, ![8, 64, 16, 2, 32]⟩
abbrev S64x1x128 : Shape := ⟨3, ![64, 1, 128]⟩
abbrev S64x128x64 : Shape := ⟨3, ![64, 128, 64]⟩
abbrev S1x1x8192 : Shape := ⟨3, ![1, 1, 8192]⟩
abbrev S1x1x64 : Shape := ⟨3, ![1, 1, 64]⟩
abbrev S128x64 : Shape := ⟨2, ![128, 64]⟩
abbrev S1x1x128 : Shape := ⟨3, ![1, 1, 128]⟩
abbrev S1x128x64 : Shape := ⟨3, ![1, 128, 64]⟩
abbrev S8192 : Shape := ⟨1, ![8192]⟩
abbrev S128x8192 : Shape := ⟨2, ![128, 8192]⟩
abbrev S128 : Shape := ⟨1, ![128]⟩
abbrev S128x1 : Shape := ⟨2, ![128, 1]⟩
abbrev S1x8192 : Shape := ⟨2, ![1, 8192]⟩
abbrev S8192x1 : Shape := ⟨2, ![8192, 1]⟩
abbrev S8x1024 : Shape := ⟨2, ![8, 1024]⟩
abbrev S8x64x32x32 : Shape := ⟨4, ![8, 64, 32, 32]⟩
abbrev S_ : Shape := ⟨0, ![]⟩
abbrev S8x8192 : Shape := ⟨2, ![8, 8192]⟩
abbrev S1 : Shape := ⟨1, ![1]⟩

abbrev nBuf : Space → Nat
  | .hbm => 36
  | .vmem => 16
  | .smem => 0
  | _ => 0

abbrev bufTy : (tb : Table) → Fin (tcTables nBuf tb) → BufTy
  | .hbm, ⟨0, _⟩ => ⟨S8x384x32x32, .f32⟩
  | .hbm, ⟨1, _⟩ => ⟨S64x384, .f32⟩
  | .hbm, ⟨2, _⟩ => ⟨S64, .f32⟩
  | .hbm, ⟨3, _⟩ => ⟨S8192x64, .f32⟩
  | .hbm, ⟨4, _⟩ => ⟨S8x32x32x384, .f32⟩
  | .hbm, ⟨5, _⟩ => ⟨S8192x384, .f32⟩
  | .hbm, ⟨6, _⟩ => ⟨S8192x64, .f32⟩
  | .hbm, ⟨7, _⟩ => ⟨S1x64, .f32⟩
  | .hbm, ⟨8, _⟩ => ⟨S8192x64, .f32⟩
  | .hbm, ⟨9, _⟩ => ⟨S8192x64, .f32⟩
  | .hbm, ⟨10, _⟩ => ⟨S8x16x2x32x64, .f32⟩
  | .hbm, ⟨11, _⟩ => ⟨S8x64x16x2x32, .f32⟩
  | .hbm, ⟨12, _⟩ => ⟨S8192x64, .f32⟩
  | .hbm, ⟨13, _⟩ => ⟨S64x1x128, .i32⟩
  | .hbm, ⟨14, _⟩ => ⟨S64x1x128, .f32⟩
  | .hbm, ⟨15, _⟩ => ⟨S64x128x64, .f32⟩
  | .hbm, ⟨16, _⟩ => ⟨S1x1x8192, .f32⟩
  | .hbm, ⟨17, _⟩ => ⟨S1x1x64, .f32⟩
  | .hbm, ⟨18, _⟩ => ⟨S8x1024, .i32⟩
  | .hbm, ⟨19, _⟩ => ⟨S8x64x32x32, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S1x1x64, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S8x8192, .f32⟩
  | .hbm, ⟨32, _⟩ => ⟨S8192, .f32⟩
  | .hbm, ⟨33, _⟩ => ⟨S_, .i32⟩
  | .hbm, ⟨34, _⟩ => ⟨S1, .i32⟩
  | .hbm, ⟨35, _⟩ => ⟨S8x8192, .f32⟩
  | .local _ .vmem, ⟨0, _⟩ => ⟨S1024x384, .f32⟩
  | .local _ .vmem, ⟨1, _⟩ => ⟨S1024x384, .f32⟩
  | .local _ .vmem, ⟨2, _⟩ => ⟨S64x384, .f32⟩
  | .local _ .vmem, ⟨3, _⟩ => ⟨S1024x64, .f32⟩
  | .local _ .vmem, ⟨4, _⟩ => ⟨S1024x64, .f32⟩
  | .local _ .vmem, ⟨5, _⟩ => ⟨S128x64, .f32⟩
  | .local _ .vmem, ⟨6, _⟩ => ⟨S128x64, .f32⟩
  | .local _ .vmem, ⟨7, _⟩ => ⟨S8192x64, .f32⟩
  | .local _ .vmem, ⟨8, _⟩ => ⟨S1x1x128, .i32⟩
  | .local _ .vmem, ⟨9, _⟩ => ⟨S1x1x128, .i32⟩
  | .local _ .vmem, ⟨10, _⟩ => ⟨S1x1x128, .f32⟩
  | .local _ .vmem, ⟨11, _⟩ => ⟨S1x1x128, .f32⟩
  | .local _ .vmem, ⟨12, _⟩ => ⟨S1x128x64, .f32⟩
  | .local _ .vmem, ⟨13, _⟩ => ⟨S1x128x64, .f32⟩
  | .local _ .vmem, ⟨14, _⟩ => ⟨S1x1x8192, .f32⟩
  | .local _ .vmem, ⟨15, _⟩ => ⟨S1x1x64, .f32⟩
  | _, _ => ⟨S8x384x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev main_v9_2 : Ref sig .tc := ⟨.hbm, 15, rfl⟩
abbrev main_v9_3 : Ref sig .tc := ⟨.hbm, 16, rfl⟩
abbrev main_v9_4 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_c : Ref sig .tc := ⟨.hbm, 33, rfl⟩
abbrev main_v20 : Ref sig .tc := ⟨.hbm, 34, rfl⟩
abbrev main_v21 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg6_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem6_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![64], ![false]⟩

def k1_cond1 (i : grid1.Coords) : BitVec 1 :=
  let arg0 : BitVec 32 := BitVec.ofNat 32 (i 0).val
  let c0_i32 : BitVec 32 := 0#32
  let v40 : BitVec 1 := Scalar.cmpi .eq arg0 c0_i32
  let v41 : BitVec 32 := Scalar.extui v40
  let c0_i32_18 : BitVec 32 := 0#32
  let v42 : BitVec 1 := Scalar.cmpi .ne v41 c0_i32_18
  v42

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage1_0 : Fin 2 → Memref sig .tc .vmem S128x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x1x128 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x128x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x1x8192 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]
-- ==== ReferenceIdeal.lean ====
abbrev S8x384x32x32 : Shape := ⟨4, ![8, 384, 32, 32]⟩
abbrev S64x384 : Shape := ⟨2, ![64, 384]⟩
abbrev S64 : Shape := ⟨1, ![64]⟩
abbrev S8192x64 : Shape := ⟨2, ![8192, 64]⟩
abbrev S64x8x32x32 : Shape := ⟨4, ![64, 8, 32, 32]⟩
abbrev S8x64x32x32 : Shape := ⟨4, ![8, 64, 32, 32]⟩
abbrev S1x64x1x1 : Shape := ⟨4, ![1, 64, 1, 1]⟩
abbrev S64x8192 : Shape := ⟨2, ![64, 8192]⟩
abbrev S8192x8192 : Shape := ⟨2, ![8192, 8192]⟩
abbrev S_ : Shape := ⟨0, ![]⟩
abbrev S8192 : Shape := ⟨1, ![8192]⟩
abbrev S1x8192 : Shape := ⟨2, ![1, 8192]⟩
abbrev S1x1x1x8192 : Shape := ⟨4, ![1, 1, 1, 8192]⟩
abbrev S8192x1x1x8192 : Shape := ⟨4, ![8192, 1, 1, 8192]⟩
abbrev S8192x1 : Shape := ⟨2, ![8192, 1]⟩
abbrev S1 : Shape := ⟨1, ![1]⟩
abbrev S1x1 : Shape := ⟨2, ![1, 1]⟩
abbrev S2 : Shape := ⟨1, ![2]⟩
abbrev S1x1x1x1x1 : Shape := ⟨5, ![1, 1, 1, 1, 1]⟩
abbrev S2x1 : Shape := ⟨2, ![2, 1]⟩
abbrev S2x2 : Shape := ⟨2, ![2, 2]⟩
abbrev S1x2 : Shape := ⟨2, ![1, 2]⟩
abbrev S2x8x384x32x32 : Shape := ⟨5, ![2, 8, 384, 32, 32]⟩
abbrev S1x8x384x32x32 : Shape := ⟨5, ![1, 8, 384, 32, 32]⟩
abbrev S1x8x64x32x32 : Shape := ⟨5, ![1, 8, 64, 32, 32]⟩
abbrev S2x8x64x32x32 : Shape := ⟨5, ![2, 8, 64, 32, 32]⟩
abbrev S65536 : Shape := ⟨1, ![65536]⟩
abbrev S8x8192 : Shape := ⟨2, ![8, 8192]⟩
abbrev S8x1024 : Shape := ⟨2, ![8, 1024]⟩

abbrev nBuf : Space → Nat
  | .hbm => 1003
  | .vmem => 0
  | .smem => 0
  | _ => 0

abbrev hbmTy0_0 (i : Nat) : BufTy := match i % 128 with
  | 0 => ⟨S8x384x32x32, .f32⟩
  | 1 => ⟨S64x384, .f32⟩
  | 2 => ⟨S64, .f32⟩
  | 3 => ⟨S8192x64, .f32⟩
  | 4 => ⟨S64x8x32x32, .f32⟩
  | 5 => ⟨S8x64x32x32, .f32⟩
  | 6 => ⟨S1x64x1x1, .f32⟩
  | 7 => ⟨S8x64x32x32, .f32⟩
  | 8 => ⟨S8x64x32x32, .f32⟩
  | 9 => ⟨S8192x64, .f32⟩
  | 10 => ⟨S64x8192, .f32⟩
  | 11 => ⟨S8192x8192, .f32⟩
  | 12 => ⟨S8192x64, .f32⟩
  | 13 => ⟨S_, .f32⟩
  | 14 => ⟨S8192, .f32⟩
  | 15 => ⟨S8192, .f32⟩
  | 16 => ⟨S1x8192, .f32⟩
  | 17 => ⟨S1x1x1x8192, .f32⟩
  | 18 => ⟨S8192x1x1x8192, .f32⟩
  | 19 => ⟨S8192x8192, .f32⟩
  | 20 => ⟨S8192x8192, .f32⟩
  | 21 => ⟨S8192x8192, .f32⟩
  | 22 => ⟨S8192x8192, .f32⟩
  | 23 => ⟨S_, .f32⟩
  | 24 => ⟨S_, .f32⟩
  | 25 => ⟨S_, .f32⟩
  | 26 => ⟨S_, .f32⟩
  | 27 => ⟨S8192x64, .f32⟩
  | 28 => ⟨S_, .f32⟩
  | 29 => ⟨S8192, .f32⟩
  | 30 => ⟨S8192x1, .f32⟩
  | 31 => ⟨S8192x64, .f32⟩
  | 32 => ⟨S_, .f32⟩
  | 33 => ⟨S8192, .f32⟩
  | 34 => ⟨S1x8192, .f32⟩
  | 35 => ⟨S8192x8192, .f32⟩
  | 36 => ⟨S8192x8192, .f32⟩
  | 37 => ⟨S8192x8192, .f32⟩
  | 38 => ⟨S64x8192, .f32⟩
  | 39 => ⟨S8192x8192, .f32⟩
  | 40 => ⟨S_, .f32⟩
  | 41 => ⟨S8192x8192, .f32⟩
  | 42 => ⟨S8192x8192, .f32⟩
  | 43 => ⟨S8192x8192, .f32⟩
  | 44 => ⟨S8192x8192, .i32⟩
  | 45 => ⟨S_, .f32⟩
  | 46 => ⟨S_, .i32⟩
  | 47 => ⟨S8192, .f32⟩
  | 48 => ⟨S8192, .i32⟩
  | 49 => ⟨S_, .i32⟩
  | 50 => ⟨S8192, .i32⟩
  | 51 => ⟨S8192, .i1⟩
  | 52 => ⟨S_, .i32⟩
  | 53 => ⟨S8192, .i32⟩
  | 54 => ⟨S8192, .i32⟩
  | 55 => ⟨S8192, .i32⟩
  | 56 => ⟨S8192x1, .i32⟩
  | 57 => ⟨S1, .i32⟩
  | 58 => ⟨S_, .i32⟩
  | 59 => ⟨S8192x1, .i32⟩
  | 60 => ⟨S8192x1, .i1⟩
  | 61 => ⟨S1x1, .i32⟩
  | 62 => ⟨S8192x1, .i32⟩
  | 63 => ⟨S8192x1, .i1⟩
  | 64 => ⟨S8192x1, .i1⟩
  | 65 => ⟨S_, .i1⟩
  | 66 => ⟨S8192, .i1⟩
  | 67 => ⟨S8192x64, .f32⟩
  | 68 => ⟨S8192x64, .i1⟩
  | 69 => ⟨S_, .f32⟩
  | 70 => ⟨S8192x64, .f32⟩
  | 71 => ⟨S8192x64, .f32⟩
  | 72 => ⟨S8x64x32x32, .f32⟩
  | 73 => ⟨S8x64x32x32, .f32⟩
  | 74 => ⟨S8x64x32x32, .f32⟩
  | 75 => ⟨S_, .f32⟩
  | 76 => ⟨S_, .f32⟩
  | 77 => ⟨S_, .f32⟩
  | 78 => ⟨S_, .f32⟩
  | 79 => ⟨S8x64x32x32, .f32⟩
  | 80 => ⟨S8x64x32x32, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .i32⟩
  | 90 => ⟨S_, .i32⟩
  | 91 => ⟨S_, .i32⟩
  | 92 => ⟨S_, .i32⟩
  | 93 => ⟨S1, .i32⟩
  | 94 => ⟨S_, .i32⟩
  | 95 => ⟨S_, .i32⟩
  | 96 => ⟨S_, .i32⟩
  | 97 => ⟨S1, .i32⟩
  | 98 => ⟨S2, .i32⟩
  | 99 => ⟨S_, .i32⟩
  | 100 => ⟨S_, .i32⟩
  | 101 => ⟨S_, .i32⟩
  | 102 => ⟨S_, .i32⟩
  | 103 => ⟨S_, .i32⟩
  | 104 => ⟨S_, .i32⟩
  | 105 => ⟨S_, .i32⟩
  | 106 => ⟨S_, .i1⟩
  | 107 => ⟨S_, .i32⟩
  | 108 => ⟨S_, .i32⟩
  | 109 => ⟨S_, .i32⟩
  | 110 => ⟨S_, .i32⟩
  | 111 => ⟨S_, .i32⟩
  | 112 => ⟨S_, .i32⟩
  | 113 => ⟨S_, .i32⟩
  | 114 => ⟨S_, .i32⟩
  | 115 => ⟨S_, .i32⟩
  | 116 => ⟨S_, .i32⟩
  | 117 => ⟨S1x1x1x1x1, .i32⟩
  | 118 => ⟨S1x1x1x1x1, .i32⟩
  | 119 => ⟨S1, .i32⟩
  | 120 => ⟨S_, .i32⟩
  | 121 => ⟨S1, .i32⟩
  | 122 => ⟨S_, .i32⟩
  | 123 => ⟨S2, .i64⟩
  | 124 => ⟨S_, .i64⟩
  | 125 => ⟨S2, .i64⟩
  | 126 => ⟨S2, .i64⟩
  | 127 => ⟨S_, .i64⟩
  | _ => ⟨S8x384x32x32, .f32⟩

abbrev hbmTy0_1 (i : Nat) : BufTy := match i % 128 with
  | 0 => ⟨S2, .i64⟩
  | 1 => ⟨S2, .i64⟩
  | 2 => ⟨S2, .i32⟩
  | 3 => ⟨S2, .i32⟩
  | 4 => ⟨S_, .i32⟩
  | 5 => ⟨S_, .i32⟩
  | 6 => ⟨S_, .i32⟩
  | 7 => ⟨S2, .i32⟩
  | 8 => ⟨S2, .i32⟩
  | 9 => ⟨S2, .i32⟩
  | 10 => ⟨S2, .i32⟩
  | 11 => ⟨S2, .i32⟩
  | 12 => ⟨S_, .i32⟩
  | 13 => ⟨S2, .i32⟩
  | 14 => ⟨S2, .i32⟩
  | 15 => ⟨S_, .i32⟩
  | 16 => ⟨S2, .i32⟩
  | 17 => ⟨S2, .i32⟩
  | 18 => ⟨S2, .i32⟩
  | 19 => ⟨S2, .i32⟩
  | 20 => ⟨S2, .i32⟩
  | 21 => ⟨S_, .i32⟩
  | 22 => ⟨S2, .i32⟩
  | 23 => ⟨S2, .i32⟩
  | 24 => ⟨S_, .i32⟩
  | 25 => ⟨S2, .i32⟩
  | 26 => ⟨S2, .i32⟩
  | 27 => ⟨S2, .i32⟩
  | 28 => ⟨S2, .i32⟩
  | 29 => ⟨S2, .i32⟩
  | 30 => ⟨S_, .i32⟩
  | 31 => ⟨S2, .i32⟩
  | 32 => ⟨S2, .i32⟩
  | 33 => ⟨S_, .i32⟩
  | 34 => ⟨S2, .i32⟩
  | 35 => ⟨S2, .i32⟩
  | 36 => ⟨S2, .i32⟩
  | 37 => ⟨S2, .i32⟩
  | 38 => ⟨S2, .i32⟩
  | 39 => ⟨S_, .i32⟩
  | 40 => ⟨S2, .i32⟩
  | 41 => ⟨S2, .i32⟩
  | 42 => ⟨S_, .i32⟩
  | 43 => ⟨S2, .i32⟩
  | 44 => ⟨S2, .i32⟩
  | 45 => ⟨S2, .i32⟩
  | 46 => ⟨S2, .i32⟩
  | 47 => ⟨S2, .i32⟩
  | 48 => ⟨S2, .i32⟩
  | 49 => ⟨S2, .i32⟩
  | 50 => ⟨S2, .i32⟩
  | 51 => ⟨S_, .i32⟩
  | 52 => ⟨S2, .i32⟩
  | 53 => ⟨S2, .i32⟩
  | 54 => ⟨S2, .i32⟩
  | 55 => ⟨S_, .i32⟩
  | 56 => ⟨S2, .i32⟩
  | 57 => ⟨S2, .i32⟩
  | 58 => ⟨S_, .i32⟩
  | 59 => ⟨S2, .i32⟩
  | 60 => ⟨S2, .i32⟩
  | 61 => ⟨S2, .i32⟩
  | 62 => ⟨S2, .i32⟩
  | 63 => ⟨S2, .i32⟩
  | 64 => ⟨S_, .i32⟩
  | 65 => ⟨S2, .i32⟩
  | 66 => ⟨S2, .i32⟩
  | 67 => ⟨S_, .i32⟩
  | 68 => ⟨S2, .i32⟩
  | 69 => ⟨S2, .i32⟩
  | 70 => ⟨S2, .i32⟩
  | 71 => ⟨S2, .i32⟩
  | 72 => ⟨S2, .i32⟩
  | 73 => ⟨S_, .i32⟩
  | 74 => ⟨S2, .i32⟩
  | 75 => ⟨S2, .i32⟩
  | 76 => ⟨S_, .i32⟩
  | 77 => ⟨S2, .i32⟩
  | 78 => ⟨S2, .i32⟩
  | 79 => ⟨S2, .i32⟩
  | 80 => ⟨S2, .i32⟩
  | 81 => ⟨S2, .i32⟩
  | 82 => ⟨S_, .i32⟩
  | 83 => ⟨S2, .i32⟩
  | 84 => ⟨S2, .i32⟩
  | 85 => ⟨S_, .i32⟩
  | 86 => ⟨S2, .i32⟩
  | 87 => ⟨S2, .i32⟩
  | 88 => ⟨S2, .i32⟩
  | 89 => ⟨S2, .i32⟩
  | 90 => ⟨S2, .i32⟩
  | 91 => ⟨S2, .i32⟩
  | 92 => ⟨S2, .i32⟩
  | 93 => ⟨S2, .i32⟩
  | 94 => ⟨S_, .i32⟩
  | 95 => ⟨S2, .i32⟩
  | 96 => ⟨S2, .i32⟩
  | 97 => ⟨S2, .i32⟩
  | 98 => ⟨S_, .i32⟩
  | 99 => ⟨S2, .i32⟩
  | 100 => ⟨S2, .i32⟩
  | 101 => ⟨S_, .i32⟩
  | 102 => ⟨S2, .i32⟩
  | 103 => ⟨S2, .i32⟩
  | 104 => ⟨S2, .i32⟩
  | 105 => ⟨S2, .i32⟩
  | 106 => ⟨S2, .i32⟩
  | 107 => ⟨S_, .i32⟩
  | 108 => ⟨S2, .i32⟩
  | 109 => ⟨S2, .i32⟩
  | 110 => ⟨S_, .i32⟩
  | 111 => ⟨S2, .i32⟩
  | 112 => ⟨S2, .i32⟩
  | 113 => ⟨S2, .i32⟩
  | 114 => ⟨S2, .i32⟩
  | 115 => ⟨S2, .i32⟩
  | 116 => ⟨S_, .i32⟩
  | 117 => ⟨S2, .i32⟩
  | 118 => ⟨S2, .i32⟩
  | 119 => ⟨S_, .i32⟩
  | 120 => ⟨S2, .i32⟩
  | 121 => ⟨S2, .i32⟩
  | 122 => ⟨S2, .i32⟩
  | 123 => ⟨S2, .i32⟩
  | 124 => ⟨S2, .i32⟩
  | 125 => ⟨S_, .i32⟩
  | 126 => ⟨S2, .i32⟩
  | 127 => ⟨S2, .i32⟩
  | _ => ⟨S8x384x32x32, .f32⟩

abbrev hbmTy0_2 (i : Nat) : BufTy := match i % 128 with
  | 0 => ⟨S_, .i32⟩
  | 1 => ⟨S2, .i32⟩
  | 2 => ⟨S2, .i32⟩
  | 3 => ⟨S2, .i32⟩
  | 4 => ⟨S2, .i32⟩
  | 5 => ⟨S2, .i32⟩
  | 6 => ⟨S2, .i32⟩
  | 7 => ⟨S2, .i32⟩
  | 8 => ⟨S2, .i32⟩
  | 9 => ⟨S_, .i32⟩
  | 10 => ⟨S2, .i32⟩
  | 11 => ⟨S2, .i32⟩
  | 12 => ⟨S2, .i32⟩
  | 13 => ⟨S_, .i32⟩
  | 14 => ⟨S2, .i32⟩
  | 15 => ⟨S2, .i32⟩
  | 16 => ⟨S_, .i32⟩
  | 17 => ⟨S2, .i32⟩
  | 18 => ⟨S2, .i32⟩
  | 19 => ⟨S2, .i32⟩
  | 20 => ⟨S2, .i32⟩
  | 21 => ⟨S2, .i32⟩
  | 22 => ⟨S_, .i32⟩
  | 23 => ⟨S2, .i32⟩
  | 24 => ⟨S2, .i32⟩
  | 25 => ⟨S_, .i32⟩
  | 26 => ⟨S2, .i32⟩
  | 27 => ⟨S2, .i32⟩
  | 28 => ⟨S2, .i32⟩
  | 29 => ⟨S2, .i32⟩
  | 30 => ⟨S2, .i32⟩
  | 31 => ⟨S_, .i32⟩
  | 32 => ⟨S2, .i32⟩
  | 33 => ⟨S2, .i32⟩
  | 34 => ⟨S_, .i32⟩
  | 35 => ⟨S2, .i32⟩
  | 36 => ⟨S2, .i32⟩
  | 37 => ⟨S2, .i32⟩
  | 38 => ⟨S2, .i32⟩
  | 39 => ⟨S2, .i32⟩
  | 40 => ⟨S_, .i32⟩
  | 41 => ⟨S2, .i32⟩
  | 42 => ⟨S2, .i32⟩
  | 43 => ⟨S_, .i32⟩
  | 44 => ⟨S2, .i32⟩
  | 45 => ⟨S2, .i32⟩
  | 46 => ⟨S2, .i32⟩
  | 47 => ⟨S2, .i32⟩
  | 48 => ⟨S2, .i32⟩
  | 49 => ⟨S2, .i32⟩
  | 50 => ⟨S2, .i32⟩
  | 51 => ⟨S2, .i32⟩
  | 52 => ⟨S_, .i32⟩
  | 53 => ⟨S2, .i32⟩
  | 54 => ⟨S2, .i32⟩
  | 55 => ⟨S2, .i32⟩
  | 56 => ⟨S_, .i32⟩
  | 57 => ⟨S2, .i32⟩
  | 58 => ⟨S2, .i32⟩
  | 59 => ⟨S_, .i32⟩
  | 60 => ⟨S2, .i32⟩
  | 61 => ⟨S2, .i32⟩
  | 62 => ⟨S2, .i32⟩
  | 63 => ⟨S2, .i32⟩
  | 64 => ⟨S2, .i32⟩
  | 65 => ⟨S_, .i32⟩
  | 66 => ⟨S2, .i32⟩
  | 67 => ⟨S2, .i32⟩
  | 68 => ⟨S_, .i32⟩
  | 69 => ⟨S2, .i32⟩
  | 70 => ⟨S2, .i32⟩
  | 71 => ⟨S2, .i32⟩
  | 72 => ⟨S2, .i32⟩
  | 73 => ⟨S2, .i32⟩
  | 74 => ⟨S_, .i32⟩
  | 75 => ⟨S2, .i32⟩
  | 76 => ⟨S2, .i32⟩
  | 77 => ⟨S_, .i32⟩
  | 78 => ⟨S2, .i32⟩
  | 79 => ⟨S2, .i32⟩
  | 80 => ⟨S2, .i32⟩
  | 81 => ⟨S2, .i32⟩
  | 82 => ⟨S2, .i32⟩
  | 83 => ⟨S_, .i32⟩
  | 84 => ⟨S2, .i32⟩
  | 85 => ⟨S2, .i32⟩
  | 86 => ⟨S_, .i32⟩
  | 87 => ⟨S2, .i32⟩
  | 88 => ⟨S2, .i32⟩
  | 89 => ⟨S2, .i32⟩
  | 90 => ⟨S2, .i32⟩
  | 91 => ⟨S2, .i32⟩
  | 92 => ⟨S2, .i32⟩
  | 93 => ⟨S2, .i32⟩
  | 94 => ⟨S2, .i32⟩
  | 95 => ⟨S_, .i32⟩
  | 96 => ⟨S2, .i32⟩
  | 97 => ⟨S2, .i32⟩
  | 98 => ⟨S2x1, .i32⟩
  | 99 => ⟨S2x1, .i32⟩
  | 100 => ⟨S2x2, .i32⟩
  | 101 => ⟨S1x2, .i32⟩
  | 102 => ⟨S2, .i32⟩
  | 103 => ⟨S1x2, .i32⟩
  | 104 => ⟨S2, .i32⟩
  | 105 => ⟨S1, .i32⟩
  | 106 => ⟨S_, .i32⟩
  | 107 => ⟨S1, .i32⟩
  | 108 => ⟨S_, .i32⟩
  | 109 => ⟨S2x8x384x32x32, .i64⟩
  | 110 => ⟨S2x8x384x32x32, .i64⟩
  | 111 => ⟨S2x8x384x32x32, .i64⟩
  | 112 => ⟨S2x8x384x32x32, .i64⟩
  | 113 => ⟨S2x8x384x32x32, .i64⟩
  | 114 => ⟨S_, .i64⟩
  | 115 => ⟨S2x8x384x32x32, .i64⟩
  | 116 => ⟨S2x8x384x32x32, .i64⟩
  | 117 => ⟨S_, .i64⟩
  | 118 => ⟨S2x8x384x32x32, .i64⟩
  | 119 => ⟨S2x8x384x32x32, .i64⟩
  | 120 => ⟨S_, .i64⟩
  | 121 => ⟨S2x8x384x32x32, .i64⟩
  | 122 => ⟨S2x8x384x32x32, .i64⟩
  | 123 => ⟨S_, .i64⟩
  | 124 => ⟨S2x8x384x32x32, .i64⟩
  | 125 => ⟨S2x8x384x32x32, .i64⟩
  | 126 => ⟨S_, .i64⟩
  | 127 => ⟨S2x8x384x32x32, .i64⟩
  | _ => ⟨S8x384x32x32, .f32⟩

abbrev hbmTy0_3 (i : Nat) : BufTy := match i % 128 with
  | 0 => ⟨S2x8x384x32x32, .i64⟩
  | 1 => ⟨S2x8x384x32x32, .i64⟩
  | 2 => ⟨S2x8x384x32x32, .i64⟩
  | 3 => ⟨S2x8x384x32x32, .i64⟩
  | 4 => ⟨S2x8x384x32x32, .i64⟩
  | 5 => ⟨S_, .i64⟩
  | 6 => ⟨S2x8x384x32x32, .i64⟩
  | 7 => ⟨S2x8x384x32x32, .i64⟩
  | 8 => ⟨S2x8x384x32x32, .i32⟩
  | 9 => ⟨S2x8x384x32x32, .i32⟩
  | 10 => ⟨S_, .i32⟩
  | 11 => ⟨S_, .i32⟩
  | 12 => ⟨S_, .i32⟩
  | 13 => ⟨S2x8x384x32x32, .i32⟩
  | 14 => ⟨S2x8x384x32x32, .i32⟩
  | 15 => ⟨S2x8x384x32x32, .i32⟩
  | 16 => ⟨S2x8x384x32x32, .i32⟩
  | 17 => ⟨S2x8x384x32x32, .i32⟩
  | 18 => ⟨S_, .i32⟩
  | 19 => ⟨S2x8x384x32x32, .i32⟩
  | 20 => ⟨S2x8x384x32x32, .i32⟩
  | 21 => ⟨S_, .i32⟩
  | 22 => ⟨S2x8x384x32x32, .i32⟩
  | 23 => ⟨S2x8x384x32x32, .i32⟩
  | 24 => ⟨S2x8x384x32x32, .i32⟩
  | 25 => ⟨S2x8x384x32x32, .i32⟩
  | 26 => ⟨S2x8x384x32x32, .i32⟩
  | 27 => ⟨S_, .i32⟩
  | 28 => ⟨S2x8x384x32x32, .i32⟩
  | 29 => ⟨S2x8x384x32x32, .i32⟩
  | 30 => ⟨S_, .i32⟩
  | 31 => ⟨S2x8x384x32x32, .i32⟩
  | 32 => ⟨S2x8x384x32x32, .i32⟩
  | 33 => ⟨S2x8x384x32x32, .i32⟩
  | 34 => ⟨S2x8x384x32x32, .i32⟩
  | 35 => ⟨S2x8x384x32x32, .i32⟩
  | 36 => ⟨S_, .i32⟩
  | 37 => ⟨S2x8x384x32x32, .i32⟩
  | 38 => ⟨S2x8x384x32x32, .i32⟩
  | 39 => ⟨S_, .i32⟩
  | 40 => ⟨S2x8x384x32x32, .i32⟩
  | 41 => ⟨S2x8x384x32x32, .i32⟩
  | 42 => ⟨S2x8x384x32x32, .i32⟩
  | 43 => ⟨S2x8x384x32x32, .i32⟩
  | 44 => ⟨S2x8x384x32x32, .i32⟩
  | 45 => ⟨S_, .i32⟩
  | 46 => ⟨S2x8x384x32x32, .i32⟩
  | 47 => ⟨S2x8x384x32x32, .i32⟩
  | 48 => ⟨S_, .i32⟩
  | 49 => ⟨S2x8x384x32x32, .i32⟩
  | 50 => ⟨S2x8x384x32x32, .i32⟩
  | 51 => ⟨S2x8x384x32x32, .i32⟩
  | 52 => ⟨S2x8x384x32x32, .i32⟩
  | 53 => ⟨S2x8x384x32x32, .i32⟩
  | 54 => ⟨S2x8x384x32x32, .i32⟩
  | 55 => ⟨S2x8x384x32x32, .i32⟩
  | 56 => ⟨S2x8x384x32x32, .i32⟩
  | 57 => ⟨S_, .i32⟩
  | 58 => ⟨S2x8x384x32x32, .i32⟩
  | 59 => ⟨S2x8x384x32x32, .i32⟩
  | 60 => ⟨S2x8x384x32x32, .i32⟩
  | 61 => ⟨S_, .i32⟩
  | 62 => ⟨S2x8x384x32x32, .i32⟩
  | 63 => ⟨S2x8x384x32x32, .i32⟩
  | 64 => ⟨S_, .i32⟩
  | 65 => ⟨S2x8x384x32x32, .i32⟩
  | 66 => ⟨S2x8x384x32x32, .i32⟩
  | 67 => ⟨S2x8x384x32x32, .i32⟩
  | 68 => ⟨S2x8x384x32x32, .i32⟩
  | 69 => ⟨S2x8x384x32x32, .i32⟩
  | 70 => ⟨S_, .i32⟩
  | 71 => ⟨S2x8x384x32x32, .i32⟩
  | 72 => ⟨S2x8x384x32x32, .i32⟩
  | 73 => ⟨S_, .i32⟩
  | 74 => ⟨S2x8x384x32x32, .i32⟩
  | 75 => ⟨S2x8x384x32x32, .i32⟩
  | 76 => ⟨S2x8x384x32x32, .i32⟩
  | 77 => ⟨S2x8x384x32x32, .i32⟩
  | 78 => ⟨S2x8x384x32x32, .i32⟩
  | 79 => ⟨S_, .i32⟩
  | 80 => ⟨S2x8x384x32x32, .i32⟩
  | 81 => ⟨S2x8x384x32x32, .i32⟩
  | 82 => ⟨S_, .i32⟩
  | 83 => ⟨S2x8x384x32x32, .i32⟩
  | 84 => ⟨S2x8x384x32x32, .i32⟩
  | 85 => ⟨S2x8x384x32x32, .i32⟩
  | 86 => ⟨S2x8x384x32x32, .i32⟩
  | 87 => ⟨S2x8x384x32x32, .i32⟩
  | 88 => ⟨S_, .i32⟩
  | 89 => ⟨S2x8x384x32x32, .i32⟩
  | 90 => ⟨S2x8x384x32x32, .i32⟩
  | 91 => ⟨S_, .i32⟩
  | 92 => ⟨S2x8x384x32x32, .i32⟩
  | 93 => ⟨S2x8x384x32x32, .i32⟩
  | 94 => ⟨S2x8x384x32x32, .i32⟩
  | 95 => ⟨S2x8x384x32x32, .i32⟩
  | 96 => ⟨S2x8x384x32x32, .i32⟩
  | 97 => ⟨S2x8x384x32x32, .i32⟩
  | 98 => ⟨S2x8x384x32x32, .i32⟩
  | 99 => ⟨S2x8x384x32x32, .i32⟩
  | 100 => ⟨S_, .i32⟩
  | 101 => ⟨S2x8x384x32x32, .i32⟩
  | 102 => ⟨S2x8x384x32x32, .i32⟩
  | 103 => ⟨S2x8x384x32x32, .i32⟩
  | 104 => ⟨S_, .i32⟩
  | 105 => ⟨S2x8x384x32x32, .i32⟩
  | 106 => ⟨S2x8x384x32x32, .i32⟩
  | 107 => ⟨S_, .i32⟩
  | 108 => ⟨S2x8x384x32x32, .i32⟩
  | 109 => ⟨S2x8x384x32x32, .i32⟩
  | 110 => ⟨S2x8x384x32x32, .i32⟩
  | 111 => ⟨S2x8x384x32x32, .i32⟩
  | 112 => ⟨S2x8x384x32x32, .i32⟩
  | 113 => ⟨S_, .i32⟩
  | 114 => ⟨S2x8x384x32x32, .i32⟩
  | 115 => ⟨S2x8x384x32x32, .i32⟩
  | 116 => ⟨S_, .i32⟩
  | 117 => ⟨S2x8x384x32x32, .i32⟩
  | 118 => ⟨S2x8x384x32x32, .i32⟩
  | 119 => ⟨S2x8x384x32x32, .i32⟩
  | 120 => ⟨S2x8x384x32x32, .i32⟩
  | 121 => ⟨S2x8x384x32x32, .i32⟩
  | 122 => ⟨S_, .i32⟩
  | 123 => ⟨S2x8x384x32x32, .i32⟩
  | 124 => ⟨S2x8x384x32x32, .i32⟩
  | 125 => ⟨S_, .i32⟩
  | 126 => ⟨S2x8x384x32x32, .i32⟩
  | 127 => ⟨S2x8x384x32x32, .i32⟩
  | _ => ⟨S8x384x32x32, .f32⟩

abbrev hbmTy0_4 (i : Nat) : BufTy := match i % 128 with
  | 0 => ⟨S2x8x384x32x32, .i32⟩
  | 1 => ⟨S2x8x384x32x32, .i32⟩
  | 2 => ⟨S2x8x384x32x32, .i32⟩
  | 3 => ⟨S_, .i32⟩
  | 4 => ⟨S2x8x384x32x32, .i32⟩
  | 5 => ⟨S2x8x384x32x32, .i32⟩
  | 6 => ⟨S_, .i32⟩
  | 7 => ⟨S2x8x384x32x32, .i32⟩
  | 8 => ⟨S2x8x384x32x32, .i32⟩
  | 9 => ⟨S2x8x384x32x32, .i32⟩
  | 10 => ⟨S2x8x384x32x32, .i32⟩
  | 11 => ⟨S2x8x384x32x32, .i32⟩
  | 12 => ⟨S2x8x384x32x32, .i32⟩
  | 13 => ⟨S2x8x384x32x32, .i32⟩
  | 14 => ⟨S2x8x384x32x32, .i32⟩
  | 15 => ⟨S_, .i32⟩
  | 16 => ⟨S2x8x384x32x32, .i32⟩
  | 17 => ⟨S2x8x384x32x32, .i32⟩
  | 18 => ⟨S2x8x384x32x32, .i32⟩
  | 19 => ⟨S_, .i32⟩
  | 20 => ⟨S2x8x384x32x32, .i32⟩
  | 21 => ⟨S2x8x384x32x32, .i32⟩
  | 22 => ⟨S_, .i32⟩
  | 23 => ⟨S2x8x384x32x32, .i32⟩
  | 24 => ⟨S2x8x384x32x32, .i32⟩
  | 25 => ⟨S2x8x384x32x32, .i32⟩
  | 26 => ⟨S2x8x384x32x32, .i32⟩
  | 27 => ⟨S2x8x384x32x32, .i32⟩
  | 28 => ⟨S_, .i32⟩
  | 29 => ⟨S2x8x384x32x32, .i32⟩
  | 30 => ⟨S2x8x384x32x32, .i32⟩
  | 31 => ⟨S_, .i32⟩
  | 32 => ⟨S2x8x384x32x32, .i32⟩
  | 33 => ⟨S2x8x384x32x32, .i32⟩
  | 34 => ⟨S2x8x384x32x32, .i32⟩
  | 35 => ⟨S2x8x384x32x32, .i32⟩
  | 36 => ⟨S2x8x384x32x32, .i32⟩
  | 37 => ⟨S_, .i32⟩
  | 38 => ⟨S2x8x384x32x32, .i32⟩
  | 39 => ⟨S2x8x384x32x32, .i32⟩
  | 40 => ⟨S_, .i32⟩
  | 41 => ⟨S2x8x384x32x32, .i32⟩
  | 42 => ⟨S2x8x384x32x32, .i32⟩
  | 43 => ⟨S2x8x384x32x32, .i32⟩
  | 44 => ⟨S2x8x384x32x32, .i32⟩
  | 45 => ⟨S2x8x384x32x32, .i32⟩
  | 46 => ⟨S_, .i32⟩
  | 47 => ⟨S2x8x384x32x32, .i32⟩
  | 48 => ⟨S2x8x384x32x32, .i32⟩
  | 49 => ⟨S_, .i32⟩
  | 50 => ⟨S2x8x384x32x32, .i32⟩
  | 51 => ⟨S2x8x384x32x32, .i32⟩
  | 52 => ⟨S2x8x384x32x32, .i32⟩
  | 53 => ⟨S2x8x384x32x32, .i32⟩
  | 54 => ⟨S2x8x384x32x32, .i32⟩
  | 55 => ⟨S2x8x384x32x32, .i32⟩
  | 56 => ⟨S2x8x384x32x32, .i32⟩
  | 57 => ⟨S2x8x384x32x32, .i32⟩
  | 58 => ⟨S_, .i32⟩
  | 59 => ⟨S2x8x384x32x32, .i32⟩
  | 60 => ⟨S2x8x384x32x32, .i32⟩
  | 61 => ⟨S2x8x384x32x32, .i32⟩
  | 62 => ⟨S_, .i32⟩
  | 63 => ⟨S2x8x384x32x32, .i32⟩
  | 64 => ⟨S2x8x384x32x32, .i32⟩
  | 65 => ⟨S_, .i32⟩
  | 66 => ⟨S2x8x384x32x32, .i32⟩
  | 67 => ⟨S2x8x384x32x32, .i32⟩
  | 68 => ⟨S2x8x384x32x32, .i32⟩
  | 69 => ⟨S2x8x384x32x32, .i32⟩
  | 70 => ⟨S2x8x384x32x32, .i32⟩
  | 71 => ⟨S_, .i32⟩
  | 72 => ⟨S2x8x384x32x32, .i32⟩
  | 73 => ⟨S2x8x384x32x32, .i32⟩
  | 74 => ⟨S_, .i32⟩
  | 75 => ⟨S2x8x384x32x32, .i32⟩
  | 76 => ⟨S2x8x384x32x32, .i32⟩
  | 77 => ⟨S2x8x384x32x32, .i32⟩
  | 78 => ⟨S2x8x384x32x32, .i32⟩
  | 79 => ⟨S2x8x384x32x32, .i32⟩
  | 80 => ⟨S_, .i32⟩
  | 81 => ⟨S2x8x384x32x32, .i32⟩
  | 82 => ⟨S2x8x384x32x32, .i32⟩
  | 83 => ⟨S_, .i32⟩
  | 84 => ⟨S2x8x384x32x32, .i32⟩
  | 85 => ⟨S2x8x384x32x32, .i32⟩
  | 86 => ⟨S2x8x384x32x32, .i32⟩
  | 87 => ⟨S2x8x384x32x32, .i32⟩
  | 88 => ⟨S2x8x384x32x32, .i32⟩
  | 89 => ⟨S_, .i32⟩
  | 90 => ⟨S2x8x384x32x32, .i32⟩
  | 91 => ⟨S2x8x384x32x32, .i32⟩
  | 92 => ⟨S_, .i32⟩
  | 93 => ⟨S2x8x384x32x32, .i32⟩
  | 94 => ⟨S2x8x384x32x32, .i32⟩
  | 95 => ⟨S2x8x384x32x32, .i32⟩
  | 96 => ⟨S2x8x384x32x32, .i32⟩
  | 97 => ⟨S2x8x384x32x32, .i32⟩
  | 98 => ⟨S2x8x384x32x32, .i32⟩
  | 99 => ⟨S2x8x384x32x32, .i32⟩
  | 100 => ⟨S2x8x384x32x32, .i32⟩
  | 101 => ⟨S_, .i32⟩
  | 102 => ⟨S2x8x384x32x32, .i32⟩
  | 103 => ⟨S2x8x384x32x32, .i32⟩
  | 104 => ⟨S2x8x384x32x32, .i32⟩
  | 105 => ⟨S1, .i32⟩
  | 106 => ⟨S_, .i32⟩
  | 107 => ⟨S1, .i32⟩
  | 108 => ⟨S_, .i32⟩
  | 109 => ⟨S2x8x384x32x32, .i64⟩
  | 110 => ⟨S2x8x384x32x32, .i64⟩
  | 111 => ⟨S2x8x384x32x32, .i64⟩
  | 112 => ⟨S2x8x384x32x32, .i64⟩
  | 113 => ⟨S2x8x384x32x32, .i64⟩
  | 114 => ⟨S_, .i64⟩
  | 115 => ⟨S2x8x384x32x32, .i64⟩
  | 116 => ⟨S2x8x384x32x32, .i64⟩
  | 117 => ⟨S_, .i64⟩
  | 118 => ⟨S2x8x384x32x32, .i64⟩
  | 119 => ⟨S2x8x384x32x32, .i64⟩
  | 120 => ⟨S_, .i64⟩
  | 121 => ⟨S2x8x384x32x32, .i64⟩
  | 122 => ⟨S2x8x384x32x32, .i64⟩
  | 123 => ⟨S_, .i64⟩
  | 124 => ⟨S2x8x384x32x32, .i64⟩
  | 125 => ⟨S2x8x384x32x32, .i64⟩
  | 126 => ⟨S_, .i64⟩
  | 127 => ⟨S2x8x384x32x32, .i64⟩
  | _ => ⟨S8x384x32x32, .f32⟩

abbrev hbmTy0_5 (i : Nat) : BufTy := match i % 128 with
  | 0 => ⟨S2x8x384x32x32, .i64⟩
  | 1 => ⟨S2x8x384x32x32, .i64⟩
  | 2 => ⟨S2x8x384x32x32, .i64⟩
  | 3 => ⟨S2x8x384x32x32, .i64⟩
  | 4 => ⟨S2x8x384x32x32, .i64⟩
  | 5 => ⟨S_, .i64⟩
  | 6 => ⟨S2x8x384x32x32, .i64⟩
  | 7 => ⟨S2x8x384x32x32, .i64⟩
  | 8 => ⟨S2x8x384x32x32, .i32⟩
  | 9 => ⟨S2x8x384x32x32, .i32⟩
  | 10 => ⟨S_, .i32⟩
  | 11 => ⟨S_, .i32⟩
  | 12 => ⟨S_, .i32⟩
  | 13 => ⟨S2x8x384x32x32, .i32⟩
  | 14 => ⟨S2x8x384x32x32, .i32⟩
  | 15 => ⟨S2x8x384x32x32, .i32⟩
  | 16 => ⟨S2x8x384x32x32, .i32⟩
  | 17 => ⟨S2x8x384x32x32, .i32⟩
  | 18 => ⟨S_, .i32⟩
  | 19 => ⟨S2x8x384x32x32, .i32⟩
  | 20 => ⟨S2x8x384x32x32, .i32⟩
  | 21 => ⟨S_, .i32⟩
  | 22 => ⟨S2x8x384x32x32, .i32⟩
  | 23 => ⟨S2x8x384x32x32, .i32⟩
  | 24 => ⟨S2x8x384x32x32, .i32⟩
  | 25 => ⟨S2x8x384x32x32, .i32⟩
  | 26 => ⟨S2x8x384x32x32, .i32⟩
  | 27 => ⟨S_, .i32⟩
  | 28 => ⟨S2x8x384x32x32, .i32⟩
  | 29 => ⟨S2x8x384x32x32, .i32⟩
  | 30 => ⟨S_, .i32⟩
  | 31 => ⟨S2x8x384x32x32, .i32⟩
  | 32 => ⟨S2x8x384x32x32, .i32⟩
  | 33 => ⟨S2x8x384x32x32, .i32⟩
  | 34 => ⟨S2x8x384x32x32, .i32⟩
  | 35 => ⟨S2x8x384x32x32, .i32⟩
  | 36 => ⟨S_, .i32⟩
  | 37 => ⟨S2x8x384x32x32, .i32⟩
  | 38 => ⟨S2x8x384x32x32, .i32⟩
  | 39 => ⟨S_, .i32⟩
  | 40 => ⟨S2x8x384x32x32, .i32⟩
  | 41 => ⟨S2x8x384x32x32, .i32⟩
  | 42 => ⟨S2x8x384x32x32, .i32⟩
  | 43 => ⟨S2x8x384x32x32, .i32⟩
  | 44 => ⟨S2x8x384x32x32, .i32⟩
  | 45 => ⟨S_, .i32⟩
  | 46 => ⟨S2x8x384x32x32, .i32⟩
  | 47 => ⟨S2x8x384x32x32, .i32⟩
  | 48 => ⟨S_, .i32⟩
  | 49 => ⟨S2x8x384x32x32, .i32⟩
  | 50 => ⟨S2x8x384x32x32, .i32⟩
  | 51 => ⟨S2x8x384x32x32, .i32⟩
  | 52 => ⟨S2x8x384x32x32, .i32⟩
  | 53 => ⟨S2x8x384x32x32, .i32⟩
  | 54 => ⟨S2x8x384x32x32, .i32⟩
  | 55 => ⟨S2x8x384x32x32, .i32⟩
  | 56 => ⟨S2x8x384x32x32, .i32⟩
  | 57 => ⟨S_, .i32⟩
  | 58 => ⟨S2x8x384x32x32, .i32⟩
  | 59 => ⟨S2x8x384x32x32, .i32⟩
  | 60 => ⟨S2x8x384x32x32, .i32⟩
  | 61 => ⟨S_, .i32⟩
  | 62 => ⟨S2x8x384x32x32, .i32⟩
  | 63 => ⟨S2x8x384x32x32, .i32⟩
  | 64 => ⟨S_, .i32⟩
  | 65 => ⟨S2x8x384x32x32, .i32⟩
  | 66 => ⟨S2x8x384x32x32, .i32⟩
  | 67 => ⟨S2x8x384x32x32, .i32⟩
  | 68 => ⟨S2x8x384x32x32, .i32⟩
  | 69 => ⟨S2x8x384x32x32, .i32⟩
  | 70 => ⟨S_, .i32⟩
  | 71 => ⟨S2x8x384x32x32, .i32⟩
  | 72 => ⟨S2x8x384x32x32, .i32⟩
  | 73 => ⟨S_, .i32⟩
  | 74 => ⟨S2x8x384x32x32, .i32⟩
  | 75 => ⟨S2x8x384x32x32, .i32⟩
  | 76 => ⟨S2x8x384x32x32, .i32⟩
  | 77 => ⟨S2x8x384x32x32, .i32⟩
  | 78 => ⟨S2x8x384x32x32, .i32⟩
  | 79 => ⟨S_, .i32⟩
  | 80 => ⟨S2x8x384x32x32, .i32⟩
  | 81 => ⟨S2x8x384x32x32, .i32⟩
  | 82 => ⟨S_, .i32⟩
  | 83 => ⟨S2x8x384x32x32, .i32⟩
  | 84 => ⟨S2x8x384x32x32, .i32⟩
  | 85 => ⟨S2x8x384x32x32, .i32⟩
  | 86 => ⟨S2x8x384x32x32, .i32⟩
  | 87 => ⟨S2x8x384x32x32, .i32⟩
  | 88 => ⟨S_, .i32⟩
  | 89 => ⟨S2x8x384x32x32, .i32⟩
  | 90 => ⟨S2x8x384x32x32, .i32⟩
  | 91 => ⟨S_, .i32⟩
  | 92 => ⟨S2x8x384x32x32, .i32⟩
  | 93 => ⟨S2x8x384x32x32, .i32⟩
  | 94 => ⟨S2x8x384x32x32, .i32⟩
  | 95 => ⟨S2x8x384x32x32, .i32⟩
  | 96 => ⟨S2x8x384x32x32, .i32⟩
  | 97 => ⟨S2x8x384x32x32, .i32⟩
  | 98 => ⟨S2x8x384x32x32, .i32⟩
  | 99 => ⟨S2x8x384x32x32, .i32⟩
  | 100 => ⟨S_, .i32⟩
  | 101 => ⟨S2x8x384x32x32, .i32⟩
  | 102 => ⟨S2x8x384x32x32, .i32⟩
  | 103 => ⟨S2x8x384x32x32, .i32⟩
  | 104 => ⟨S_, .i32⟩
  | 105 => ⟨S2x8x384x32x32, .i32⟩
  | 106 => ⟨S2x8x384x32x32, .i32⟩
  | 107 => ⟨S_, .i32⟩
  | 108 => ⟨S2x8x384x32x32, .i32⟩
  | 109 => ⟨S2x8x384x32x32, .i32⟩
  | 110 => ⟨S2x8x384x32x32, .i32⟩
  | 111 => ⟨S2x8x384x32x32, .i32⟩
  | 112 => ⟨S2x8x384x32x32, .i32⟩
  | 113 => ⟨S_, .i32⟩
  | 114 => ⟨S2x8x384x32x32, .i32⟩
  | 115 => ⟨S2x8x384x32x32, .i32⟩
  | 116 => ⟨S_, .i32⟩
  | 117 => ⟨S2x8x384x32x32, .i32⟩
  | 118 => ⟨S2x8x384x32x32, .i32⟩
  | 119 => ⟨S2x8x384x32x32, .i32⟩
  | 120 => ⟨S2x8x384x32x32, .i32⟩
  | 121 => ⟨S2x8x384x32x32, .i32⟩
  | 122 => ⟨S_, .i32⟩
  | 123 => ⟨S2x8x384x32x32, .i32⟩
  | 124 => ⟨S2x8x384x32x32, .i32⟩
  | 125 => ⟨S_, .i32⟩
  | 126 => ⟨S2x8x384x32x32, .i32⟩
  | 127 => ⟨S2x8x384x32x32, .i32⟩
  | _ => ⟨S8x384x32x32, .f32⟩

abbrev hbmTy0_6 (i : Nat) : BufTy := match i % 128 with
  | 0 => ⟨S2x8x384x32x32, .i32⟩
  | 1 => ⟨S2x8x384x32x32, .i32⟩
  | 2 => ⟨S2x8x384x32x32, .i32⟩
  | 3 => ⟨S_, .i32⟩
  | 4 => ⟨S2x8x384x32x32, .i32⟩
  | 5 => ⟨S2x8x384x32x32, .i32⟩
  | 6 => ⟨S_, .i32⟩
  | 7 => ⟨S2x8x384x32x32, .i32⟩
  | 8 => ⟨S2x8x384x32x32, .i32⟩
  | 9 => ⟨S2x8x384x32x32, .i32⟩
  | 10 => ⟨S2x8x384x32x32, .i32⟩
  | 11 => ⟨S2x8x384x32x32, .i32⟩
  | 12 => ⟨S2x8x384x32x32, .i32⟩
  | 13 => ⟨S2x8x384x32x32, .i32⟩
  | 14 => ⟨S2x8x384x32x32, .i32⟩
  | 15 => ⟨S_, .i32⟩
  | 16 => ⟨S2x8x384x32x32, .i32⟩
  | 17 => ⟨S2x8x384x32x32, .i32⟩
  | 18 => ⟨S2x8x384x32x32, .i32⟩
  | 19 => ⟨S_, .i32⟩
  | 20 => ⟨S2x8x384x32x32, .i32⟩
  | 21 => ⟨S2x8x384x32x32, .i32⟩
  | 22 => ⟨S_, .i32⟩
  | 23 => ⟨S2x8x384x32x32, .i32⟩
  | 24 => ⟨S2x8x384x32x32, .i32⟩
  | 25 => ⟨S2x8x384x32x32, .i32⟩
  | 26 => ⟨S2x8x384x32x32, .i32⟩
  | 27 => ⟨S2x8x384x32x32, .i32⟩
  | 28 => ⟨S_, .i32⟩
  | 29 => ⟨S2x8x384x32x32, .i32⟩
  | 30 => ⟨S2x8x384x32x32, .i32⟩
  | 31 => ⟨S_, .i32⟩
  | 32 => ⟨S2x8x384x32x32, .i32⟩
  | 33 => ⟨S2x8x384x32x32, .i32⟩
  | 34 => ⟨S2x8x384x32x32, .i32⟩
  | 35 => ⟨S2x8x384x32x32, .i32⟩
  | 36 => ⟨S2x8x384x32x32, .i32⟩
  | 37 => ⟨S_, .i32⟩
  | 38 => ⟨S2x8x384x32x32, .i32⟩
  | 39 => ⟨S2x8x384x32x32, .i32⟩
  | 40 => ⟨S_, .i32⟩
  | 41 => ⟨S2x8x384x32x32, .i32⟩
  | 42 => ⟨S2x8x384x32x32, .i32⟩
  | 43 => ⟨S2x8x384x32x32, .i32⟩
  | 44 => ⟨S2x8x384x32x32, .i32⟩
  | 45 => ⟨S2x8x384x32x32, .i32⟩
  | 46 => ⟨S_, .i32⟩
  | 47 => ⟨S2x8x384x32x32, .i32⟩
  | 48 => ⟨S2x8x384x32x32, .i32⟩
  | 49 => ⟨S_, .i32⟩
  | 50 => ⟨S2x8x384x32x32, .i32⟩
  | 51 => ⟨S2x8x384x32x32, .i32⟩
  | 52 => ⟨S2x8x384x32x32, .i32⟩
  | 53 => ⟨S2x8x384x32x32, .i32⟩
  | 54 => ⟨S2x8x384x32x32, .i32⟩
  | 55 => ⟨S2x8x384x32x32, .i32⟩
  | 56 => ⟨S2x8x384x32x32, .i32⟩
  | 57 => ⟨S2x8x384x32x32, .i32⟩
  | 58 => ⟨S_, .i32⟩
  | 59 => ⟨S2x8x384x32x32, .i32⟩
  | 60 => ⟨S2x8x384x32x32, .i32⟩
  | 61 => ⟨S2x8x384x32x32, .i32⟩
  | 62 => ⟨S_, .i32⟩
  | 63 => ⟨S2x8x384x32x32, .i32⟩
  | 64 => ⟨S2x8x384x32x32, .i32⟩
  | 65 => ⟨S_, .i32⟩
  | 66 => ⟨S2x8x384x32x32, .i32⟩
  | 67 => ⟨S2x8x384x32x32, .i32⟩
  | 68 => ⟨S2x8x384x32x32, .i32⟩
  | 69 => ⟨S2x8x384x32x32, .i32⟩
  | 70 => ⟨S2x8x384x32x32, .i32⟩
  | 71 => ⟨S_, .i32⟩
  | 72 => ⟨S2x8x384x32x32, .i32⟩
  | 73 => ⟨S2x8x384x32x32, .i32⟩
  | 74 => ⟨S_, .i32⟩
  | 75 => ⟨S2x8x384x32x32, .i32⟩
  | 76 => ⟨S2x8x384x32x32, .i32⟩
  | 77 => ⟨S2x8x384x32x32, .i32⟩
  | 78 => ⟨S2x8x384x32x32, .i32⟩
  | 79 => ⟨S2x8x384x32x32, .i32⟩
  | 80 => ⟨S_, .i32⟩
  | 81 => ⟨S2x8x384x32x32, .i32⟩
  | 82 => ⟨S2x8x384x32x32, .i32⟩
  | 83 => ⟨S_, .i32⟩
  | 84 => ⟨S2x8x384x32x32, .i32⟩
  | 85 => ⟨S2x8x384x32x32, .i32⟩
  | 86 => ⟨S2x8x384x32x32, .i32⟩
  | 87 => ⟨S2x8x384x32x32, .i32⟩
  | 88 => ⟨S2x8x384x32x32, .i32⟩
  | 89 => ⟨S_, .i32⟩
  | 90 => ⟨S2x8x384x32x32, .i32⟩
  | 91 => ⟨S2x8x384x32x32, .i32⟩
  | 92 => ⟨S_, .i32⟩
  | 93 => ⟨S2x8x384x32x32, .i32⟩
  | 94 => ⟨S2x8x384x32x32, .i32⟩
  | 95 => ⟨S2x8x384x32x32, .i32⟩
  | 96 => ⟨S2x8x384x32x32, .i32⟩
  | 97 => ⟨S2x8x384x32x32, .i32⟩
  | 98 => ⟨S2x8x384x32x32, .i32⟩
  | 99 => ⟨S2x8x384x32x32, .i32⟩
  | 100 => ⟨S2x8x384x32x32, .i32⟩
  | 101 => ⟨S_, .i32⟩
  | 102 => ⟨S2x8x384x32x32, .i32⟩
  | 103 => ⟨S2x8x384x32x32, .i32⟩
  | 104 => ⟨S2x8x384x32x32, .i32⟩
  | 105 => ⟨S1x1x1x1x1, .i32⟩
  | 106 => ⟨S1x1x1x1x1, .i32⟩
  | 107 => ⟨S1x1x1x1x1, .i1⟩
  | 108 => ⟨S_, .i32⟩
  | 109 => ⟨S1x1x1x1x1, .i32⟩
  | 110 => ⟨S1x1x1x1x1, .i32⟩
  | 111 => ⟨S1x1x1x1x1, .i1⟩
  | 112 => ⟨S1x1x1x1x1, .i1⟩
  | 113 => ⟨S1x1x1x1x1, .i1⟩
  | 114 => ⟨S_, .i32⟩
  | 115 => ⟨S1x1x1x1x1, .i32⟩
  | 116 => ⟨S1x1x1x1x1, .i32⟩
  | 117 => ⟨S1x1x1x1x1, .i32⟩
  | 118 => ⟨S_, .i32⟩
  | 119 => ⟨S1x1x1x1x1, .i32⟩
  | 120 => ⟨S1x1x1x1x1, .i32⟩
  | 121 => ⟨S1x1x1x1x1, .i32⟩
  | 122 => ⟨S1x1x1x1x1, .i32⟩
  | 123 => ⟨S2x8x384x32x32, .i32⟩
  | 124 => ⟨S2x8x384x32x32, .i32⟩
  | 125 => ⟨S2x8x384x32x32, .i32⟩
  | 126 => ⟨S2x8x384x32x32, .i32⟩
  | 127 => ⟨S2x8x384x32x32, .i32⟩
  | _ => ⟨S8x384x32x32, .f32⟩

abbrev hbmTy0_7 (i : Nat) : BufTy := match i % 128 with
  | 0 => ⟨S2x8x384x32x32, .i32⟩
  | 1 => ⟨S2x8x384x32x32, .i32⟩
  | 2 => ⟨S2x8x384x32x32, .i32⟩
  | 3 => ⟨S2x8x384x32x32, .i32⟩
  | 4 => ⟨S2x8x384x32x32, .i32⟩
  | 5 => ⟨S2x8x384x32x32, .i32⟩
  | 6 => ⟨S2x8x384x32x32, .i32⟩
  | 7 => ⟨S2x8x384x32x32, .f32⟩
  | 8 => ⟨S_, .f32⟩
  | 9 => ⟨S2x8x384x32x32, .f32⟩
  | 10 => ⟨S2x8x384x32x32, .f32⟩
  | 11 => ⟨S_, .f32⟩
  | 12 => ⟨S2x8x384x32x32, .f32⟩
  | 13 => ⟨S2x8x384x32x32, .f32⟩
  | 14 => ⟨S_, .f32⟩
  | 15 => ⟨S2x8x384x32x32, .f32⟩
  | 16 => ⟨S2x8x384x32x32, .f32⟩
  | 17 => ⟨S1x8x384x32x32, .f32⟩
  | 18 => ⟨S8x384x32x32, .f32⟩
  | 19 => ⟨S8x384x32x32, .f32⟩
  | 20 => ⟨S64x8x32x32, .f32⟩
  | 21 => ⟨S8x64x32x32, .f32⟩
  | 22 => ⟨S1x64x1x1, .f32⟩
  | 23 => ⟨S8x64x32x32, .f32⟩
  | 24 => ⟨S8x64x32x32, .f32⟩
  | 25 => ⟨S_, .f32⟩
  | 26 => ⟨S8x64x32x32, .f32⟩
  | 27 => ⟨S8x64x32x32, .f32⟩
  | 28 => ⟨S8x64x32x32, .f32⟩
  | 29 => ⟨S8x384x32x32, .f32⟩
  | 30 => ⟨S64x8x32x32, .f32⟩
  | 31 => ⟨S8x64x32x32, .f32⟩
  | 32 => ⟨S1x64x1x1, .f32⟩
  | 33 => ⟨S8x64x32x32, .f32⟩
  | 34 => ⟨S8x64x32x32, .f32⟩
  | 35 => ⟨S8x64x32x32, .f32⟩
  | 36 => ⟨S_, .f32⟩
  | 37 => ⟨S8x64x32x32, .f32⟩
  | 38 => ⟨S8x64x32x32, .f32⟩
  | 39 => ⟨S1x8x384x32x32, .f32⟩
  | 40 => ⟨S8x384x32x32, .f32⟩
  | 41 => ⟨S8x384x32x32, .f32⟩
  | 42 => ⟨S64x8x32x32, .f32⟩
  | 43 => ⟨S8x64x32x32, .f32⟩
  | 44 => ⟨S1x64x1x1, .f32⟩
  | 45 => ⟨S8x64x32x32, .f32⟩
  | 46 => ⟨S8x64x32x32, .f32⟩
  | 47 => ⟨S_, .f32⟩
  | 48 => ⟨S8x64x32x32, .f32⟩
  | 49 => ⟨S8x64x32x32, .f32⟩
  | 50 => ⟨S8x64x32x32, .f32⟩
  | 51 => ⟨S8x384x32x32, .f32⟩
  | 52 => ⟨S64x8x32x32, .f32⟩
  | 53 => ⟨S8x64x32x32, .f32⟩
  | 54 => ⟨S1x64x1x1, .f32⟩
  | 55 => ⟨S8x64x32x32, .f32⟩
  | 56 => ⟨S8x64x32x32, .f32⟩
  | 57 => ⟨S8x64x32x32, .f32⟩
  | 58 => ⟨S_, .f32⟩
  | 59 => ⟨S8x64x32x32, .f32⟩
  | 60 => ⟨S8x64x32x32, .f32⟩
  | 61 => ⟨S1x8x64x32x32, .f32⟩
  | 62 => ⟨S1x8x64x32x32, .f32⟩
  | 63 => ⟨S2x8x64x32x32, .f32⟩
  | 64 => ⟨S_, .i32⟩
  | 65 => ⟨S_, .f32⟩
  | 66 => ⟨S8x64x32x32, .f32⟩
  | 67 => ⟨S1x8x64x32x32, .f32⟩
  | 68 => ⟨S_, .f32⟩
  | 69 => ⟨S1x8x64x32x32, .f32⟩
  | 70 => ⟨S1x8x64x32x32, .f32⟩
  | 71 => ⟨S2x8x64x32x32, .f32⟩
  | 72 => ⟨S2x8x64x32x32, .f32⟩
  | 73 => ⟨S2x8x64x32x32, .f32⟩
  | 74 => ⟨S_, .f32⟩
  | 75 => ⟨S_, .f32⟩
  | 76 => ⟨S_, .f32⟩
  | 77 => ⟨S_, .f32⟩
  | 78 => ⟨S8x64x32x32, .f32⟩
  | 79 => ⟨S8x64x32x32, .f32⟩
  | 80 => ⟨S8x64x32x32, .f32⟩
  | 81 => ⟨S_, .f32⟩
  | 82 => ⟨S_, .i1⟩
  | 83 => ⟨S_, .f32⟩
  | 84 => ⟨S_, .f32⟩
  | 85 => ⟨S8x64x32x32, .f32⟩
  | 86 => ⟨S8x64x32x32, .f32⟩
  | 87 => ⟨S_, .f32⟩
  | 88 => ⟨S_, .f32⟩
  | 89 => ⟨S_, .f32⟩
  | 90 => ⟨S8x64x32x32, .f32⟩
  | 91 => ⟨S8x64x32x32, .f32⟩
  | 92 => ⟨S_, .f32⟩
  | 93 => ⟨S65536, .f32⟩
  | 94 => ⟨S_, .i32⟩
  | 95 => ⟨S8192, .i32⟩
  | 96 => ⟨S8192, .i1⟩
  | 97 => ⟨S_, .i32⟩
  | 98 => ⟨S8192, .i32⟩
  | 99 => ⟨S8192, .i32⟩
  | 100 => ⟨S8192, .i32⟩
  | 101 => ⟨S8192x1, .i32⟩
  | 102 => ⟨S_, .f32⟩
  | 103 => ⟨S8192, .f32⟩
  | 104 => ⟨S65536, .f32⟩
  | 105 => ⟨S8x8192, .f32⟩
  | 106 => ⟨S8x1024, .i32⟩
  | _ => ⟨S8x384x32x32, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S8x384x32x32, .f32⟩

abbrev bufTy : (tb : Table) → Fin (tcTables nBuf tb) → BufTy
  | .hbm, ⟨i, _⟩ => hbmTy i
  | _, _ => ⟨S8x384x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_v0 : Ref sig .tc := ⟨.hbm, 12, rfl⟩
abbrev main_call0_cst : Ref sig .tc := ⟨.hbm, 13, rfl⟩
abbrev main_call0_v1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_call1_v0 : Ref sig .tc := ⟨.hbm, 44, rfl⟩
abbrev main_call1_cst : Ref sig .tc := ⟨.hbm, 45, rfl⟩
abbrev main_call1_c : Ref sig .tc := ⟨.hbm, 46, rfl⟩
abbrev main_call1_v1_0 : Ref sig .tc := ⟨.hbm, 47, rfl⟩
abbrev main_v32 : Ref sig .tc := ⟨.hbm, 48, rfl⟩
abbrev main_call2_c : Ref sig .tc := ⟨.hbm, 49, rfl⟩
abbrev main_call2_v0 : Ref sig .tc := ⟨.hbm, 50, rfl⟩
abbrev main_call2_v1 : Ref sig .tc := ⟨.hbm, 51, rfl⟩
abbrev main_call2_c_0 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_call2_v5 : Ref sig .tc := ⟨.hbm, 56, rfl⟩
abbrev main_call2_c_1 : Ref sig .tc := ⟨.hbm, 57, rfl⟩
abbrev main_call2_c_2 : Ref sig .tc := ⟨.hbm, 58, rfl⟩
abbrev main_call2_v6 : Ref sig .tc := ⟨.hbm, 59, rfl⟩
abbrev main_call2_v7 : Ref sig .tc := ⟨.hbm, 60, rfl⟩
abbrev main_call2_v8 : Ref sig .tc := ⟨.hbm, 61, rfl⟩
abbrev main_call2_v9 : Ref sig .tc := ⟨.hbm, 62, rfl⟩
abbrev main_call2_v10 : Ref sig .tc := ⟨.hbm, 63, rfl⟩
abbrev main_call2_v11 : Ref sig .tc := ⟨.hbm, 64, rfl⟩
abbrev main_call2_c_3 : Ref sig .tc := ⟨.hbm, 65, rfl⟩
abbrev main_call2_v12 : Ref sig .tc := ⟨.hbm, 66, rfl⟩
abbrev main_call2_v13 : Ref sig .tc := ⟨.hbm, 67, rfl⟩
abbrev main_call2_v14 : Ref sig .tc := ⟨.hbm, 68, rfl⟩
abbrev main_call2_cst : Ref sig .tc := ⟨.hbm, 69, rfl⟩
abbrev main_call2_v15 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_cst_4 : Ref sig .tc := ⟨.hbm, 75, rfl⟩
abbrev main_v37 : Ref sig .tc := ⟨.hbm, 76, rfl⟩
abbrev main_cst_5 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_cst_6 : Ref sig .tc := ⟨.hbm, 81, rfl⟩
abbrev main_v41 : Ref sig .tc := ⟨.hbm, 82, rfl⟩
abbrev main_cst_7 : Ref sig .tc := ⟨.hbm, 83, rfl⟩
abbrev main_v42 : Ref sig .tc := ⟨.hbm, 84, rfl⟩
abbrev main_cst_8 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_c : Ref sig .tc := ⟨.hbm, 89, rfl⟩
abbrev main_c_9 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_c_10 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_c_11 : Ref sig .tc := ⟨.hbm, 99, rfl⟩
abbrev main_c_12 : Ref sig .tc := ⟨.hbm, 100, rfl⟩
abbrev main_call3_c : Ref sig .tc := ⟨.hbm, 101, rfl⟩
abbrev main_call3_c_0 : Ref sig .tc := ⟨.hbm, 102, rfl⟩
abbrev main_call3_c_1 : Ref sig .tc := ⟨.hbm, 103, rfl⟩
abbrev main_call3_call0_v0 : Ref sig .tc := ⟨.hbm, 104, rfl⟩
abbrev main_call3_v0 : Ref sig .tc := ⟨.hbm, 105, rfl⟩
abbrev main_call3_v1 : Ref sig .tc := ⟨.hbm, 106, rfl⟩
abbrev main_call3_c_2 : Ref sig .tc := ⟨.hbm, 107, rfl⟩
abbrev main_call3_c_3 : Ref sig .tc := ⟨.hbm, 108, rfl⟩
abbrev main_call3_call1_v0 : Ref sig .tc := ⟨.hbm, 109, rfl⟩
abbrev main_call3_v2 : Ref sig .tc := ⟨.hbm, 110, rfl⟩
abbrev main_call3_v3 : Ref sig .tc := ⟨.hbm, 111, rfl⟩
abbrev main_call3_c_4 : Ref sig .tc := ⟨.hbm, 112, rfl⟩
abbrev main_call3_c_5 : Ref sig .tc := ⟨.hbm, 113, rfl⟩
abbrev main_call3_call2_v0 : Ref sig .tc := ⟨.hbm, 114, rfl⟩
abbrev main_call3_v4 : Ref sig .tc := ⟨.hbm, 115, rfl⟩
abbrev main_call3_v5 : Ref sig .tc := ⟨.hbm, 116, rfl⟩
abbrev main_call3_v6 : Ref sig .tc := ⟨.hbm, 117, rfl⟩
abbrev main_call3_v7 : Ref sig .tc := ⟨.hbm, 118, rfl⟩
abbrev main_call3_call3_v0 : Ref sig .tc := ⟨.hbm, 119, rfl⟩
abbrev main_call3_call3_v1 : Ref sig .tc := ⟨.hbm, 120, rfl⟩
abbrev main_call3_call3_v2 : Ref sig .tc := ⟨.hbm, 121, rfl⟩
abbrev main_call3_call3_v3 : Ref sig .tc := ⟨.hbm, 122, rfl⟩
abbrev main_call3_call3_v4 : Ref sig .tc := ⟨.hbm, 123, rfl⟩
abbrev main_call3_call3_c : Ref sig .tc := ⟨.hbm, 124, rfl⟩
abbrev main_call3_call3_v5 : Ref sig .tc := ⟨.hbm, 125, rfl⟩
abbrev main_call3_call3_v6 : Ref sig .tc := ⟨.hbm, 126, rfl⟩
abbrev main_call3_call3_c_0 : Ref sig .tc := ⟨.hbm, 127, rfl⟩
abbrev main_call3_call3_v7 : Ref sig .tc := ⟨.hbm, 128, rfl⟩
abbrev main_call3_call3_v8 : Ref sig .tc := ⟨.hbm, 129, rfl⟩
abbrev main_call3_call3_v9 : Ref sig .tc := ⟨.hbm, 130, rfl⟩
abbrev main_call3_call3_v10 : Ref sig .tc := ⟨.hbm, 131, rfl⟩
abbrev main_call3_call3_call0_v0 : Ref sig .tc := ⟨.hbm, 132, rfl⟩
abbrev main_call3_call3_call0_c : Ref sig .tc := ⟨.hbm, 133, rfl⟩
abbrev main_call3_call3_call0_v1 : Ref sig .tc := ⟨.hbm, 134, rfl⟩
abbrev main_call3_call3_call0_v2 : Ref sig .tc := ⟨.hbm, 135, rfl⟩
abbrev main_call3_call3_call0_v3 : Ref sig .tc := ⟨.hbm, 136, rfl⟩
abbrev main_call3_call3_call0_v4 : Ref sig .tc := ⟨.hbm, 137, rfl⟩
abbrev main_call3_call3_call0_v5 : Ref sig .tc := ⟨.hbm, 138, rfl⟩
abbrev main_call3_call3_call0_v6 : Ref sig .tc := ⟨.hbm, 139, rfl⟩
abbrev main_call3_call3_call0_c_0 : Ref sig .tc := ⟨.hbm, 140, rfl⟩
abbrev main_call3_call3_call0_v7 : Ref sig .tc := ⟨.hbm, 141, rfl⟩
abbrev main_call3_call3_call0_v8 : Ref sig .tc := ⟨.hbm, 142, rfl⟩
abbrev main_call3_call3_call0_c_1 : Ref sig .tc := ⟨.hbm, 143, rfl⟩
abbrev main_call3_call3_call0_v9 : Ref sig .tc := ⟨.hbm, 144, rfl⟩
abbrev main_call3_call3_call0_v10 : Ref sig .tc := ⟨.hbm, 145, rfl⟩
abbrev main_call3_call3_call0_v11 : Ref sig .tc := ⟨.hbm, 146, rfl⟩
abbrev main_call3_call3_call0_v12 : Ref sig .tc := ⟨.hbm, 147, rfl⟩
abbrev main_call3_call3_call0_v13 : Ref sig .tc := ⟨.hbm, 148, rfl⟩
abbrev main_call3_call3_call0_c_2 : Ref sig .tc := ⟨.hbm, 149, rfl⟩
abbrev main_call3_call3_call0_v14 : Ref sig .tc := ⟨.hbm, 150, rfl⟩
abbrev main_call3_call3_call0_v15 : Ref sig .tc := ⟨.hbm, 151, rfl⟩
abbrev main_call3_call3_call0_c_3 : Ref sig .tc := ⟨.hbm, 152, rfl⟩
abbrev main_call3_call3_call0_v16 : Ref sig .tc := ⟨.hbm, 153, rfl⟩
abbrev main_call3_call3_call0_v17 : Ref sig .tc := ⟨.hbm, 154, rfl⟩
abbrev main_call3_call3_call0_v18 : Ref sig .tc := ⟨.hbm, 155, rfl⟩
abbrev main_call3_call3_call0_v19 : Ref sig .tc := ⟨.hbm, 156, rfl⟩
abbrev main_call3_call3_call0_v20 : Ref sig .tc := ⟨.hbm, 157, rfl⟩
abbrev main_call3_call3_call0_c_4 : Ref sig .tc := ⟨.hbm, 158, rfl⟩
abbrev main_call3_call3_call0_v21 : Ref sig .tc := ⟨.hbm, 159, rfl⟩
abbrev main_call3_call3_call0_v22 : Ref sig .tc := ⟨.hbm, 160, rfl⟩
abbrev main_call3_call3_call0_c_5 : Ref sig .tc := ⟨.hbm, 161, rfl⟩
abbrev main_call3_call3_call0_v23 : Ref sig .tc := ⟨.hbm, 162, rfl⟩
abbrev main_call3_call3_call0_v24 : Ref sig .tc := ⟨.hbm, 163, rfl⟩
abbrev main_call3_call3_call0_v25 : Ref sig .tc := ⟨.hbm, 164, rfl⟩
abbrev main_call3_call3_call0_v26 : Ref sig .tc := ⟨.hbm, 165, rfl⟩
abbrev main_call3_call3_call0_v27 : Ref sig .tc := ⟨.hbm, 166, rfl⟩
abbrev main_call3_call3_call0_c_6 : Ref sig .tc := ⟨.hbm, 167, rfl⟩
abbrev main_call3_call3_call0_v28 : Ref sig .tc := ⟨.hbm, 168, rfl⟩
abbrev main_call3_call3_call0_v29 : Ref sig .tc := ⟨.hbm, 169, rfl⟩
abbrev main_call3_call3_call0_c_7 : Ref sig .tc := ⟨.hbm, 170, rfl⟩
abbrev main_call3_call3_call0_v30 : Ref sig .tc := ⟨.hbm, 171, rfl⟩
abbrev main_call3_call3_call0_v31 : Ref sig .tc := ⟨.hbm, 172, rfl⟩
abbrev main_call3_call3_call0_v32 : Ref sig .tc := ⟨.hbm, 173, rfl⟩
abbrev main_call3_call3_call0_v33 : Ref sig .tc := ⟨.hbm, 174, rfl⟩
abbrev main_call3_call3_call0_v34 : Ref sig .tc := ⟨.hbm, 175, rfl⟩
abbrev main_call3_call3_call0_v35 : Ref sig .tc := ⟨.hbm, 176, rfl⟩
abbrev main_call3_call3_call0_v36 : Ref sig .tc := ⟨.hbm, 177, rfl⟩
abbrev main_call3_call3_call0_v37 : Ref sig .tc := ⟨.hbm, 178, rfl⟩
abbrev main_call3_call3_call0_c_8 : Ref sig .tc := ⟨.hbm, 179, rfl⟩
abbrev main_call3_call3_call0_v38 : Ref sig .tc := ⟨.hbm, 180, rfl⟩
abbrev main_call3_call3_call0_v39 : Ref sig .tc := ⟨.hbm, 181, rfl⟩
abbrev main_call3_call3_call0_v40 : Ref sig .tc := ⟨.hbm, 182, rfl⟩
abbrev main_call3_call3_call0_c_9 : Ref sig .tc := ⟨.hbm, 183, rfl⟩
abbrev main_call3_call3_call0_v41 : Ref sig .tc := ⟨.hbm, 184, rfl⟩
abbrev main_call3_call3_call0_v42 : Ref sig .tc := ⟨.hbm, 185, rfl⟩
abbrev main_call3_call3_call0_c_10 : Ref sig .tc := ⟨.hbm, 186, rfl⟩
abbrev main_call3_call3_call0_v43 : Ref sig .tc := ⟨.hbm, 187, rfl⟩
abbrev main_call3_call3_call0_v44 : Ref sig .tc := ⟨.hbm, 188, rfl⟩
abbrev main_call3_call3_call0_v45 : Ref sig .tc := ⟨.hbm, 189, rfl⟩
abbrev main_call3_call3_call0_v46 : Ref sig .tc := ⟨.hbm, 190, rfl⟩
abbrev main_call3_call3_call0_v47 : Ref sig .tc := ⟨.hbm, 191, rfl⟩
abbrev main_call3_call3_call0_c_11 : Ref sig .tc := ⟨.hbm, 192, rfl⟩
abbrev main_call3_call3_call0_v48 : Ref sig .tc := ⟨.hbm, 193, rfl⟩
abbrev main_call3_call3_call0_v49 : Ref sig .tc := ⟨.hbm, 194, rfl⟩
abbrev main_call3_call3_call0_c_12 : Ref sig .tc := ⟨.hbm, 195, rfl⟩
abbrev main_call3_call3_call0_v50 : Ref sig .tc := ⟨.hbm, 196, rfl⟩
abbrev main_call3_call3_call0_v51 : Ref sig .tc := ⟨.hbm, 197, rfl⟩
abbrev main_call3_call3_call0_v52 : Ref sig .tc := ⟨.hbm, 198, rfl⟩
abbrev main_call3_call3_call0_v53 : Ref sig .tc := ⟨.hbm, 199, rfl⟩
abbrev main_call3_call3_call0_v54 : Ref sig .tc := ⟨.hbm, 200, rfl⟩
abbrev main_call3_call3_call0_c_13 : Ref sig .tc := ⟨.hbm, 201, rfl⟩
abbrev main_call3_call3_call0_v55 : Ref sig .tc := ⟨.hbm, 202, rfl⟩
abbrev main_call3_call3_call0_v56 : Ref sig .tc := ⟨.hbm, 203, rfl⟩
abbrev main_call3_call3_call0_c_14 : Ref sig .tc := ⟨.hbm, 204, rfl⟩
abbrev main_call3_call3_call0_v57 : Ref sig .tc := ⟨.hbm, 205, rfl⟩
abbrev main_call3_call3_call0_v58 : Ref sig .tc := ⟨.hbm, 206, rfl⟩
abbrev main_call3_call3_call0_v59 : Ref sig .tc := ⟨.hbm, 207, rfl⟩
abbrev main_call3_call3_call0_v60 : Ref sig .tc := ⟨.hbm, 208, rfl⟩
abbrev main_call3_call3_call0_v61 : Ref sig .tc := ⟨.hbm, 209, rfl⟩
abbrev main_call3_call3_call0_c_15 : Ref sig .tc := ⟨.hbm, 210, rfl⟩
abbrev main_call3_call3_call0_v62 : Ref sig .tc := ⟨.hbm, 211, rfl⟩
abbrev main_call3_call3_call0_v63 : Ref sig .tc := ⟨.hbm, 212, rfl⟩
abbrev main_call3_call3_call0_c_16 : Ref sig .tc := ⟨.hbm, 213, rfl⟩
abbrev main_call3_call3_call0_v64 : Ref sig .tc := ⟨.hbm, 214, rfl⟩
abbrev main_call3_call3_call0_v65 : Ref sig .tc := ⟨.hbm, 215, rfl⟩
abbrev main_call3_call3_call0_v66 : Ref sig .tc := ⟨.hbm, 216, rfl⟩
abbrev main_call3_call3_call0_v67 : Ref sig .tc := ⟨.hbm, 217, rfl⟩
abbrev main_call3_call3_call0_v68 : Ref sig .tc := ⟨.hbm, 218, rfl⟩
abbrev main_call3_call3_call0_v69 : Ref sig .tc := ⟨.hbm, 219, rfl⟩
abbrev main_call3_call3_call0_v70 : Ref sig .tc := ⟨.hbm, 220, rfl⟩
abbrev main_call3_call3_call0_v71 : Ref sig .tc := ⟨.hbm, 221, rfl⟩
abbrev main_call3_call3_call0_c_17 : Ref sig .tc := ⟨.hbm, 222, rfl⟩
abbrev main_call3_call3_call0_v72 : Ref sig .tc := ⟨.hbm, 223, rfl⟩
abbrev main_call3_call3_call0_v73 : Ref sig .tc := ⟨.hbm, 224, rfl⟩
abbrev main_call3_call3_call0_v74 : Ref sig .tc := ⟨.hbm, 225, rfl⟩
abbrev main_call3_call3_call0_c_18 : Ref sig .tc := ⟨.hbm, 226, rfl⟩
abbrev main_call3_call3_call0_v75 : Ref sig .tc := ⟨.hbm, 227, rfl⟩
abbrev main_call3_call3_call0_v76 : Ref sig .tc := ⟨.hbm, 228, rfl⟩
abbrev main_call3_call3_call0_c_19 : Ref sig .tc := ⟨.hbm, 229, rfl⟩
abbrev main_call3_call3_call0_v77 : Ref sig .tc := ⟨.hbm, 230, rfl⟩
abbrev main_call3_call3_call0_v78 : Ref sig .tc := ⟨.hbm, 231, rfl⟩
abbrev main_call3_call3_call0_v79 : Ref sig .tc := ⟨.hbm, 232, rfl⟩
abbrev main_call3_call3_call0_v80 : Ref sig .tc := ⟨.hbm, 233, rfl⟩
abbrev main_call3_call3_call0_v81 : Ref sig .tc := ⟨.hbm, 234, rfl⟩
abbrev main_call3_call3_call0_c_20 : Ref sig .tc := ⟨.hbm, 235, rfl⟩
abbrev main_call3_call3_call0_v82 : Ref sig .tc := ⟨.hbm, 236, rfl⟩
abbrev main_call3_call3_call0_v83 : Ref sig .tc := ⟨.hbm, 237, rfl⟩
abbrev main_call3_call3_call0_c_21 : Ref sig .tc := ⟨.hbm, 238, rfl⟩
abbrev main_call3_call3_call0_v84 : Ref sig .tc := ⟨.hbm, 239, rfl⟩
abbrev main_call3_call3_call0_v85 : Ref sig .tc := ⟨.hbm, 240, rfl⟩
abbrev main_call3_call3_call0_v86 : Ref sig .tc := ⟨.hbm, 241, rfl⟩
abbrev main_call3_call3_call0_v87 : Ref sig .tc := ⟨.hbm, 242, rfl⟩
abbrev main_call3_call3_call0_v88 : Ref sig .tc := ⟨.hbm, 243, rfl⟩
abbrev main_call3_call3_call0_c_22 : Ref sig .tc := ⟨.hbm, 244, rfl⟩
abbrev main_call3_call3_call0_v89 : Ref sig .tc := ⟨.hbm, 245, rfl⟩
abbrev main_call3_call3_call0_v90 : Ref sig .tc := ⟨.hbm, 246, rfl⟩
abbrev main_call3_call3_call0_c_23 : Ref sig .tc := ⟨.hbm, 247, rfl⟩
abbrev main_call3_call3_call0_v91 : Ref sig .tc := ⟨.hbm, 248, rfl⟩
abbrev main_call3_call3_call0_v92 : Ref sig .tc := ⟨.hbm, 249, rfl⟩
abbrev main_call3_call3_call0_v93 : Ref sig .tc := ⟨.hbm, 250, rfl⟩
abbrev main_call3_call3_call0_v94 : Ref sig .tc := ⟨.hbm, 251, rfl⟩
abbrev main_call3_call3_call0_v95 : Ref sig .tc := ⟨.hbm, 252, rfl⟩
abbrev main_call3_call3_call0_c_24 : Ref sig .tc := ⟨.hbm, 253, rfl⟩
abbrev main_call3_call3_call0_v96 : Ref sig .tc := ⟨.hbm, 254, rfl⟩
abbrev main_call3_call3_call0_v97 : Ref sig .tc := ⟨.hbm, 255, rfl⟩
abbrev main_call3_call3_call0_c_25 : Ref sig .tc := ⟨.hbm, 256, rfl⟩
abbrev main_call3_call3_call0_v98 : Ref sig .tc := ⟨.hbm, 257, rfl⟩
abbrev main_call3_call3_call0_v99 : Ref sig .tc := ⟨.hbm, 258, rfl⟩
abbrev main_call3_call3_call0_v100 : Ref sig .tc := ⟨.hbm, 259, rfl⟩
abbrev main_call3_call3_call0_v101 : Ref sig .tc := ⟨.hbm, 260, rfl⟩
abbrev main_call3_call3_call0_v102 : Ref sig .tc := ⟨.hbm, 261, rfl⟩
abbrev main_call3_call3_call0_v103 : Ref sig .tc := ⟨.hbm, 262, rfl⟩
abbrev main_call3_call3_call0_v104 : Ref sig .tc := ⟨.hbm, 263, rfl⟩
abbrev main_call3_call3_call0_v105 : Ref sig .tc := ⟨.hbm, 264, rfl⟩
abbrev main_call3_call3_call0_c_26 : Ref sig .tc := ⟨.hbm, 265, rfl⟩
abbrev main_call3_call3_call0_v106 : Ref sig .tc := ⟨.hbm, 266, rfl⟩
abbrev main_call3_call3_call0_v107 : Ref sig .tc := ⟨.hbm, 267, rfl⟩
abbrev main_call3_call3_call0_v108 : Ref sig .tc := ⟨.hbm, 268, rfl⟩
abbrev main_call3_call3_call0_c_27 : Ref sig .tc := ⟨.hbm, 269, rfl⟩
abbrev main_call3_call3_call0_v109 : Ref sig .tc := ⟨.hbm, 270, rfl⟩
abbrev main_call3_call3_call0_v110 : Ref sig .tc := ⟨.hbm, 271, rfl⟩
abbrev main_call3_call3_call0_c_28 : Ref sig .tc := ⟨.hbm, 272, rfl⟩
abbrev main_call3_call3_call0_v111 : Ref sig .tc := ⟨.hbm, 273, rfl⟩
abbrev main_call3_call3_call0_v112 : Ref sig .tc := ⟨.hbm, 274, rfl⟩
abbrev main_call3_call3_call0_v113 : Ref sig .tc := ⟨.hbm, 275, rfl⟩
abbrev main_call3_call3_call0_v114 : Ref sig .tc := ⟨.hbm, 276, rfl⟩
abbrev main_call3_call3_call0_v115 : Ref sig .tc := ⟨.hbm, 277, rfl⟩
abbrev main_call3_call3_call0_c_29 : Ref sig .tc := ⟨.hbm, 278, rfl⟩
abbrev main_call3_call3_call0_v116 : Ref sig .tc := ⟨.hbm, 279, rfl⟩
abbrev main_call3_call3_call0_v117 : Ref sig .tc := ⟨.hbm, 280, rfl⟩
abbrev main_call3_call3_call0_c_30 : Ref sig .tc := ⟨.hbm, 281, rfl⟩
abbrev main_call3_call3_call0_v118 : Ref sig .tc := ⟨.hbm, 282, rfl⟩
abbrev main_call3_call3_call0_v119 : Ref sig .tc := ⟨.hbm, 283, rfl⟩
abbrev main_call3_call3_call0_v120 : Ref sig .tc := ⟨.hbm, 284, rfl⟩
abbrev main_call3_call3_call0_v121 : Ref sig .tc := ⟨.hbm, 285, rfl⟩
abbrev main_call3_call3_call0_v122 : Ref sig .tc := ⟨.hbm, 286, rfl⟩
abbrev main_call3_call3_call0_c_31 : Ref sig .tc := ⟨.hbm, 287, rfl⟩
abbrev main_call3_call3_call0_v123 : Ref sig .tc := ⟨.hbm, 288, rfl⟩
abbrev main_call3_call3_call0_v124 : Ref sig .tc := ⟨.hbm, 289, rfl⟩
abbrev main_call3_call3_call0_c_32 : Ref sig .tc := ⟨.hbm, 290, rfl⟩
abbrev main_call3_call3_call0_v125 : Ref sig .tc := ⟨.hbm, 291, rfl⟩
abbrev main_call3_call3_call0_v126 : Ref sig .tc := ⟨.hbm, 292, rfl⟩
abbrev main_call3_call3_call0_v127 : Ref sig .tc := ⟨.hbm, 293, rfl⟩
abbrev main_call3_call3_call0_v128 : Ref sig .tc := ⟨.hbm, 294, rfl⟩
abbrev main_call3_call3_call0_v129 : Ref sig .tc := ⟨.hbm, 295, rfl⟩
abbrev main_call3_call3_call0_c_33 : Ref sig .tc := ⟨.hbm, 296, rfl⟩
abbrev main_call3_call3_call0_v130 : Ref sig .tc := ⟨.hbm, 297, rfl⟩
abbrev main_call3_call3_call0_v131 : Ref sig .tc := ⟨.hbm, 298, rfl⟩
abbrev main_call3_call3_call0_c_34 : Ref sig .tc := ⟨.hbm, 299, rfl⟩
abbrev main_call3_call3_call0_v132 : Ref sig .tc := ⟨.hbm, 300, rfl⟩
abbrev main_call3_call3_call0_v133 : Ref sig .tc := ⟨.hbm, 301, rfl⟩
abbrev main_call3_call3_call0_v134 : Ref sig .tc := ⟨.hbm, 302, rfl⟩
abbrev main_call3_call3_call0_v135 : Ref sig .tc := ⟨.hbm, 303, rfl⟩
abbrev main_call3_call3_call0_v136 : Ref sig .tc := ⟨.hbm, 304, rfl⟩
abbrev main_call3_call3_call0_v137 : Ref sig .tc := ⟨.hbm, 305, rfl⟩
abbrev main_call3_call3_call0_v138 : Ref sig .tc := ⟨.hbm, 306, rfl⟩
abbrev main_call3_call3_call0_v139 : Ref sig .tc := ⟨.hbm, 307, rfl⟩
abbrev main_call3_call3_call0_c_35 : Ref sig .tc := ⟨.hbm, 308, rfl⟩
abbrev main_call3_call3_call0_v140 : Ref sig .tc := ⟨.hbm, 309, rfl⟩
abbrev main_call3_call3_call0_v141 : Ref sig .tc := ⟨.hbm, 310, rfl⟩
abbrev main_call3_call3_call0_v142 : Ref sig .tc := ⟨.hbm, 311, rfl⟩
abbrev main_call3_call3_call0_c_36 : Ref sig .tc := ⟨.hbm, 312, rfl⟩
abbrev main_call3_call3_call0_v143 : Ref sig .tc := ⟨.hbm, 313, rfl⟩
abbrev main_call3_call3_call0_v144 : Ref sig .tc := ⟨.hbm, 314, rfl⟩
abbrev main_call3_call3_call0_c_37 : Ref sig .tc := ⟨.hbm, 315, rfl⟩
abbrev main_call3_call3_call0_v145 : Ref sig .tc := ⟨.hbm, 316, rfl⟩
abbrev main_call3_call3_call0_v146 : Ref sig .tc := ⟨.hbm, 317, rfl⟩
abbrev main_call3_call3_call0_v147 : Ref sig .tc := ⟨.hbm, 318, rfl⟩
abbrev main_call3_call3_call0_v148 : Ref sig .tc := ⟨.hbm, 319, rfl⟩
abbrev main_call3_call3_call0_v149 : Ref sig .tc := ⟨.hbm, 320, rfl⟩
abbrev main_call3_call3_call0_c_38 : Ref sig .tc := ⟨.hbm, 321, rfl⟩
abbrev main_call3_call3_call0_v150 : Ref sig .tc := ⟨.hbm, 322, rfl⟩
abbrev main_call3_call3_call0_v151 : Ref sig .tc := ⟨.hbm, 323, rfl⟩
abbrev main_call3_call3_call0_c_39 : Ref sig .tc := ⟨.hbm, 324, rfl⟩
abbrev main_call3_call3_call0_v152 : Ref sig .tc := ⟨.hbm, 325, rfl⟩
abbrev main_call3_call3_call0_v153 : Ref sig .tc := ⟨.hbm, 326, rfl⟩
abbrev main_call3_call3_call0_v154 : Ref sig .tc := ⟨.hbm, 327, rfl⟩
abbrev main_call3_call3_call0_v155 : Ref sig .tc := ⟨.hbm, 328, rfl⟩
abbrev main_call3_call3_call0_v156 : Ref sig .tc := ⟨.hbm, 329, rfl⟩
abbrev main_call3_call3_call0_c_40 : Ref sig .tc := ⟨.hbm, 330, rfl⟩
abbrev main_call3_call3_call0_v157 : Ref sig .tc := ⟨.hbm, 331, rfl⟩
abbrev main_call3_call3_call0_v158 : Ref sig .tc := ⟨.hbm, 332, rfl⟩
abbrev main_call3_call3_call0_c_41 : Ref sig .tc := ⟨.hbm, 333, rfl⟩
abbrev main_call3_call3_call0_v159 : Ref sig .tc := ⟨.hbm, 334, rfl⟩
abbrev main_call3_call3_call0_v160 : Ref sig .tc := ⟨.hbm, 335, rfl⟩
abbrev main_call3_call3_call0_v161 : Ref sig .tc := ⟨.hbm, 336, rfl⟩
abbrev main_call3_call3_call0_v162 : Ref sig .tc := ⟨.hbm, 337, rfl⟩
abbrev main_call3_call3_call0_v163 : Ref sig .tc := ⟨.hbm, 338, rfl⟩
abbrev main_call3_call3_call0_c_42 : Ref sig .tc := ⟨.hbm, 339, rfl⟩
abbrev main_call3_call3_call0_v164 : Ref sig .tc := ⟨.hbm, 340, rfl⟩
abbrev main_call3_call3_call0_v165 : Ref sig .tc := ⟨.hbm, 341, rfl⟩
abbrev main_call3_call3_call0_c_43 : Ref sig .tc := ⟨.hbm, 342, rfl⟩
abbrev main_call3_call3_call0_v166 : Ref sig .tc := ⟨.hbm, 343, rfl⟩
abbrev main_call3_call3_call0_v167 : Ref sig .tc := ⟨.hbm, 344, rfl⟩
abbrev main_call3_call3_call0_v168 : Ref sig .tc := ⟨.hbm, 345, rfl⟩
abbrev main_call3_call3_call0_v169 : Ref sig .tc := ⟨.hbm, 346, rfl⟩
abbrev main_call3_call3_call0_v170 : Ref sig .tc := ⟨.hbm, 347, rfl⟩
abbrev main_call3_call3_v11_0 : Ref sig .tc := ⟨.hbm, 348, rfl⟩
abbrev main_call3_call3_call0_v172 : Ref sig .tc := ⟨.hbm, 349, rfl⟩
abbrev main_call3_call3_call0_v173 : Ref sig .tc := ⟨.hbm, 350, rfl⟩
abbrev main_call3_call3_call0_c_44 : Ref sig .tc := ⟨.hbm, 351, rfl⟩
abbrev main_call3_call3_call0_v174 : Ref sig .tc := ⟨.hbm, 352, rfl⟩
abbrev main_call3_call3_v11_1 : Ref sig .tc := ⟨.hbm, 353, rfl⟩
abbrev main_call3_call3_v12 : Ref sig .tc := ⟨.hbm, 354, rfl⟩
abbrev main_call3_call3_v13 : Ref sig .tc := ⟨.hbm, 355, rfl⟩
abbrev main_call3_v8 : Ref sig .tc := ⟨.hbm, 356, rfl⟩
abbrev main_call3_v9 : Ref sig .tc := ⟨.hbm, 357, rfl⟩
abbrev main_call3_v10 : Ref sig .tc := ⟨.hbm, 358, rfl⟩
abbrev main_call3_v11 : Ref sig .tc := ⟨.hbm, 359, rfl⟩
abbrev main_call3_v12 : Ref sig .tc := ⟨.hbm, 360, rfl⟩
abbrev main_call3_v13 : Ref sig .tc := ⟨.hbm, 361, rfl⟩
abbrev main_call3_v14 : Ref sig .tc := ⟨.hbm, 362, rfl⟩
abbrev main_call3_v15 : Ref sig .tc := ⟨.hbm, 363, rfl⟩
abbrev main_call3_v16 : Ref sig .tc := ⟨.hbm, 364, rfl⟩
abbrev main_call3_v17 : Ref sig .tc := ⟨.hbm, 365, rfl⟩
abbrev main_call3_v18 : Ref sig .tc := ⟨.hbm, 366, rfl⟩
abbrev main_call3_v19 : Ref sig .tc := ⟨.hbm, 367, rfl⟩
abbrev main_call3_v20 : Ref sig .tc := ⟨.hbm, 368, rfl⟩
abbrev main_call3_v21 : Ref sig .tc := ⟨.hbm, 369, rfl⟩
abbrev main_call3_c_6 : Ref sig .tc := ⟨.hbm, 370, rfl⟩
abbrev main_call3_v22 : Ref sig .tc := ⟨.hbm, 371, rfl⟩
abbrev main_call3_v23 : Ref sig .tc := ⟨.hbm, 372, rfl⟩
abbrev main_call3_c_7 : Ref sig .tc := ⟨.hbm, 373, rfl⟩
abbrev main_call3_v24 : Ref sig .tc := ⟨.hbm, 374, rfl⟩
abbrev main_call3_v25 : Ref sig .tc := ⟨.hbm, 375, rfl⟩
abbrev main_call3_c_8 : Ref sig .tc := ⟨.hbm, 376, rfl⟩
abbrev main_call3_v26 : Ref sig .tc := ⟨.hbm, 377, rfl⟩
abbrev main_call3_v27 : Ref sig .tc := ⟨.hbm, 378, rfl⟩
abbrev main_call3_c_9 : Ref sig .tc := ⟨.hbm, 379, rfl⟩
abbrev main_call3_v28 : Ref sig .tc := ⟨.hbm, 380, rfl⟩
abbrev main_call3_v29 : Ref sig .tc := ⟨.hbm, 381, rfl⟩
abbrev main_call3_c_10 : Ref sig .tc := ⟨.hbm, 382, rfl⟩
abbrev main_call3_v30 : Ref sig .tc := ⟨.hbm, 383, rfl⟩
abbrev main_call3_v31 : Ref sig .tc := ⟨.hbm, 384, rfl⟩
abbrev main_call3_v32 : Ref sig .tc := ⟨.hbm, 385, rfl⟩
abbrev main_call3_v33 : Ref sig .tc := ⟨.hbm, 386, rfl⟩
abbrev main_call3_v34 : Ref sig .tc := ⟨.hbm, 387, rfl⟩
abbrev main_call3_v35 : Ref sig .tc := ⟨.hbm, 388, rfl⟩
abbrev main_call3_c_11 : Ref sig .tc := ⟨.hbm, 389, rfl⟩
abbrev main_call3_v36 : Ref sig .tc := ⟨.hbm, 390, rfl⟩
abbrev main_call3_v37 : Ref sig .tc := ⟨.hbm, 391, rfl⟩
abbrev main_call3_v38 : Ref sig .tc := ⟨.hbm, 392, rfl⟩
abbrev main_call3_v39 : Ref sig .tc := ⟨.hbm, 393, rfl⟩
abbrev main_call3_call4_v0 : Ref sig .tc := ⟨.hbm, 394, rfl⟩
abbrev main_call3_call4_c : Ref sig .tc := ⟨.hbm, 395, rfl⟩
abbrev main_call3_call4_v1 : Ref sig .tc := ⟨.hbm, 396, rfl⟩
abbrev main_call3_call4_v2 : Ref sig .tc := ⟨.hbm, 397, rfl⟩
abbrev main_call3_call4_v3 : Ref sig .tc := ⟨.hbm, 398, rfl⟩
abbrev main_call3_call4_v4 : Ref sig .tc := ⟨.hbm, 399, rfl⟩
abbrev main_call3_call4_v5 : Ref sig .tc := ⟨.hbm, 400, rfl⟩
abbrev main_call3_call4_v6 : Ref sig .tc := ⟨.hbm, 401, rfl⟩
abbrev main_call3_call4_c_0 : Ref sig .tc := ⟨.hbm, 402, rfl⟩
abbrev main_call3_call4_v7 : Ref sig .tc := ⟨.hbm, 403, rfl⟩
abbrev main_call3_call4_v8 : Ref sig .tc := ⟨.hbm, 404, rfl⟩
abbrev main_call3_call4_c_1 : Ref sig .tc := ⟨.hbm, 405, rfl⟩
abbrev main_call3_call4_v9 : Ref sig .tc := ⟨.hbm, 406, rfl⟩
abbrev main_call3_call4_v10 : Ref sig .tc := ⟨.hbm, 407, rfl⟩
abbrev main_call3_call4_v11 : Ref sig .tc := ⟨.hbm, 408, rfl⟩
abbrev main_call3_call4_v12 : Ref sig .tc := ⟨.hbm, 409, rfl⟩
abbrev main_call3_call4_v13 : Ref sig .tc := ⟨.hbm, 410, rfl⟩
abbrev main_call3_call4_c_2 : Ref sig .tc := ⟨.hbm, 411, rfl⟩
abbrev main_call3_call4_v14 : Ref sig .tc := ⟨.hbm, 412, rfl⟩
abbrev main_call3_call4_v15 : Ref sig .tc := ⟨.hbm, 413, rfl⟩
abbrev main_call3_call4_c_3 : Ref sig .tc := ⟨.hbm, 414, rfl⟩
abbrev main_call3_call4_v16 : Ref sig .tc := ⟨.hbm, 415, rfl⟩
abbrev main_call3_call4_v17 : Ref sig .tc := ⟨.hbm, 416, rfl⟩
abbrev main_call3_call4_v18 : Ref sig .tc := ⟨.hbm, 417, rfl⟩
abbrev main_call3_call4_v19 : Ref sig .tc := ⟨.hbm, 418, rfl⟩
abbrev main_call3_call4_v20 : Ref sig .tc := ⟨.hbm, 419, rfl⟩
abbrev main_call3_call4_c_4 : Ref sig .tc := ⟨.hbm, 420, rfl⟩
abbrev main_call3_call4_v21 : Ref sig .tc := ⟨.hbm, 421, rfl⟩
abbrev main_call3_call4_v22 : Ref sig .tc := ⟨.hbm, 422, rfl⟩
abbrev main_call3_call4_c_5 : Ref sig .tc := ⟨.hbm, 423, rfl⟩
abbrev main_call3_call4_v23 : Ref sig .tc := ⟨.hbm, 424, rfl⟩
abbrev main_call3_call4_v24 : Ref sig .tc := ⟨.hbm, 425, rfl⟩
abbrev main_call3_call4_v25 : Ref sig .tc := ⟨.hbm, 426, rfl⟩
abbrev main_call3_call4_v26 : Ref sig .tc := ⟨.hbm, 427, rfl⟩
abbrev main_call3_call4_v27 : Ref sig .tc := ⟨.hbm, 428, rfl⟩
abbrev main_call3_call4_c_6 : Ref sig .tc := ⟨.hbm, 429, rfl⟩
abbrev main_call3_call4_v28 : Ref sig .tc := ⟨.hbm, 430, rfl⟩
abbrev main_call3_call4_v29 : Ref sig .tc := ⟨.hbm, 431, rfl⟩
abbrev main_call3_call4_c_7 : Ref sig .tc := ⟨.hbm, 432, rfl⟩
abbrev main_call3_call4_v30 : Ref sig .tc := ⟨.hbm, 433, rfl⟩
abbrev main_call3_call4_v31 : Ref sig .tc := ⟨.hbm, 434, rfl⟩
abbrev main_call3_call4_v32 : Ref sig .tc := ⟨.hbm, 435, rfl⟩
abbrev main_call3_call4_v33 : Ref sig .tc := ⟨.hbm, 436, rfl⟩
abbrev main_call3_call4_v34 : Ref sig .tc := ⟨.hbm, 437, rfl⟩
abbrev main_call3_call4_v35 : Ref sig .tc := ⟨.hbm, 438, rfl⟩
abbrev main_call3_call4_v36 : Ref sig .tc := ⟨.hbm, 439, rfl⟩
abbrev main_call3_call4_v37 : Ref sig .tc := ⟨.hbm, 440, rfl⟩
abbrev main_call3_call4_c_8 : Ref sig .tc := ⟨.hbm, 441, rfl⟩
abbrev main_call3_call4_v38 : Ref sig .tc := ⟨.hbm, 442, rfl⟩
abbrev main_call3_call4_v39 : Ref sig .tc := ⟨.hbm, 443, rfl⟩
abbrev main_call3_call4_v40 : Ref sig .tc := ⟨.hbm, 444, rfl⟩
abbrev main_call3_call4_c_9 : Ref sig .tc := ⟨.hbm, 445, rfl⟩
abbrev main_call3_call4_v41 : Ref sig .tc := ⟨.hbm, 446, rfl⟩
abbrev main_call3_call4_v42 : Ref sig .tc := ⟨.hbm, 447, rfl⟩
abbrev main_call3_call4_c_10 : Ref sig .tc := ⟨.hbm, 448, rfl⟩
abbrev main_call3_call4_v43 : Ref sig .tc := ⟨.hbm, 449, rfl⟩
abbrev main_call3_call4_v44 : Ref sig .tc := ⟨.hbm, 450, rfl⟩
abbrev main_call3_call4_v45 : Ref sig .tc := ⟨.hbm, 451, rfl⟩
abbrev main_call3_call4_v46 : Ref sig .tc := ⟨.hbm, 452, rfl⟩
abbrev main_call3_call4_v47 : Ref sig .tc := ⟨.hbm, 453, rfl⟩
abbrev main_call3_call4_c_11 : Ref sig .tc := ⟨.hbm, 454, rfl⟩
abbrev main_call3_call4_v48 : Ref sig .tc := ⟨.hbm, 455, rfl⟩
abbrev main_call3_call4_v49 : Ref sig .tc := ⟨.hbm, 456, rfl⟩
abbrev main_call3_call4_c_12 : Ref sig .tc := ⟨.hbm, 457, rfl⟩
abbrev main_call3_call4_v50 : Ref sig .tc := ⟨.hbm, 458, rfl⟩
abbrev main_call3_call4_v51 : Ref sig .tc := ⟨.hbm, 459, rfl⟩
abbrev main_call3_call4_v52 : Ref sig .tc := ⟨.hbm, 460, rfl⟩
abbrev main_call3_call4_v53 : Ref sig .tc := ⟨.hbm, 461, rfl⟩
abbrev main_call3_call4_v54 : Ref sig .tc := ⟨.hbm, 462, rfl⟩
abbrev main_call3_call4_c_13 : Ref sig .tc := ⟨.hbm, 463, rfl⟩
abbrev main_call3_call4_v55 : Ref sig .tc := ⟨.hbm, 464, rfl⟩
abbrev main_call3_call4_v56 : Ref sig .tc := ⟨.hbm, 465, rfl⟩
abbrev main_call3_call4_c_14 : Ref sig .tc := ⟨.hbm, 466, rfl⟩
abbrev main_call3_call4_v57 : Ref sig .tc := ⟨.hbm, 467, rfl⟩
abbrev main_call3_call4_v58 : Ref sig .tc := ⟨.hbm, 468, rfl⟩
abbrev main_call3_call4_v59 : Ref sig .tc := ⟨.hbm, 469, rfl⟩
abbrev main_call3_call4_v60 : Ref sig .tc := ⟨.hbm, 470, rfl⟩
abbrev main_call3_call4_v61 : Ref sig .tc := ⟨.hbm, 471, rfl⟩
abbrev main_call3_call4_c_15 : Ref sig .tc := ⟨.hbm, 472, rfl⟩
abbrev main_call3_call4_v62 : Ref sig .tc := ⟨.hbm, 473, rfl⟩
abbrev main_call3_call4_v63 : Ref sig .tc := ⟨.hbm, 474, rfl⟩
abbrev main_call3_call4_c_16 : Ref sig .tc := ⟨.hbm, 475, rfl⟩
abbrev main_call3_call4_v64 : Ref sig .tc := ⟨.hbm, 476, rfl⟩
abbrev main_call3_call4_v65 : Ref sig .tc := ⟨.hbm, 477, rfl⟩
abbrev main_call3_call4_v66 : Ref sig .tc := ⟨.hbm, 478, rfl⟩
abbrev main_call3_call4_v67 : Ref sig .tc := ⟨.hbm, 479, rfl⟩
abbrev main_call3_call4_v68 : Ref sig .tc := ⟨.hbm, 480, rfl⟩
abbrev main_call3_call4_v69 : Ref sig .tc := ⟨.hbm, 481, rfl⟩
abbrev main_call3_call4_v70 : Ref sig .tc := ⟨.hbm, 482, rfl⟩
abbrev main_call3_call4_v71 : Ref sig .tc := ⟨.hbm, 483, rfl⟩
abbrev main_call3_call4_c_17 : Ref sig .tc := ⟨.hbm, 484, rfl⟩
abbrev main_call3_call4_v72 : Ref sig .tc := ⟨.hbm, 485, rfl⟩
abbrev main_call3_call4_v73 : Ref sig .tc := ⟨.hbm, 486, rfl⟩
abbrev main_call3_call4_v74 : Ref sig .tc := ⟨.hbm, 487, rfl⟩
abbrev main_call3_call4_c_18 : Ref sig .tc := ⟨.hbm, 488, rfl⟩
abbrev main_call3_call4_v75 : Ref sig .tc := ⟨.hbm, 489, rfl⟩
abbrev main_call3_call4_v76 : Ref sig .tc := ⟨.hbm, 490, rfl⟩
abbrev main_call3_call4_c_19 : Ref sig .tc := ⟨.hbm, 491, rfl⟩
abbrev main_call3_call4_v77 : Ref sig .tc := ⟨.hbm, 492, rfl⟩
abbrev main_call3_call4_v78 : Ref sig .tc := ⟨.hbm, 493, rfl⟩
abbrev main_call3_call4_v79 : Ref sig .tc := ⟨.hbm, 494, rfl⟩
abbrev main_call3_call4_v80 : Ref sig .tc := ⟨.hbm, 495, rfl⟩
abbrev main_call3_call4_v81 : Ref sig .tc := ⟨.hbm, 496, rfl⟩
abbrev main_call3_call4_c_20 : Ref sig .tc := ⟨.hbm, 497, rfl⟩
abbrev main_call3_call4_v82 : Ref sig .tc := ⟨.hbm, 498, rfl⟩
abbrev main_call3_call4_v83 : Ref sig .tc := ⟨.hbm, 499, rfl⟩
abbrev main_call3_call4_c_21 : Ref sig .tc := ⟨.hbm, 500, rfl⟩
abbrev main_call3_call4_v84 : Ref sig .tc := ⟨.hbm, 501, rfl⟩
abbrev main_call3_call4_v85 : Ref sig .tc := ⟨.hbm, 502, rfl⟩
abbrev main_call3_call4_v86 : Ref sig .tc := ⟨.hbm, 503, rfl⟩
abbrev main_call3_call4_v87 : Ref sig .tc := ⟨.hbm, 504, rfl⟩
abbrev main_call3_call4_v88 : Ref sig .tc := ⟨.hbm, 505, rfl⟩
abbrev main_call3_call4_c_22 : Ref sig .tc := ⟨.hbm, 506, rfl⟩
abbrev main_call3_call4_v89 : Ref sig .tc := ⟨.hbm, 507, rfl⟩
abbrev main_call3_call4_v90 : Ref sig .tc := ⟨.hbm, 508, rfl⟩
abbrev main_call3_call4_c_23 : Ref sig .tc := ⟨.hbm, 509, rfl⟩
abbrev main_call3_call4_v91 : Ref sig .tc := ⟨.hbm, 510, rfl⟩
abbrev main_call3_call4_v92 : Ref sig .tc := ⟨.hbm, 511, rfl⟩
abbrev main_call3_call4_v93 : Ref sig .tc := ⟨.hbm, 512, rfl⟩
abbrev main_call3_call4_v94 : Ref sig .tc := ⟨.hbm, 513, rfl⟩
abbrev main_call3_call4_v95 : Ref sig .tc := ⟨.hbm, 514, rfl⟩
abbrev main_call3_call4_c_24 : Ref sig .tc := ⟨.hbm, 515, rfl⟩
abbrev main_call3_call4_v96 : Ref sig .tc := ⟨.hbm, 516, rfl⟩
abbrev main_call3_call4_v97 : Ref sig .tc := ⟨.hbm, 517, rfl⟩
abbrev main_call3_call4_c_25 : Ref sig .tc := ⟨.hbm, 518, rfl⟩
abbrev main_call3_call4_v98 : Ref sig .tc := ⟨.hbm, 519, rfl⟩
abbrev main_call3_call4_v99 : Ref sig .tc := ⟨.hbm, 520, rfl⟩
abbrev main_call3_call4_v100 : Ref sig .tc := ⟨.hbm, 521, rfl⟩
abbrev main_call3_call4_v101 : Ref sig .tc := ⟨.hbm, 522, rfl⟩
abbrev main_call3_call4_v102 : Ref sig .tc := ⟨.hbm, 523, rfl⟩
abbrev main_call3_call4_v103 : Ref sig .tc := ⟨.hbm, 524, rfl⟩
abbrev main_call3_call4_v104 : Ref sig .tc := ⟨.hbm, 525, rfl⟩
abbrev main_call3_call4_v105 : Ref sig .tc := ⟨.hbm, 526, rfl⟩
abbrev main_call3_call4_c_26 : Ref sig .tc := ⟨.hbm, 527, rfl⟩
abbrev main_call3_call4_v106 : Ref sig .tc := ⟨.hbm, 528, rfl⟩
abbrev main_call3_call4_v107 : Ref sig .tc := ⟨.hbm, 529, rfl⟩
abbrev main_call3_call4_v108 : Ref sig .tc := ⟨.hbm, 530, rfl⟩
abbrev main_call3_call4_c_27 : Ref sig .tc := ⟨.hbm, 531, rfl⟩
abbrev main_call3_call4_v109 : Ref sig .tc := ⟨.hbm, 532, rfl⟩
abbrev main_call3_call4_v110 : Ref sig .tc := ⟨.hbm, 533, rfl⟩
abbrev main_call3_call4_c_28 : Ref sig .tc := ⟨.hbm, 534, rfl⟩
abbrev main_call3_call4_v111 : Ref sig .tc := ⟨.hbm, 535, rfl⟩
abbrev main_call3_call4_v112 : Ref sig .tc := ⟨.hbm, 536, rfl⟩
abbrev main_call3_call4_v113 : Ref sig .tc := ⟨.hbm, 537, rfl⟩
abbrev main_call3_call4_v114 : Ref sig .tc := ⟨.hbm, 538, rfl⟩
abbrev main_call3_call4_v115 : Ref sig .tc := ⟨.hbm, 539, rfl⟩
abbrev main_call3_call4_c_29 : Ref sig .tc := ⟨.hbm, 540, rfl⟩
abbrev main_call3_call4_v116 : Ref sig .tc := ⟨.hbm, 541, rfl⟩
abbrev main_call3_call4_v117 : Ref sig .tc := ⟨.hbm, 542, rfl⟩
abbrev main_call3_call4_c_30 : Ref sig .tc := ⟨.hbm, 543, rfl⟩
abbrev main_call3_call4_v118 : Ref sig .tc := ⟨.hbm, 544, rfl⟩
abbrev main_call3_call4_v119 : Ref sig .tc := ⟨.hbm, 545, rfl⟩
abbrev main_call3_call4_v120 : Ref sig .tc := ⟨.hbm, 546, rfl⟩
abbrev main_call3_call4_v121 : Ref sig .tc := ⟨.hbm, 547, rfl⟩
abbrev main_call3_call4_v122 : Ref sig .tc := ⟨.hbm, 548, rfl⟩
abbrev main_call3_call4_c_31 : Ref sig .tc := ⟨.hbm, 549, rfl⟩
abbrev main_call3_call4_v123 : Ref sig .tc := ⟨.hbm, 550, rfl⟩
abbrev main_call3_call4_v124 : Ref sig .tc := ⟨.hbm, 551, rfl⟩
abbrev main_call3_call4_c_32 : Ref sig .tc := ⟨.hbm, 552, rfl⟩
abbrev main_call3_call4_v125 : Ref sig .tc := ⟨.hbm, 553, rfl⟩
abbrev main_call3_call4_v126 : Ref sig .tc := ⟨.hbm, 554, rfl⟩
abbrev main_call3_call4_v127 : Ref sig .tc := ⟨.hbm, 555, rfl⟩
abbrev main_call3_call4_v128 : Ref sig .tc := ⟨.hbm, 556, rfl⟩
abbrev main_call3_call4_v129 : Ref sig .tc := ⟨.hbm, 557, rfl⟩
abbrev main_call3_call4_c_33 : Ref sig .tc := ⟨.hbm, 558, rfl⟩
abbrev main_call3_call4_v130 : Ref sig .tc := ⟨.hbm, 559, rfl⟩
abbrev main_call3_call4_v131 : Ref sig .tc := ⟨.hbm, 560, rfl⟩
abbrev main_call3_call4_c_34 : Ref sig .tc := ⟨.hbm, 561, rfl⟩
abbrev main_call3_call4_v132 : Ref sig .tc := ⟨.hbm, 562, rfl⟩
abbrev main_call3_call4_v133 : Ref sig .tc := ⟨.hbm, 563, rfl⟩
abbrev main_call3_call4_v134 : Ref sig .tc := ⟨.hbm, 564, rfl⟩
abbrev main_call3_call4_v135 : Ref sig .tc := ⟨.hbm, 565, rfl⟩
abbrev main_call3_call4_v136 : Ref sig .tc := ⟨.hbm, 566, rfl⟩
abbrev main_call3_call4_v137 : Ref sig .tc := ⟨.hbm, 567, rfl⟩
abbrev main_call3_call4_v138 : Ref sig .tc := ⟨.hbm, 568, rfl⟩
abbrev main_call3_call4_v139 : Ref sig .tc := ⟨.hbm, 569, rfl⟩
abbrev main_call3_call4_c_35 : Ref sig .tc := ⟨.hbm, 570, rfl⟩
abbrev main_call3_call4_v140 : Ref sig .tc := ⟨.hbm, 571, rfl⟩
abbrev main_call3_call4_v141 : Ref sig .tc := ⟨.hbm, 572, rfl⟩
abbrev main_call3_call4_v142 : Ref sig .tc := ⟨.hbm, 573, rfl⟩
abbrev main_call3_call4_c_36 : Ref sig .tc := ⟨.hbm, 574, rfl⟩
abbrev main_call3_call4_v143 : Ref sig .tc := ⟨.hbm, 575, rfl⟩
abbrev main_call3_call4_v144 : Ref sig .tc := ⟨.hbm, 576, rfl⟩
abbrev main_call3_call4_c_37 : Ref sig .tc := ⟨.hbm, 577, rfl⟩
abbrev main_call3_call4_v145 : Ref sig .tc := ⟨.hbm, 578, rfl⟩
abbrev main_call3_call4_v146 : Ref sig .tc := ⟨.hbm, 579, rfl⟩
abbrev main_call3_call4_v147 : Ref sig .tc := ⟨.hbm, 580, rfl⟩
abbrev main_call3_call4_v148 : Ref sig .tc := ⟨.hbm, 581, rfl⟩
abbrev main_call3_call4_v149 : Ref sig .tc := ⟨.hbm, 582, rfl⟩
abbrev main_call3_call4_c_38 : Ref sig .tc := ⟨.hbm, 583, rfl⟩
abbrev main_call3_call4_v150 : Ref sig .tc := ⟨.hbm, 584, rfl⟩
abbrev main_call3_call4_v151 : Ref sig .tc := ⟨.hbm, 585, rfl⟩
abbrev main_call3_call4_c_39 : Ref sig .tc := ⟨.hbm, 586, rfl⟩
abbrev main_call3_call4_v152 : Ref sig .tc := ⟨.hbm, 587, rfl⟩
abbrev main_call3_call4_v153 : Ref sig .tc := ⟨.hbm, 588, rfl⟩
abbrev main_call3_call4_v154 : Ref sig .tc := ⟨.hbm, 589, rfl⟩
abbrev main_call3_call4_v155 : Ref sig .tc := ⟨.hbm, 590, rfl⟩
abbrev main_call3_call4_v156 : Ref sig .tc := ⟨.hbm, 591, rfl⟩
abbrev main_call3_call4_c_40 : Ref sig .tc := ⟨.hbm, 592, rfl⟩
abbrev main_call3_call4_v157 : Ref sig .tc := ⟨.hbm, 593, rfl⟩
abbrev main_call3_call4_v158 : Ref sig .tc := ⟨.hbm, 594, rfl⟩
abbrev main_call3_call4_c_41 : Ref sig .tc := ⟨.hbm, 595, rfl⟩
abbrev main_call3_call4_v159 : Ref sig .tc := ⟨.hbm, 596, rfl⟩
abbrev main_call3_call4_v160 : Ref sig .tc := ⟨.hbm, 597, rfl⟩
abbrev main_call3_call4_v161 : Ref sig .tc := ⟨.hbm, 598, rfl⟩
abbrev main_call3_call4_v162 : Ref sig .tc := ⟨.hbm, 599, rfl⟩
abbrev main_call3_call4_v163 : Ref sig .tc := ⟨.hbm, 600, rfl⟩
abbrev main_call3_call4_c_42 : Ref sig .tc := ⟨.hbm, 601, rfl⟩
abbrev main_call3_call4_v164 : Ref sig .tc := ⟨.hbm, 602, rfl⟩
abbrev main_call3_call4_v165 : Ref sig .tc := ⟨.hbm, 603, rfl⟩
abbrev main_call3_call4_c_43 : Ref sig .tc := ⟨.hbm, 604, rfl⟩
abbrev main_call3_call4_v166 : Ref sig .tc := ⟨.hbm, 605, rfl⟩
abbrev main_call3_call4_v167 : Ref sig .tc := ⟨.hbm, 606, rfl⟩
abbrev main_call3_call4_v168 : Ref sig .tc := ⟨.hbm, 607, rfl⟩
abbrev main_call3_call4_v169 : Ref sig .tc := ⟨.hbm, 608, rfl⟩
abbrev main_call3_call4_v170 : Ref sig .tc := ⟨.hbm, 609, rfl⟩
abbrev main_call3_v40_0 : Ref sig .tc := ⟨.hbm, 610, rfl⟩
abbrev main_call3_call4_v172 : Ref sig .tc := ⟨.hbm, 611, rfl⟩
abbrev main_call3_call4_v173 : Ref sig .tc := ⟨.hbm, 612, rfl⟩
abbrev main_call3_call4_c_44 : Ref sig .tc := ⟨.hbm, 613, rfl⟩
abbrev main_call3_call4_v174 : Ref sig .tc := ⟨.hbm, 614, rfl⟩
abbrev main_call3_v40_1 : Ref sig .tc := ⟨.hbm, 615, rfl⟩
abbrev main_call3_v41 : Ref sig .tc := ⟨.hbm, 616, rfl⟩
abbrev main_call3_v42 : Ref sig .tc := ⟨.hbm, 617, rfl⟩
abbrev main_call3_v43 : Ref sig .tc := ⟨.hbm, 618, rfl⟩
abbrev main_call3_v44 : Ref sig .tc := ⟨.hbm, 619, rfl⟩
abbrev main_call3_v45 : Ref sig .tc := ⟨.hbm, 620, rfl⟩
abbrev main_call3_v46 : Ref sig .tc := ⟨.hbm, 621, rfl⟩
abbrev main_call3_v47 : Ref sig .tc := ⟨.hbm, 622, rfl⟩
abbrev main_call3_v48 : Ref sig .tc := ⟨.hbm, 623, rfl⟩
abbrev main_call3_v49 : Ref sig .tc := ⟨.hbm, 624, rfl⟩
abbrev main_call3_v50 : Ref sig .tc := ⟨.hbm, 625, rfl⟩
abbrev main_call3_c_12 : Ref sig .tc := ⟨.hbm, 626, rfl⟩
abbrev main_call3_v51 : Ref sig .tc := ⟨.hbm, 627, rfl⟩
abbrev main_call3_v52 : Ref sig .tc := ⟨.hbm, 628, rfl⟩
abbrev main_call3_c_13 : Ref sig .tc := ⟨.hbm, 629, rfl⟩
abbrev main_call3_v53 : Ref sig .tc := ⟨.hbm, 630, rfl⟩
abbrev main_call3_v54 : Ref sig .tc := ⟨.hbm, 631, rfl⟩
abbrev main_call3_c_14 : Ref sig .tc := ⟨.hbm, 632, rfl⟩
abbrev main_call3_v55 : Ref sig .tc := ⟨.hbm, 633, rfl⟩
abbrev main_call3_v56 : Ref sig .tc := ⟨.hbm, 634, rfl⟩
abbrev main_call3_c_15 : Ref sig .tc := ⟨.hbm, 635, rfl⟩
abbrev main_call3_v57 : Ref sig .tc := ⟨.hbm, 636, rfl⟩
abbrev main_call3_v58 : Ref sig .tc := ⟨.hbm, 637, rfl⟩
abbrev main_call3_c_16 : Ref sig .tc := ⟨.hbm, 638, rfl⟩
abbrev main_call3_v59 : Ref sig .tc := ⟨.hbm, 639, rfl⟩
abbrev main_call3_v60 : Ref sig .tc := ⟨.hbm, 640, rfl⟩
abbrev main_call3_v61 : Ref sig .tc := ⟨.hbm, 641, rfl⟩
abbrev main_call3_v62 : Ref sig .tc := ⟨.hbm, 642, rfl⟩
abbrev main_call3_v63 : Ref sig .tc := ⟨.hbm, 643, rfl⟩
abbrev main_call3_v64 : Ref sig .tc := ⟨.hbm, 644, rfl⟩
abbrev main_call3_c_17 : Ref sig .tc := ⟨.hbm, 645, rfl⟩
abbrev main_call3_v65 : Ref sig .tc := ⟨.hbm, 646, rfl⟩
abbrev main_call3_v66 : Ref sig .tc := ⟨.hbm, 647, rfl⟩
abbrev main_call3_v67 : Ref sig .tc := ⟨.hbm, 648, rfl⟩
abbrev main_call3_v68 : Ref sig .tc := ⟨.hbm, 649, rfl⟩
abbrev main_call3_call5_v0 : Ref sig .tc := ⟨.hbm, 650, rfl⟩
abbrev main_call3_call5_c : Ref sig .tc := ⟨.hbm, 651, rfl⟩
abbrev main_call3_call5_v1 : Ref sig .tc := ⟨.hbm, 652, rfl⟩
abbrev main_call3_call5_v2 : Ref sig .tc := ⟨.hbm, 653, rfl⟩
abbrev main_call3_call5_v3 : Ref sig .tc := ⟨.hbm, 654, rfl⟩
abbrev main_call3_call5_v4 : Ref sig .tc := ⟨.hbm, 655, rfl⟩
abbrev main_call3_call5_v5 : Ref sig .tc := ⟨.hbm, 656, rfl⟩
abbrev main_call3_call5_v6 : Ref sig .tc := ⟨.hbm, 657, rfl⟩
abbrev main_call3_call5_c_0 : Ref sig .tc := ⟨.hbm, 658, rfl⟩
abbrev main_call3_call5_v7 : Ref sig .tc := ⟨.hbm, 659, rfl⟩
abbrev main_call3_call5_v8 : Ref sig .tc := ⟨.hbm, 660, rfl⟩
abbrev main_call3_call5_c_1 : Ref sig .tc := ⟨.hbm, 661, rfl⟩
abbrev main_call3_call5_v9 : Ref sig .tc := ⟨.hbm, 662, rfl⟩
abbrev main_call3_call5_v10 : Ref sig .tc := ⟨.hbm, 663, rfl⟩
abbrev main_call3_call5_v11 : Ref sig .tc := ⟨.hbm, 664, rfl⟩
abbrev main_call3_call5_v12 : Ref sig .tc := ⟨.hbm, 665, rfl⟩
abbrev main_call3_call5_v13 : Ref sig .tc := ⟨.hbm, 666, rfl⟩
abbrev main_call3_call5_c_2 : Ref sig .tc := ⟨.hbm, 667, rfl⟩
abbrev main_call3_call5_v14 : Ref sig .tc := ⟨.hbm, 668, rfl⟩
abbrev main_call3_call5_v15 : Ref sig .tc := ⟨.hbm, 669, rfl⟩
abbrev main_call3_call5_c_3 : Ref sig .tc := ⟨.hbm, 670, rfl⟩
abbrev main_call3_call5_v16 : Ref sig .tc := ⟨.hbm, 671, rfl⟩
abbrev main_call3_call5_v17 : Ref sig .tc := ⟨.hbm, 672, rfl⟩
abbrev main_call3_call5_v18 : Ref sig .tc := ⟨.hbm, 673, rfl⟩
abbrev main_call3_call5_v19 : Ref sig .tc := ⟨.hbm, 674, rfl⟩
abbrev main_call3_call5_v20 : Ref sig .tc := ⟨.hbm, 675, rfl⟩
abbrev main_call3_call5_c_4 : Ref sig .tc := ⟨.hbm, 676, rfl⟩
abbrev main_call3_call5_v21 : Ref sig .tc := ⟨.hbm, 677, rfl⟩
abbrev main_call3_call5_v22 : Ref sig .tc := ⟨.hbm, 678, rfl⟩
abbrev main_call3_call5_c_5 : Ref sig .tc := ⟨.hbm, 679, rfl⟩
abbrev main_call3_call5_v23 : Ref sig .tc := ⟨.hbm, 680, rfl⟩
abbrev main_call3_call5_v24 : Ref sig .tc := ⟨.hbm, 681, rfl⟩
abbrev main_call3_call5_v25 : Ref sig .tc := ⟨.hbm, 682, rfl⟩
abbrev main_call3_call5_v26 : Ref sig .tc := ⟨.hbm, 683, rfl⟩
abbrev main_call3_call5_v27 : Ref sig .tc := ⟨.hbm, 684, rfl⟩
abbrev main_call3_call5_c_6 : Ref sig .tc := ⟨.hbm, 685, rfl⟩
abbrev main_call3_call5_v28 : Ref sig .tc := ⟨.hbm, 686, rfl⟩
abbrev main_call3_call5_v29 : Ref sig .tc := ⟨.hbm, 687, rfl⟩
abbrev main_call3_call5_c_7 : Ref sig .tc := ⟨.hbm, 688, rfl⟩
abbrev main_call3_call5_v30 : Ref sig .tc := ⟨.hbm, 689, rfl⟩
abbrev main_call3_call5_v31 : Ref sig .tc := ⟨.hbm, 690, rfl⟩
abbrev main_call3_call5_v32 : Ref sig .tc := ⟨.hbm, 691, rfl⟩
abbrev main_call3_call5_v33 : Ref sig .tc := ⟨.hbm, 692, rfl⟩
abbrev main_call3_call5_v34 : Ref sig .tc := ⟨.hbm, 693, rfl⟩
abbrev main_call3_call5_v35 : Ref sig .tc := ⟨.hbm, 694, rfl⟩
abbrev main_call3_call5_v36 : Ref sig .tc := ⟨.hbm, 695, rfl⟩
abbrev main_call3_call5_v37 : Ref sig .tc := ⟨.hbm, 696, rfl⟩
abbrev main_call3_call5_c_8 : Ref sig .tc := ⟨.hbm, 697, rfl⟩
abbrev main_call3_call5_v38 : Ref sig .tc := ⟨.hbm, 698, rfl⟩
abbrev main_call3_call5_v39 : Ref sig .tc := ⟨.hbm, 699, rfl⟩
abbrev main_call3_call5_v40 : Ref sig .tc := ⟨.hbm, 700, rfl⟩
abbrev main_call3_call5_c_9 : Ref sig .tc := ⟨.hbm, 701, rfl⟩
abbrev main_call3_call5_v41 : Ref sig .tc := ⟨.hbm, 702, rfl⟩
abbrev main_call3_call5_v42 : Ref sig .tc := ⟨.hbm, 703, rfl⟩
abbrev main_call3_call5_c_10 : Ref sig .tc := ⟨.hbm, 704, rfl⟩
abbrev main_call3_call5_v43 : Ref sig .tc := ⟨.hbm, 705, rfl⟩
abbrev main_call3_call5_v44 : Ref sig .tc := ⟨.hbm, 706, rfl⟩
abbrev main_call3_call5_v45 : Ref sig .tc := ⟨.hbm, 707, rfl⟩
abbrev main_call3_call5_v46 : Ref sig .tc := ⟨.hbm, 708, rfl⟩
abbrev main_call3_call5_v47 : Ref sig .tc := ⟨.hbm, 709, rfl⟩
abbrev main_call3_call5_c_11 : Ref sig .tc := ⟨.hbm, 710, rfl⟩
abbrev main_call3_call5_v48 : Ref sig .tc := ⟨.hbm, 711, rfl⟩
abbrev main_call3_call5_v49 : Ref sig .tc := ⟨.hbm, 712, rfl⟩
abbrev main_call3_call5_c_12 : Ref sig .tc := ⟨.hbm, 713, rfl⟩
abbrev main_call3_call5_v50 : Ref sig .tc := ⟨.hbm, 714, rfl⟩
abbrev main_call3_call5_v51 : Ref sig .tc := ⟨.hbm, 715, rfl⟩
abbrev main_call3_call5_v52 : Ref sig .tc := ⟨.hbm, 716, rfl⟩
abbrev main_call3_call5_v53 : Ref sig .tc := ⟨.hbm, 717, rfl⟩
abbrev main_call3_call5_v54 : Ref sig .tc := ⟨.hbm, 718, rfl⟩
abbrev main_call3_call5_c_13 : Ref sig .tc := ⟨.hbm, 719, rfl⟩
abbrev main_call3_call5_v55 : Ref sig .tc := ⟨.hbm, 720, rfl⟩
abbrev main_call3_call5_v56 : Ref sig .tc := ⟨.hbm, 721, rfl⟩
abbrev main_call3_call5_c_14 : Ref sig .tc := ⟨.hbm, 722, rfl⟩
abbrev main_call3_call5_v57 : Ref sig .tc := ⟨.hbm, 723, rfl⟩
abbrev main_call3_call5_v58 : Ref sig .tc := ⟨.hbm, 724, rfl⟩
abbrev main_call3_call5_v59 : Ref sig .tc := ⟨.hbm, 725, rfl⟩
abbrev main_call3_call5_v60 : Ref sig .tc := ⟨.hbm, 726, rfl⟩
abbrev main_call3_call5_v61 : Ref sig .tc := ⟨.hbm, 727, rfl⟩
abbrev main_call3_call5_c_15 : Ref sig .tc := ⟨.hbm, 728, rfl⟩
abbrev main_call3_call5_v62 : Ref sig .tc := ⟨.hbm, 729, rfl⟩
abbrev main_call3_call5_v63 : Ref sig .tc := ⟨.hbm, 730, rfl⟩
abbrev main_call3_call5_c_16 : Ref sig .tc := ⟨.hbm, 731, rfl⟩
abbrev main_call3_call5_v64 : Ref sig .tc := ⟨.hbm, 732, rfl⟩
abbrev main_call3_call5_v65 : Ref sig .tc := ⟨.hbm, 733, rfl⟩
abbrev main_call3_call5_v66 : Ref sig .tc := ⟨.hbm, 734, rfl⟩
abbrev main_call3_call5_v67 : Ref sig .tc := ⟨.hbm, 735, rfl⟩
abbrev main_call3_call5_v68 : Ref sig .tc := ⟨.hbm, 736, rfl⟩
abbrev main_call3_call5_v69 : Ref sig .tc := ⟨.hbm, 737, rfl⟩
abbrev main_call3_call5_v70 : Ref sig .tc := ⟨.hbm, 738, rfl⟩
abbrev main_call3_call5_v71 : Ref sig .tc := ⟨.hbm, 739, rfl⟩
abbrev main_call3_call5_c_17 : Ref sig .tc := ⟨.hbm, 740, rfl⟩
abbrev main_call3_call5_v72 : Ref sig .tc := ⟨.hbm, 741, rfl⟩
abbrev main_call3_call5_v73 : Ref sig .tc := ⟨.hbm, 742, rfl⟩
abbrev main_call3_call5_v74 : Ref sig .tc := ⟨.hbm, 743, rfl⟩
abbrev main_call3_call5_c_18 : Ref sig .tc := ⟨.hbm, 744, rfl⟩
abbrev main_call3_call5_v75 : Ref sig .tc := ⟨.hbm, 745, rfl⟩
abbrev main_call3_call5_v76 : Ref sig .tc := ⟨.hbm, 746, rfl⟩
abbrev main_call3_call5_c_19 : Ref sig .tc := ⟨.hbm, 747, rfl⟩
abbrev main_call3_call5_v77 : Ref sig .tc := ⟨.hbm, 748, rfl⟩
abbrev main_call3_call5_v78 : Ref sig .tc := ⟨.hbm, 749, rfl⟩
abbrev main_call3_call5_v79 : Ref sig .tc := ⟨.hbm, 750, rfl⟩
abbrev main_call3_call5_v80 : Ref sig .tc := ⟨.hbm, 751, rfl⟩
abbrev main_call3_call5_v81 : Ref sig .tc := ⟨.hbm, 752, rfl⟩
abbrev main_call3_call5_c_20 : Ref sig .tc := ⟨.hbm, 753, rfl⟩
abbrev main_call3_call5_v82 : Ref sig .tc := ⟨.hbm, 754, rfl⟩
abbrev main_call3_call5_v83 : Ref sig .tc := ⟨.hbm, 755, rfl⟩
abbrev main_call3_call5_c_21 : Ref sig .tc := ⟨.hbm, 756, rfl⟩
abbrev main_call3_call5_v84 : Ref sig .tc := ⟨.hbm, 757, rfl⟩
abbrev main_call3_call5_v85 : Ref sig .tc := ⟨.hbm, 758, rfl⟩
abbrev main_call3_call5_v86 : Ref sig .tc := ⟨.hbm, 759, rfl⟩
abbrev main_call3_call5_v87 : Ref sig .tc := ⟨.hbm, 760, rfl⟩
abbrev main_call3_call5_v88 : Ref sig .tc := ⟨.hbm, 761, rfl⟩
abbrev main_call3_call5_c_22 : Ref sig .tc := ⟨.hbm, 762, rfl⟩
abbrev main_call3_call5_v89 : Ref sig .tc := ⟨.hbm, 763, rfl⟩
abbrev main_call3_call5_v90 : Ref sig .tc := ⟨.hbm, 764, rfl⟩
abbrev main_call3_call5_c_23 : Ref sig .tc := ⟨.hbm, 765, rfl⟩
abbrev main_call3_call5_v91 : Ref sig .tc := ⟨.hbm, 766, rfl⟩
abbrev main_call3_call5_v92 : Ref sig .tc := ⟨.hbm, 767, rfl⟩
abbrev main_call3_call5_v93 : Ref sig .tc := ⟨.hbm, 768, rfl⟩
abbrev main_call3_call5_v94 : Ref sig .tc := ⟨.hbm, 769, rfl⟩
abbrev main_call3_call5_v95 : Ref sig .tc := ⟨.hbm, 770, rfl⟩
abbrev main_call3_call5_c_24 : Ref sig .tc := ⟨.hbm, 771, rfl⟩
abbrev main_call3_call5_v96 : Ref sig .tc := ⟨.hbm, 772, rfl⟩
abbrev main_call3_call5_v97 : Ref sig .tc := ⟨.hbm, 773, rfl⟩
abbrev main_call3_call5_c_25 : Ref sig .tc := ⟨.hbm, 774, rfl⟩
abbrev main_call3_call5_v98 : Ref sig .tc := ⟨.hbm, 775, rfl⟩
abbrev main_call3_call5_v99 : Ref sig .tc := ⟨.hbm, 776, rfl⟩
abbrev main_call3_call5_v100 : Ref sig .tc := ⟨.hbm, 777, rfl⟩
abbrev main_call3_call5_v101 : Ref sig .tc := ⟨.hbm, 778, rfl⟩
abbrev main_call3_call5_v102 : Ref sig .tc := ⟨.hbm, 779, rfl⟩
abbrev main_call3_call5_v103 : Ref sig .tc := ⟨.hbm, 780, rfl⟩
abbrev main_call3_call5_v104 : Ref sig .tc := ⟨.hbm, 781, rfl⟩
abbrev main_call3_call5_v105 : Ref sig .tc := ⟨.hbm, 782, rfl⟩
abbrev main_call3_call5_c_26 : Ref sig .tc := ⟨.hbm, 783, rfl⟩
abbrev main_call3_call5_v106 : Ref sig .tc := ⟨.hbm, 784, rfl⟩
abbrev main_call3_call5_v107 : Ref sig .tc := ⟨.hbm, 785, rfl⟩
abbrev main_call3_call5_v108 : Ref sig .tc := ⟨.hbm, 786, rfl⟩
abbrev main_call3_call5_c_27 : Ref sig .tc := ⟨.hbm, 787, rfl⟩
abbrev main_call3_call5_v109 : Ref sig .tc := ⟨.hbm, 788, rfl⟩
abbrev main_call3_call5_v110 : Ref sig .tc := ⟨.hbm, 789, rfl⟩
abbrev main_call3_call5_c_28 : Ref sig .tc := ⟨.hbm, 790, rfl⟩
abbrev main_call3_call5_v111 : Ref sig .tc := ⟨.hbm, 791, rfl⟩
abbrev main_call3_call5_v112 : Ref sig .tc := ⟨.hbm, 792, rfl⟩
abbrev main_call3_call5_v113 : Ref sig .tc := ⟨.hbm, 793, rfl⟩
abbrev main_call3_call5_v114 : Ref sig .tc := ⟨.hbm, 794, rfl⟩
abbrev main_call3_call5_v115 : Ref sig .tc := ⟨.hbm, 795, rfl⟩
abbrev main_call3_call5_c_29 : Ref sig .tc := ⟨.hbm, 796, rfl⟩
abbrev main_call3_call5_v116 : Ref sig .tc := ⟨.hbm, 797, rfl⟩
abbrev main_call3_call5_v117 : Ref sig .tc := ⟨.hbm, 798, rfl⟩
abbrev main_call3_call5_c_30 : Ref sig .tc := ⟨.hbm, 799, rfl⟩
abbrev main_call3_call5_v118 : Ref sig .tc := ⟨.hbm, 800, rfl⟩
abbrev main_call3_call5_v119 : Ref sig .tc := ⟨.hbm, 801, rfl⟩
abbrev main_call3_call5_v120 : Ref sig .tc := ⟨.hbm, 802, rfl⟩
abbrev main_call3_call5_v121 : Ref sig .tc := ⟨.hbm, 803, rfl⟩
abbrev main_call3_call5_v122 : Ref sig .tc := ⟨.hbm, 804, rfl⟩
abbrev main_call3_call5_c_31 : Ref sig .tc := ⟨.hbm, 805, rfl⟩
abbrev main_call3_call5_v123 : Ref sig .tc := ⟨.hbm, 806, rfl⟩
abbrev main_call3_call5_v124 : Ref sig .tc := ⟨.hbm, 807, rfl⟩
abbrev main_call3_call5_c_32 : Ref sig .tc := ⟨.hbm, 808, rfl⟩
abbrev main_call3_call5_v125 : Ref sig .tc := ⟨.hbm, 809, rfl⟩
abbrev main_call3_call5_v126 : Ref sig .tc := ⟨.hbm, 810, rfl⟩
abbrev main_call3_call5_v127 : Ref sig .tc := ⟨.hbm, 811, rfl⟩
abbrev main_call3_call5_v128 : Ref sig .tc := ⟨.hbm, 812, rfl⟩
abbrev main_call3_call5_v129 : Ref sig .tc := ⟨.hbm, 813, rfl⟩
abbrev main_call3_call5_c_33 : Ref sig .tc := ⟨.hbm, 814, rfl⟩
abbrev main_call3_call5_v130 : Ref sig .tc := ⟨.hbm, 815, rfl⟩
abbrev main_call3_call5_v131 : Ref sig .tc := ⟨.hbm, 816, rfl⟩
abbrev main_call3_call5_c_34 : Ref sig .tc := ⟨.hbm, 817, rfl⟩
abbrev main_call3_call5_v132 : Ref sig .tc := ⟨.hbm, 818, rfl⟩
abbrev main_call3_call5_v133 : Ref sig .tc := ⟨.hbm, 819, rfl⟩
abbrev main_call3_call5_v134 : Ref sig .tc := ⟨.hbm, 820, rfl⟩
abbrev main_call3_call5_v135 : Ref sig .tc := ⟨.hbm, 821, rfl⟩
abbrev main_call3_call5_v136 : Ref sig .tc := ⟨.hbm, 822, rfl⟩
abbrev main_call3_call5_v137 : Ref sig .tc := ⟨.hbm, 823, rfl⟩
abbrev main_call3_call5_v138 : Ref sig .tc := ⟨.hbm, 824, rfl⟩
abbrev main_call3_call5_v139 : Ref sig .tc := ⟨.hbm, 825, rfl⟩
abbrev main_call3_call5_c_35 : Ref sig .tc := ⟨.hbm, 826, rfl⟩
abbrev main_call3_call5_v140 : Ref sig .tc := ⟨.hbm, 827, rfl⟩
abbrev main_call3_call5_v141 : Ref sig .tc := ⟨.hbm, 828, rfl⟩
abbrev main_call3_call5_v142 : Ref sig .tc := ⟨.hbm, 829, rfl⟩
abbrev main_call3_call5_c_36 : Ref sig .tc := ⟨.hbm, 830, rfl⟩
abbrev main_call3_call5_v143 : Ref sig .tc := ⟨.hbm, 831, rfl⟩
abbrev main_call3_call5_v144 : Ref sig .tc := ⟨.hbm, 832, rfl⟩
abbrev main_call3_call5_c_37 : Ref sig .tc := ⟨.hbm, 833, rfl⟩
abbrev main_call3_call5_v145 : Ref sig .tc := ⟨.hbm, 834, rfl⟩
abbrev main_call3_call5_v146 : Ref sig .tc := ⟨.hbm, 835, rfl⟩
abbrev main_call3_call5_v147 : Ref sig .tc := ⟨.hbm, 836, rfl⟩
abbrev main_call3_call5_v148 : Ref sig .tc := ⟨.hbm, 837, rfl⟩
abbrev main_call3_call5_v149 : Ref sig .tc := ⟨.hbm, 838, rfl⟩
abbrev main_call3_call5_c_38 : Ref sig .tc := ⟨.hbm, 839, rfl⟩
abbrev main_call3_call5_v150 : Ref sig .tc := ⟨.hbm, 840, rfl⟩
abbrev main_call3_call5_v151 : Ref sig .tc := ⟨.hbm, 841, rfl⟩
abbrev main_call3_call5_c_39 : Ref sig .tc := ⟨.hbm, 842, rfl⟩
abbrev main_call3_call5_v152 : Ref sig .tc := ⟨.hbm, 843, rfl⟩
abbrev main_call3_call5_v153 : Ref sig .tc := ⟨.hbm, 844, rfl⟩
abbrev main_call3_call5_v154 : Ref sig .tc := ⟨.hbm, 845, rfl⟩
abbrev main_call3_call5_v155 : Ref sig .tc := ⟨.hbm, 846, rfl⟩
abbrev main_call3_call5_v156 : Ref sig .tc := ⟨.hbm, 847, rfl⟩
abbrev main_call3_call5_c_40 : Ref sig .tc := ⟨.hbm, 848, rfl⟩
abbrev main_call3_call5_v157 : Ref sig .tc := ⟨.hbm, 849, rfl⟩
abbrev main_call3_call5_v158 : Ref sig .tc := ⟨.hbm, 850, rfl⟩
abbrev main_call3_call5_c_41 : Ref sig .tc := ⟨.hbm, 851, rfl⟩
abbrev main_call3_call5_v159 : Ref sig .tc := ⟨.hbm, 852, rfl⟩
abbrev main_call3_call5_v160 : Ref sig .tc := ⟨.hbm, 853, rfl⟩
abbrev main_call3_call5_v161 : Ref sig .tc := ⟨.hbm, 854, rfl⟩
abbrev main_call3_call5_v162 : Ref sig .tc := ⟨.hbm, 855, rfl⟩
abbrev main_call3_call5_v163 : Ref sig .tc := ⟨.hbm, 856, rfl⟩
abbrev main_call3_call5_c_42 : Ref sig .tc := ⟨.hbm, 857, rfl⟩
abbrev main_call3_call5_v164 : Ref sig .tc := ⟨.hbm, 858, rfl⟩
abbrev main_call3_call5_v165 : Ref sig .tc := ⟨.hbm, 859, rfl⟩
abbrev main_call3_call5_c_43 : Ref sig .tc := ⟨.hbm, 860, rfl⟩
abbrev main_call3_call5_v166 : Ref sig .tc := ⟨.hbm, 861, rfl⟩
abbrev main_call3_call5_v167 : Ref sig .tc := ⟨.hbm, 862, rfl⟩
abbrev main_call3_call5_v168 : Ref sig .tc := ⟨.hbm, 863, rfl⟩
abbrev main_call3_call5_v169 : Ref sig .tc := ⟨.hbm, 864, rfl⟩
abbrev main_call3_call5_v170 : Ref sig .tc := ⟨.hbm, 865, rfl⟩
abbrev main_call3_v69_0 : Ref sig .tc := ⟨.hbm, 866, rfl⟩
abbrev main_call3_call5_v172 : Ref sig .tc := ⟨.hbm, 867, rfl⟩
abbrev main_call3_call5_v173 : Ref sig .tc := ⟨.hbm, 868, rfl⟩
abbrev main_call3_call5_c_44 : Ref sig .tc := ⟨.hbm, 869, rfl⟩
abbrev main_call3_call5_v174 : Ref sig .tc := ⟨.hbm, 870, rfl⟩
abbrev main_call3_v69_1 : Ref sig .tc := ⟨.hbm, 871, rfl⟩
abbrev main_call3_v70 : Ref sig .tc := ⟨.hbm, 872, rfl⟩
abbrev main_call3_v71 : Ref sig .tc := ⟨.hbm, 873, rfl⟩
abbrev main_call3_v72 : Ref sig .tc := ⟨.hbm, 874, rfl⟩
abbrev main_call3_v73 : Ref sig .tc := ⟨.hbm, 875, rfl⟩
abbrev main_call3_c_18 : Ref sig .tc := ⟨.hbm, 876, rfl⟩
abbrev main_call3_v74 : Ref sig .tc := ⟨.hbm, 877, rfl⟩
abbrev main_call3_v75 : Ref sig .tc := ⟨.hbm, 878, rfl⟩
abbrev main_call3_v76 : Ref sig .tc := ⟨.hbm, 879, rfl⟩
abbrev main_call3_v77 : Ref sig .tc := ⟨.hbm, 880, rfl⟩
abbrev main_call3_v78 : Ref sig .tc := ⟨.hbm, 881, rfl⟩
abbrev main_call3_c_19 : Ref sig .tc := ⟨.hbm, 882, rfl⟩
abbrev main_call3_v79 : Ref sig .tc := ⟨.hbm, 883, rfl⟩
abbrev main_call3_v80 : Ref sig .tc := ⟨.hbm, 884, rfl⟩
abbrev main_call3_v81 : Ref sig .tc := ⟨.hbm, 885, rfl⟩
abbrev main_call3_c_20 : Ref sig .tc := ⟨.hbm, 886, rfl⟩
abbrev main_call3_v82 : Ref sig .tc := ⟨.hbm, 887, rfl⟩
abbrev main_call3_v83 : Ref sig .tc := ⟨.hbm, 888, rfl⟩
abbrev main_call3_v84 : Ref sig .tc := ⟨.hbm, 889, rfl⟩
abbrev main_call3_v85 : Ref sig .tc := ⟨.hbm, 890, rfl⟩
abbrev main_call3_v86 : Ref sig .tc := ⟨.hbm, 891, rfl⟩
abbrev main_call3_v87 : Ref sig .tc := ⟨.hbm, 892, rfl⟩
abbrev main_call3_v88 : Ref sig .tc := ⟨.hbm, 893, rfl⟩
abbrev main_call3_v89 : Ref sig .tc := ⟨.hbm, 894, rfl⟩
abbrev main_call3_v90 : Ref sig .tc := ⟨.hbm, 895, rfl⟩
abbrev main_call3_v91 : Ref sig .tc := ⟨.hbm, 896, rfl⟩
abbrev main_call3_v92 : Ref sig .tc := ⟨.hbm, 897, rfl⟩
abbrev main_call3_v93 : Ref sig .tc := ⟨.hbm, 898, rfl⟩
abbrev main_call3_v94 : Ref sig .tc := ⟨.hbm, 899, rfl⟩
abbrev main_call3_v95 : Ref sig .tc := ⟨.hbm, 900, rfl⟩
abbrev main_call3_v96 : Ref sig .tc := ⟨.hbm, 901, rfl⟩
abbrev main_v53 : Ref sig .tc := ⟨.hbm, 902, rfl⟩
abbrev main_v54 : Ref sig .tc := ⟨.hbm, 903, rfl⟩
abbrev main_cst_13 : Ref sig .tc := ⟨.hbm, 904, rfl⟩
abbrev main_v55 : Ref sig .tc := ⟨.hbm, 905, rfl⟩
abbrev main_v56 : Ref sig .tc := ⟨.hbm, 906, rfl⟩
abbrev main_cst_14 : Ref sig .tc := ⟨.hbm, 907, rfl⟩
abbrev main_v57 : Ref sig .tc := ⟨.hbm, 908, rfl⟩
abbrev main_v58 : Ref sig .tc := ⟨.hbm, 909, rfl⟩
abbrev main_cst_15 : Ref sig .tc := ⟨.hbm, 910, rfl⟩
abbrev main_v59 : Ref sig .tc := ⟨.hbm, 911, rfl⟩
abbrev main_v60 : Ref sig .tc := ⟨.hbm, 912, rfl⟩
abbrev main_v61 : Ref sig .tc := ⟨.hbm, 913, rfl⟩
abbrev main_v62 : Ref sig .tc := ⟨.hbm, 914, rfl⟩
abbrev main_v63 : Ref sig .tc := ⟨.hbm, 915, rfl⟩
abbrev main_v64 : Ref sig .tc := ⟨.hbm, 916, rfl⟩
abbrev main_v65 : Ref sig .tc := ⟨.hbm, 917, rfl⟩
abbrev main_v66 : Ref sig .tc := ⟨.hbm, 918, rfl⟩
abbrev main_v67 : Ref sig .tc := ⟨.hbm, 919, rfl⟩
abbrev main_v68 : Ref sig .tc := ⟨.hbm, 920, rfl⟩
abbrev main_cst_16 : Ref sig .tc := ⟨.hbm, 921, rfl⟩
abbrev main_v69 : Ref sig .tc := ⟨.hbm, 922, rfl⟩
abbrev main_v70 : Ref sig .tc := ⟨.hbm, 923, rfl⟩
abbrev main_v71 : Ref sig .tc := ⟨.hbm, 924, rfl⟩
abbrev main_v72 : Ref sig .tc := ⟨.hbm, 925, rfl⟩
abbrev main_v73 : Ref sig .tc := ⟨.hbm, 926, rfl⟩
abbrev main_v74 : Ref sig .tc := ⟨.hbm, 927, rfl⟩
abbrev main_v75 : Ref sig .tc := ⟨.hbm, 928, rfl⟩
abbrev main_v76 : Ref sig .tc := ⟨.hbm, 929, rfl⟩
abbrev main_v77 : Ref sig .tc := ⟨.hbm, 930, rfl⟩
abbrev main_v78 : Ref sig .tc := ⟨.hbm, 931, rfl⟩
abbrev main_cst_17 : Ref sig .tc := ⟨.hbm, 932, rfl⟩
abbrev main_v79 : Ref sig .tc := ⟨.hbm, 933, rfl⟩
abbrev main_v80 : Ref sig .tc := ⟨.hbm, 934, rfl⟩
abbrev main_v81 : Ref sig .tc := ⟨.hbm, 935, rfl⟩
abbrev main_v82 : Ref sig .tc := ⟨.hbm, 936, rfl⟩
abbrev main_v83 : Ref sig .tc := ⟨.hbm, 937, rfl⟩
abbrev main_v84 : Ref sig .tc := ⟨.hbm, 938, rfl⟩
abbrev main_v85 : Ref sig .tc := ⟨.hbm, 939, rfl⟩
abbrev main_v86 : Ref sig .tc := ⟨.hbm, 940, rfl⟩
abbrev main_v87 : Ref sig .tc := ⟨.hbm, 941, rfl⟩
abbrev main_v88 : Ref sig .tc := ⟨.hbm, 942, rfl⟩
abbrev main_cst_18 : Ref sig .tc := ⟨.hbm, 943, rfl⟩
abbrev main_v89 : Ref sig .tc := ⟨.hbm, 944, rfl⟩
abbrev main_v90 : Ref sig .tc := ⟨.hbm, 945, rfl⟩
abbrev main_v91 : Ref sig .tc := ⟨.hbm, 946, rfl⟩
abbrev main_v92 : Ref sig .tc := ⟨.hbm, 947, rfl⟩
abbrev main_v93 : Ref sig .tc := ⟨.hbm, 948, rfl⟩
abbrev main_v94 : Ref sig .tc := ⟨.hbm, 949, rfl⟩
abbrev main_v95 : Ref sig .tc := ⟨.hbm, 950, rfl⟩
abbrev main_v96 : Ref sig .tc := ⟨.hbm, 951, rfl⟩
abbrev main_v97 : Ref sig .tc := ⟨.hbm, 952, rfl⟩
abbrev main_v98 : Ref sig .tc := ⟨.hbm, 953, rfl⟩
abbrev main_cst_19 : Ref sig .tc := ⟨.hbm, 954, rfl⟩
abbrev main_v99 : Ref sig .tc := ⟨.hbm, 955, rfl⟩
abbrev main_v100 : Ref sig .tc := ⟨.hbm, 956, rfl⟩
abbrev main_v101 : Ref sig .tc := ⟨.hbm, 957, rfl⟩
abbrev main_v102 : Ref sig .tc := ⟨.hbm, 958, rfl⟩
abbrev main_v103 : Ref sig .tc := ⟨.hbm, 959, rfl⟩
abbrev main_c_20 : Ref sig .tc := ⟨.hbm, 960, rfl⟩
abbrev main_call4_cst : Ref sig .tc := ⟨.hbm, 961, rfl⟩
abbrev main_call4_v0 : Ref sig .tc := ⟨.hbm, 962, rfl⟩
abbrev main_call4_v1 : Ref sig .tc := ⟨.hbm, 963, rfl⟩
abbrev main_call4_cst_0 : Ref sig .tc := ⟨.hbm, 964, rfl⟩
abbrev main_call4_v2 : Ref sig .tc := ⟨.hbm, 965, rfl⟩
abbrev main_call4_v3 : Ref sig .tc := ⟨.hbm, 966, rfl⟩
abbrev main_call4_v4 : Ref sig .tc := ⟨.hbm, 967, rfl⟩
abbrev main_call4_v5 : Ref sig .tc := ⟨.hbm, 968, rfl⟩
abbrev main_call4_v6 : Ref sig .tc := ⟨.hbm, 969, rfl⟩
abbrev main_call4_v7 : Ref sig .tc := ⟨.hbm, 970, rfl⟩
abbrev main_call4_cst_1 : Ref sig .tc := ⟨.hbm, 971, rfl⟩
abbrev main_call4_v8 : Ref sig .tc := ⟨.hbm, 972, rfl⟩
abbrev main_call4_cst_2 : Ref sig .tc := ⟨.hbm, 973, rfl⟩
abbrev main_call4_v9 : Ref sig .tc := ⟨.hbm, 974, rfl⟩
abbrev main_call4_v10 : Ref sig .tc := ⟨.hbm, 975, rfl⟩
abbrev main_call4_v11 : Ref sig .tc := ⟨.hbm, 976, rfl⟩
abbrev main_call4_cst_3 : Ref sig .tc := ⟨.hbm, 977, rfl⟩
abbrev main_call4_v12 : Ref sig .tc := ⟨.hbm, 978, rfl⟩
abbrev main_call4_cst_4 : Ref sig .tc := ⟨.hbm, 979, rfl⟩
abbrev main_call4_call0_v0 : Ref sig .tc := ⟨.hbm, 980, rfl⟩
abbrev main_call4_call0_v1 : Ref sig .tc := ⟨.hbm, 981, rfl⟩
abbrev main_v104 : Ref sig .tc := ⟨.hbm, 982, rfl⟩
abbrev main_cst_21 : Ref sig .tc := ⟨.hbm, 983, rfl⟩
abbrev main_v105 : Ref sig .tc := ⟨.hbm, 984, rfl⟩
abbrev main_v106 : Ref sig .tc := ⟨.hbm, 985, rfl⟩
abbrev main_v107 : Ref sig .tc := ⟨.hbm, 986, rfl⟩
abbrev main_v108 : Ref sig .tc := ⟨.hbm, 987, rfl⟩
abbrev main_cst_22 : Ref sig .tc := ⟨.hbm, 988, rfl⟩
abbrev main_v109 : Ref sig .tc := ⟨.hbm, 989, rfl⟩
abbrev main_c_23 : Ref sig .tc := ⟨.hbm, 990, rfl⟩
abbrev main_v110 : Ref sig .tc := ⟨.hbm, 991, rfl⟩
abbrev main_v111 : Ref sig .tc := ⟨.hbm, 992, rfl⟩
abbrev main_c_24 : Ref sig .tc := ⟨.hbm, 993, rfl⟩
abbrev main_v112 : Ref sig .tc := ⟨.hbm, 994, rfl⟩
abbrev main_v113 : Ref sig .tc := ⟨.hbm, 995, rfl⟩
abbrev main_v114 : Ref sig .tc := ⟨.hbm, 996, rfl⟩
abbrev main_v115 : Ref sig .tc := ⟨.hbm, 997, rfl⟩
abbrev main_cst_25 : Ref sig .tc := ⟨.hbm, 998, rfl⟩
abbrev main_v116 : Ref sig .tc := ⟨.hbm, 999, rfl⟩
abbrev main_v117 : Ref sig .tc := ⟨.hbm, 1000, rfl⟩
abbrev main_v118 : Ref sig .tc := ⟨.hbm, 1001, rfl⟩
abbrev main_v119 : Ref sig .tc := ⟨.hbm, 1002, rfl⟩

abbrev nD : Nat := 1
abbrev τ : Topo := Topo.v7x

variable {F : FTy → Type} [FloatOps F]
-- ==== Proof.KernelIdealFrame.lean ====
/- The idealized kernel's run: what each of its two regions leaves in its arrays, and the fold of the buffers' contents
   through @main. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.ValueKit.Acc
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0__conv_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1024x384 := Rect.unit (s := S1024x384) ![0, 0] S1024x384.size inb_S1024x384_S1024x384_0_0
abbrev r0_1 : Rect S64x384 := Rect.unit (s := S64x384) ![0, 0] S64x384.size inb_S64x384_S64x384_0_0
abbrev r0_2 : Rect S1024x64 := Rect.unit (s := S1024x64) ![0, 0] S1024x64.size inb_S1024x64_S1024x64_0_0

/-! ## What the body leaves in each output window's buffer -/

/-- Window 2's staging buffer after the body, from the input windows' blocks: its 1 store as pieces, LAST
    FIRST (Lib/Pipeline/FrameBody.lean `View.canon`; the payloads are the skeleton's). -/
def out0_2 (x0 : Vec F S1024x384 .f32) (x1 : Vec F S64x384 .f32) : Vec F S1024x64 .f32 :=
  View.canon [⟨r0_2, k0_pay1 (View.ld x0 r0_0) (View.ld x1 r0_1)⟩]

/-- Its stores tile the buffer (checked by evaluation), so they cover it. -/
theorem cover0_2 (p0 : Vec F S1024x64 .f32) (y : S1024x64.Idx) :
    ∃ pc ∈ ([⟨r0_2, p0⟩] : List (View.Piece (Elt F) S1024x64 .f32)), y ∈ pc.1.set :=
  View.cover_of_tiled [⟨r0_2, p0⟩] S1024x64.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S1024x384 .f32) (harg1 : arg1.IsWhole) (arg2 : Memref sig .tc .vmem S64x384 .f32) (harg2 : arg2.IsWhole) (arg3 : Memref sig .tc .vmem S1024x64 .f32) (harg3 : arg3.IsWhole)
    (x0 : Vec F S1024x384 .f32) (x1 : Vec F S64x384 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__conv_kernel i arg1 harg1 arg2 harg2 arg3 harg3) K := by
  simp only [cc0__conv_kernel_eq_skeleton]; unfold cc0__conv_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # Region 1: the codebook kernel -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The tile of rows stays in window 0's buffer through the point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The codebook stays in window 1's buffer through the grid. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The kernel's condition holds at the first point only. -/
theorem hcond1 (t : Fin cfg1.N) : k1_cond1 (grid1.coords t) = 1#1 ↔ t.val = 0 := by
  have ht : t.val < 64 := Nat.lt_of_lt_of_eq t.isLt N_1
  have e0 : (grid1.coords t 0).val = t.val / 1 % 64 := Pipeline.Grid.coords_val t 0 (by decide) rfl
  have h : (Scalar.cmpi .ne (Scalar.extui (Scalar.cmpi .eq (BitVec.ofNat 32 (grid1.coords t 0).val) 0#32)) 0#32) = 1#1 ↔ t.val % 64 = 0 := by
    simp only [e0]
    word_cmp
  have h' : k1_cond1 (grid1.coords t) = 1#1 ↔ t.val % 64 = 0 := h
  rw [h', Nat.mod_eq_of_lt ht]

abbrev rIdx : Rect S1x1x128 := Rect.unit (s := S1x1x128) ![0, 0, 0] S1x1x128.size inb_S1x1x128_S1x1x128_0_0_0
abbrev rZq : Rect S1x128x64 := Rect.unit (s := S1x128x64) ![0, 0, 0] S1x128x64.size inb_S1x128x64_S1x128x64_0_0_0
abbrev rMark : Rect S1x1x8192 := Rect.unit (s := S1x1x8192) ![0, 0, 0] S1x1x8192.size inb_S1x1x8192_S1x1x8192_0_0_0
abbrev rSum : Rect S1x1x64 := Rect.unit (s := S1x1x64) ![0, 0, 0] S1x1x64.size inb_S1x1x64_S1x1x64_0_0_0

/-- One store of a whole buffer leaves its payload, whatever was written before. -/
theorem read_store {S : Shape} {e : EltTy} {sp : Space} (v : View sig .tc sp S e) (f : v.ty.Contents (Elt F)) {off : Fin S.rank → Nat}
    (inb : ∀ a, off a + S.size a ≤ S.size a) (w : S.Idx → Elt F e) (L : List (View.Piece (Elt F) S e)) (h : ∀ a, off a = 0) :
    v.read (Elt F) (v.writes (Elt F) f (⟨Rect.unit off S.size inb, w⟩ :: L)) = w := by
  rw [View.read_writes_eq_canon v f _ fun y => ⟨_, List.mem_cons_self, by
    have e0 : off = fun _ => 0 := funext h
    subst e0
    show y ∈ (Rect.whole S).set; rw [Rect.set_whole]; exact Finset.mem_univ y⟩]
  exact View.canon_cons_unit_lit inb w L h

set_option maxHeartbeats 1000000 in
/-- The body at the first point: from the tile `x0` and the codebook `x1` it leaves the indices, the least distances, the
    chosen rows, the marks of this tile over a fresh buffer of zeros and the sum of the normalized rows. -/
theorem kernel1_first (c : Dev nD) (E : Set ℕ) (i : grid1.Coords) (arg1 : Memref sig .tc .vmem S128x64 .f32) (harg1 : arg1.IsWhole) (arg2 : Memref sig .tc .vmem S8192x64 .f32) (harg2 : arg2.IsWhole) (arg3 : Memref sig .tc .vmem S1x1x128 .i32) (harg3 : arg3.IsWhole) (arg4 : Memref sig .tc .vmem S1x1x128 .f32) (harg4 : arg4.IsWhole) (arg5 : Memref sig .tc .vmem S1x128x64 .f32) (harg5 : arg5.IsWhole) (arg6 : Memref sig .tc .vmem S1x1x8192 .f32) (harg6 : arg6.IsWhole) (arg7 : Memref sig .tc .vmem S1x1x64 .f32) (harg7 : arg7.IsWhole)
    (hc : k1_cond1 i = 1#1) (x0 : Vec F S128x64 .f32) (x1 : Vec F S8192x64 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare (k1_pay8 x0 x1) ∗ owns (c : Thread nD τ) arg4 fullShare (k1_pay9 x0 x1) ∗ owns (c : Thread nD τ) arg5 fullShare (k1_pay1 (k1_pay11 x0 x1)) ∗ owns (c : Thread nD τ) arg6 fullShare (k1_pay4 (k1_pay10 x0 x1) k1_pay2) ∗ owns (c : Thread nD τ) arg7 fullShare (k1_pay3 x1)) -∗ K ⟨⟩))
      ⊢ wp frame (wpE (defs₀ (F := F)) Variants.none c none) E (cc1__vq_kernel i arg1 harg1 arg2 harg2 arg3 harg3 arg4 harg4 arg5 harg5 arg6 harg6 arg7 harg7) K := by
  simp only [cc1__vq_kernel_eq_skeleton]; unfold cc1__vq_kernel_skel
  simp only [k1_part1_eq_skeleton]
  unfold owns
  iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, Hk⟩
  subst hf0 hf1
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (read_store _ _ _ _ _ (by decide)).trans ?_
    sl_unfold_words
    simp (disch := decide) only [View.readAt_eq_ld, View.ld_unit_lit', View.readCov_unit_lit', View.readCov_cons_unit_lit']
  isplitl [H3]
  · iexists _; isplitr
    swap; · iexact H3
    ipureintro
    refine (read_store _ _ _ _ _ (by decide)).trans ?_
    sl_unfold_words
    simp (disch := decide) only [View.readAt_eq_ld, View.ld_unit_lit', View.readCov_unit_lit', View.readCov_cons_unit_lit']
  isplitl [H4]
  · iexists _; isplitr
    swap; · iexact H4
    ipureintro
    refine (read_store _ _ _ _ _ (by decide)).trans ?_
    sl_unfold_words
    simp (disch := decide) only [View.readAt_eq_ld, View.ld_unit_lit', View.readCov_unit_lit', View.readCov_cons_unit_lit']
  isplitl [H5]
  · iexists _; isplitr
    swap; · iexact H5
    ipureintro
    refine (read_store _ _ _ _ _ (by decide)).trans ?_
    sl_unfold_words
    simp (disch := decide) only [View.readAt_eq_ld, View.ld_unit_lit']
    exact congrArg₂ k1_pay4 rfl (View.readCov_unit_lit _ _ _ (by decide))
  iexists _; isplitr
  swap; · iexact H6
  ipureintro
  refine (read_store _ _ _ _ _ (by decide)).trans ?_
  sl_unfold_words
  simp (disch := decide) only [View.readAt_eq_ld, View.ld_unit_lit', View.readCov_unit_lit', View.readCov_cons_unit_lit']

set_option maxHeartbeats 1000000 in
/-- The body at a later point: the marks of this tile join those found, `m`, and the sum of the normalized rows, `s`, is left
    as found. -/
theorem kernel1_later (c : Dev nD) (E : Set ℕ) (i : grid1.Coords) (arg1 : Memref sig .tc .vmem S128x64 .f32) (harg1 : arg1.IsWhole) (arg2 : Memref sig .tc .vmem S8192x64 .f32) (harg2 : arg2.IsWhole) (arg3 : Memref sig .tc .vmem S1x1x128 .i32) (harg3 : arg3.IsWhole) (arg4 : Memref sig .tc .vmem S1x1x128 .f32) (harg4 : arg4.IsWhole) (arg5 : Memref sig .tc .vmem S1x128x64 .f32) (harg5 : arg5.IsWhole) (arg6 : Memref sig .tc .vmem S1x1x8192 .f32) (harg6 : arg6.IsWhole) (arg7 : Memref sig .tc .vmem S1x1x64 .f32) (harg7 : arg7.IsWhole)
    (hc : ¬k1_cond1 i = 1#1) (x0 : Vec F S128x64 .f32) (x1 : Vec F S8192x64 .f32) (x5 : Vec F S1x1x8192 .f32) (x6 : Vec F S1x1x64 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare x5 ∗ owns (c : Thread nD τ) arg7 fullShare x6
        ∗ (iprop(owns (c : Thread nD τ) arg1 fullShare x0 ∗ owns (c : Thread nD τ) arg2 fullShare x1 ∗ owns (c : Thread nD τ) arg3 fullShare (k1_pay8 x0 x1) ∗ owns (c : Thread nD τ) arg4 fullShare (k1_pay9 x0 x1) ∗ owns (c : Thread nD τ) arg5 fullShare (k1_pay1 (k1_pay11 x0 x1)) ∗ owns (c : Thread nD τ) arg6 fullShare (k1_pay4 (k1_pay10 x0 x1) x5) ∗ owns (c : Thread nD τ) arg7 fullShare x6) -∗ K ⟨⟩))
      ⊢ wp frame (wpE (defs₀ (F := F)) Variants.none c none) E (cc1__vq_kernel i arg1 harg1 arg2 harg2 arg3 harg3 arg4 harg4 arg5 harg5 arg6 harg6 arg7 harg7) K := by
  simp only [cc1__vq_kernel_eq_skeleton]; unfold cc1__vq_kernel_skel
  simp only [k1_part1_eq_skeleton]
  unfold owns
  iintro ⟨⟨%f0, %hf0, H0⟩, ⟨%f1, %hf1, H1⟩, ⟨%d2, %f2, -, H2⟩, ⟨%d3, %f3, -, H3⟩, ⟨%d4, %f4, -, H4⟩, ⟨%f5, %hf5, H5⟩, ⟨%f6, %hf6, H6⟩, Hk⟩
  subst hf0 hf1 hf5 hf6
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (read_store _ _ _ _ _ (by decide)).trans ?_
    sl_unfold_words
    simp (disch := decide) only [View.readAt_eq_ld, View.ld_unit_lit', View.readCov_unit_lit', View.readCov_cons_unit_lit']
  isplitl [H3]
  · iexists _; isplitr
    swap; · iexact H3
    ipureintro
    refine (read_store _ _ _ _ _ (by decide)).trans ?_
    sl_unfold_words
    simp (disch := decide) only [View.readAt_eq_ld, View.ld_unit_lit', View.readCov_unit_lit', View.readCov_cons_unit_lit']
  isplitl [H4]
  · iexists _; isplitr
    swap; · iexact H4
    ipureintro
    refine (read_store _ _ _ _ _ (by decide)).trans ?_
    sl_unfold_words
    simp (disch := decide) only [View.readAt_eq_ld, View.ld_unit_lit', View.readCov_unit_lit', View.readCov_cons_unit_lit']
  isplitl [H5]
  · iexists _; isplitr
    swap; · iexact H5
    ipureintro
    refine (read_store _ _ _ _ _ (by decide)).trans ?_
    sl_unfold_words
    simp (disch := decide) only [View.readAt_eq_ld, View.ld_unit_lit', View.readCov_unit_lit', View.readCov_cons_unit_lit']
  iexists f6; isplitr; · ipureintro; rfl
  iexact H6

/-- What the marks' buffer holds after the point `n`: the tile's marks over zeros at the first, over what the point before
    left at a later one. -/
def marks1 (c : Dev nD) : (n : ℕ) → n < cfg1.N → Vec F S1x1x8192 .f32
  | 0, hn => k1_pay4 (k1_pay10 (iblk1 V c 0 ⟨0, hn⟩) (iblk1 V c 1 ⟨0, hn⟩)) k1_pay2
  | n + 1, hn => k1_pay4 (k1_pay10 (iblk1 V c 0 ⟨n + 1, hn⟩) (iblk1 V c 1 ⟨n + 1, hn⟩)) (marks1 c n (Nat.lt_of_succ_lt hn))

/-- The first point, as an index. -/
abbrev first1 : Fin cfg1.N := ⟨0, by rw [show cfg1.N = 64 from N_1]; decide⟩

/-- The proof data of region 1: the arrays as the region finds them; after the body at `t` the inputs' blocks in place, the
    three tiles the body computes, the marks so far, and the sum of the normalized rows, computed at the first point and
    kept from then on. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay8 (iblk1 V c 0 t) (iblk1 V c 1 t)
    | ⟨3, _⟩ => k1_pay9 (iblk1 V c 0 t) (iblk1 V c 1 t)
    | ⟨4, _⟩ => k1_pay1 (k1_pay11 (iblk1 V c 0 t) (iblk1 V c 1 t))
    | ⟨5, _⟩ => marks1 V c t.val t.isLt
    | ⟨6, _⟩ => k1_pay3 (iblk1 V c 1 first1)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay8 (iblk1 V c 0 t) (iblk1 V c 1 t) := by dsimp only [dat1]
theorem after1_3 (c : Dev nD) (t : Fin cfg1.N) : (dat1 V c).after 3 t = k1_pay9 (iblk1 V c 0 t) (iblk1 V c 1 t) := by dsimp only [dat1]
theorem after1_4 (c : Dev nD) (t : Fin cfg1.N) : (dat1 V c).after 4 t = k1_pay1 (k1_pay11 (iblk1 V c 0 t) (iblk1 V c 1 t)) := by dsimp only [dat1]
theorem after1_5 (c : Dev nD) (t : Fin cfg1.N) : (dat1 V c).after 5 t = marks1 V c t.val t.isLt := by dsimp only [dat1]
theorem after1_6 (c : Dev nD) (t : Fin cfg1.N) : (dat1 V c).after 6 t = k1_pay3 (iblk1 V c 1 first1) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- At the first point the marks are this tile's over zeros; -/
theorem marks1_first (c : Dev nD) (t : Fin cfg1.N) (h : t.val = 0) :
    marks1 V c t.val t.isLt = k1_pay4 (k1_pay10 (iblk1 V c 0 t) (iblk1 V c 1 t)) k1_pay2 := by
  obtain ⟨n, hn⟩ := t
  cases n with
  | zero => rfl
  | succ n => exact absurd h (Nat.succ_ne_zero n)

/-- at a later one this tile's over the earlier ones. -/
theorem marks1_later (c : Dev nD) (t : Fin cfg1.N) (h : ¬t.val = 0) :
    marks1 V c t.val t.isLt = k1_pay4 (k1_pay10 (iblk1 V c 0 t) (iblk1 V c 1 t)) (marks1 V c (t.val - 1) (Nat.lt_of_le_of_lt (Nat.sub_le _ _) t.isLt)) := by
  obtain ⟨n, hn⟩ := t
  cases n with
  | zero => exact absurd rfl h
  | succ n => rfl

/-- At a later point the marks' buffer holds what the point before left. -/
theorem before1_5 (c : Dev nD) (t : Fin cfg1.N) (h0 : ¬t.val = 0) (d) :
    (dat1 V c).before 5 t d = marks1 V c (t.val - 1) (Nat.lt_of_le_of_lt (Nat.sub_le _ _) t.isLt) := by
  have hN : t.val < 64 := lt_of_lt_of_eq t.isLt (show cfg1.N = 64 from N_1)
  rw [Dat.before_out_kept _ 5 rfl t h0 (Bool.eq_false_iff.mpr fun h => by have := (flush1_5 _).mp h; dsimp only at this; omega)
    (fun _ => rfl) (fun _ _ => rfl)]
  dsimp only [dat1]

/-- Window 6 is live at the first point and idle at every later one. -/
theorem idle1_6 (t : Fin cfg1.N) : cfg1.idle 6 (cfg1.grid.coords t) = !decide (t.val = 0) := by
  by_cases h : t.val = 0
  · have h' := (hcond1 t).mpr h
    show (!(k1_cond1 (grid1.coords t) == 1#1)) = _
    rw [h']; simp [h]
  · have h' : ¬k1_cond1 (grid1.coords t) = 1#1 := fun e => h ((hcond1 t).mp e)
    show (!(k1_cond1 (grid1.coords t) == 1#1)) = _
    simp [h, h']

/-- At every later point window 6's buffer still holds the sum computed at the first. -/
theorem before1_6 (c : Dev nD) : ∀ (n : ℕ) (hn : n + 1 < cfg1.N) (d), (dat1 V c).before 6 ⟨n + 1, hn⟩ d = k1_pay3 (iblk1 V c 1 first1) := by
  have hN : cfg1.N = 64 := N_1
  intro n
  induction n with
  | zero =>
    intro hn d
    rw [Dat.before_of_pos _ 6 ⟨0 + 1, hn⟩ (by simp) rfl, if_neg (by
      intro h; have := (flush1_6 _).mp h; dsimp only at this; omega)]
    unfold Dat.left
    rw [idle1_6]
    simp only [Nat.add_sub_cancel, Nat.zero_add, Nat.sub_self, decide_true, Bool.not_true]
    unfold Dat.kept
    rw [Pipeline.fill_of_clip_none (cfg := cfg1) 6 _ (fun _ => rfl) d ((dat1 V c).after 6 _), Window.fill_cut, after1_6]
  | succ n ih =>
    intro hn d
    rw [Dat.before_of_pos _ 6 ⟨n + 1 + 1, hn⟩ (by simp) rfl, if_neg (by
      intro h; have := (flush1_6 _).mp h; dsimp only at this; omega)]
    unfold Dat.left
    rw [idle1_6]
    simp only [Nat.add_sub_cancel, Nat.add_eq_zero_iff, one_ne_zero, _root_.and_false, decide_false, Bool.not_false]
    exact ih _ d

theorem before1_6' (c : Dev nD) (t : Fin cfg1.N) (h0 : ¬t.val = 0) (d) : (dat1 V c).before 6 t d = k1_pay3 (iblk1 V c 1 first1) := by
  obtain ⟨n, hn⟩ := t
  cases n with
  | zero => exact absurd rfl h0
  | succ n => exact before1_6 V c n hn d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ (dat1 V c).leavesExact 6 t)

set_option maxHeartbeats 800000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3, after1_4, after1_5]
  by_cases h0 : t.val = 0
  · have e6 : (dat1 V c).leavesExact 6 t = owns (c : Thread nD τ) (st1_6 t) fullShare (k1_pay3 (iblk1 V c 1 t)) := by
      have ht : t = first1 := Fin.ext h0
      unfold Dat.leavesExact
      rw [idle1_6, after1_6, ht]
      simp only [decide_true, Bool.not_true]
    rw [e6, marks1_first V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (kernel1_first c Set.univ (grid1.coords t) _ _ _ _ _ _ _ _ _ _ _ _ _ _ ((hcond1 t).mpr h0) (iblk1 V c 0 t) (iblk1 V c 1 t) _)
    isplitl [H0]; · iexact H0
    isplitl [H1]; · iexact H1
    isplitl [H2]; · iexists _; iexact H2
    isplitl [H3]; · iexists _; iexact H3
    isplitl [H4]; · iexists _; iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have e6 : owns (c : Thread nD τ) (st1_6 t) fullShare (k1_pay3 (iblk1 V c 1 first1)) ⊢ ((dat1 V c).leavesExact 6 t : sProp 𝕄) := by
      unfold Dat.leavesExact
      rw [idle1_6]
      simp only [h0, decide_false, Bool.not_false]
      cases hf : (cfg1.win 6).flush t
      · simp only [before1_6' V c t h0]
        iintro H; iexists (fun _ => Classical.arbitrary _); iexact H
      · simp only [after1_6]; exact .rfl
    rw [marks1_later V c t h0]
    simp only [before1_5 V c t h0, before1_6' V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (kernel1_later c Set.univ (grid1.coords t) _ _ _ _ _ _ _ _ _ _ _ _ _ _ (fun h => h0 ((hcond1 t).mp h)) (iblk1 V c 0 t) (iblk1 V c 1 t) _ _ _)
    isplitl [H0]; · iexact H0
    isplitl [H1]; · iexact H1
    isplitl [H2]; · iexists _; iexact H2
    isplitl [H3]; · iexists _; iexact H3
    isplitl [H4]; · iexists _; iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iapply e6; iexact H6

/-- The body table's row at point `t`'s slots. -/
theorem defs₀_row1 (t : Fin cfg1.N) :
    defs₀ (F := F) .tc cfg1.body (cfg1.bodyArgs t (cfg1.slots t)) = bodyAt1 t := by
  unfold defs₀; rw [Defs.onTc_tc]

/-- The body obligation, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v3, main_v4, main_v5, main_v6, main_v7, main_v8]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v10, main_v11, main_cst, main_v12, main_cst_0, main_v13, main_v14, main_cst_1, main_v15, main_cst_2, main_v16, main_v17, main_cst_3, main_v18, main_v19, main_c, main_v20, main_v21]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)
theorem W5_main_arg3 (c : Dev nD) : W5 m ρ c (Proc.devRef .tc main_arg3) = m ((c : Thread nD τ).loc main_arg3) :=
  W5_args m ρ c main_arg3 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- Every run ends, with every unscoped buffer of every device as the fold of the contents through @main leaves it and every
    counter at zero. -/
theorem run_ends : θ_run defs (onTc (τ := τ) (main (F := F))) ⟨m, fun _ => 0, ρ⟩ (fun r => (∀ c : Dev nD,
      ∀ b ∈ Pipeline.ucRefs τ sig, r.2.mem (((c : Thread nD τ)).1, b) = W5 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- Every run ends with the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨(h.1 c _ (mem_uc main_arg0 (by decide))).trans (W5_main_arg0 m ρ c),
     (h.1 c _ (mem_uc main_arg1 (by decide))).trans (W5_main_arg1 m ρ c),
     (h.1 c _ (mem_uc main_arg2 (by decide))).trans (W5_main_arg2 m ρ c),
     (h.1 c _ (mem_uc main_arg3 (by decide))).trans (W5_main_arg3 m ρ c)⟩, h.2⟩) (run_ends m ρ)

end Cert.KernelIdeal.Own

end
-- ==== Proof.RefSigns.lean ====
/- The reference's random signs. Their generator is some eight hundred integer operations; the claim needs of it only that
   it is a straight line of operations which writes no buffer but its own. -/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.ReferenceIdeal.Own

open Cert.ReferenceIdeal Cert.ReferenceIdeal.Gen Idealize.ShloMosaic Idealize.ShloMosaic.TcCoe Idealize.SL.Sem Idealize.ShloMosaic.StableHlo

variable {F : FTy → Type} [FloatOps F]

/-- A program of this module's reference. -/
abbrev P (F : FTy → Type) [FloatOps F] := Prog (TpuEff nD τ sig (Elt F) (Pipeline.Sig Λ₀ (Fin 0) fun p => (pcfgs (F := F) p).Adm) .tc) PUnit

/-- The buffers of the signs' generator: a range of indices in the device's memory. -/
def Sgn (r : Ref sig .tc) : Prop := 101 ≤ r.idx.val ∧ r.idx.val ≤ 902
instance (r : Ref sig .tc) : Decidable (Sgn r) := by unfold Sgn; infer_instance

/-- A line of operations that determine their results and write only the generator's buffers. -/
structure Within (ops : List (HloOp τ sig (Elt F))) : Prop where
  sub : ∀ op ∈ ops, op.bufs ⊆ tcRefs τ sig
  fresh : ∀ op ∈ ops, op.fresh = ∅
  own : ∀ op ∈ ops, ∃ r : Ref sig .tc, Sgn r ∧ op.writes ⊆ {Proc.devRef (τ := τ) .tc r}

/-- The program `p` is such a line. -/
def Straight (p : P F) : Prop := ∃ ops : List (HloOp τ sig (Elt F)), p = seq ops ∧ Within ops

theorem straight_pure : Straight (F := F) (pure ⟨⟩) :=
  ⟨[], rfl, ⟨by simp, by simp, by simp⟩⟩

theorem straight_bind {p q : P F} (hp : Straight p) (hq : Straight q) : Straight (p >>= fun _ => q) := by
  obtain ⟨a, rfl, ha⟩ := hp
  obtain ⟨b, rfl, hb⟩ := hq
  refine ⟨a ++ b, (seq_append a b).symm, ⟨?_, ?_, ?_⟩⟩
  · intro op h; rcases List.mem_append.mp h with h | h; exacts [ha.sub op h, hb.sub op h]
  · intro op h; rcases List.mem_append.mp h with h | h; exacts [ha.fresh op h, hb.fresh op h]
  · intro op h; rcases List.mem_append.mp h with h | h; exacts [ha.own op h, hb.own op h]

theorem straight_op (op : HloOp τ sig (Elt F)) (r : Ref sig .tc) (hb : op.bufs ⊆ tcRefs τ sig) (hf : op.fresh = ∅)
    (hw : op.writes ⊆ {Proc.devRef (τ := τ) .tc r}) (hr : Sgn r) : Straight (F := F) (hlo rfl op (fun _ => .ret ⟨⟩)) :=
  ⟨[op], (by simp only [seq]; rfl), ⟨fun o h => by rw [List.mem_singleton.mp h]; exact hb, fun o h => by rw [List.mem_singleton.mp h]; exact hf,
    fun o h => by rw [List.mem_singleton.mp h]; exact ⟨r, hr, hw⟩⟩⟩

theorem straight_nullary {B : BufTy} (y : TRef sig B) (f) (hr : Sgn y.ref) : Straight (F := F) (hlo rfl (TRef.nullary y f) (fun _ => .ret ⟨⟩)) :=
  straight_op _ y.ref (nullary_bufs_sub ..) rfl subset_rfl hr
theorem straight_unary {A B : BufTy} (x : TRef sig A) (y : TRef sig B) (f) (hr : Sgn y.ref) : Straight (F := F) (hlo rfl (TRef.unary x y f) (fun _ => .ret ⟨⟩)) :=
  straight_op _ y.ref (unary_bufs_sub ..) rfl subset_rfl hr
theorem straight_binary {A B C : BufTy} (x : TRef sig A) (y : TRef sig B) (z : TRef sig C) (f) (hr : Sgn z.ref) : Straight (F := F) (hlo rfl (TRef.binary x y z f) (fun _ => .ret ⟨⟩)) :=
  straight_op _ z.ref (binary_bufs_sub ..) rfl subset_rfl hr
theorem straight_ternary {A B C D : BufTy} (w : TRef sig A) (x : TRef sig B) (y : TRef sig C) (z : TRef sig D) (f) (hr : Sgn z.ref) : Straight (F := F) (hlo rfl (TRef.ternary w x y z f) (fun _ => .ret ⟨⟩)) :=
  straight_op _ z.ref (ternary_bufs_sub ..) rfl subset_rfl hr
theorem straight_reshape {A B : BufTy} (x : TRef sig A) (y : TRef sig B) (he hn) (hr : Sgn y.ref) : Straight (F := F) (hlo rfl (TRef.reshape x y he hn) (fun _ => .ret ⟨⟩)) :=
  straight_op _ y.ref (reshape_bufs_sub ..) rfl subset_rfl hr

set_option maxRecDepth 8192 in
set_option maxHeartbeats 4000000 in
/-- The generator is a straight line writing only its own buffers. -/
theorem randint_straight :
    Straight (F := F) (fn_randint.body (.of main_v52) (.of main_c_11) (.of main_c_12) main_call3) := by
  unfold fn_randint.body
  repeat' first
    | (with_reducible refine straight_bind ?_ ?_)
    | (with_reducible refine straight_binary _ _ _ _ ?_; decide)
    | (with_reducible refine straight_unary _ _ _ ?_; decide)
    | (with_reducible refine straight_nullary _ _ ?_; decide)
    | (with_reducible refine straight_ternary _ _ _ _ _ ?_; decide)
    | (with_reducible refine straight_reshape _ _ _ _ ?_; decide)
    | with_reducible exact straight_pure
    | unfold fn_clip.body | unfold fn_clip_0.body | unfold fn_randint.body_part0 | unfold fn_randint.body_part1
    | unfold fn_threefry_split.body | unfold fn_threefry2x32.body | unfold fn_threefry2x32_1.body
    | unfold fn_threefry2x32.body_part0 | unfold fn_threefry2x32.body_part1 | unfold fn_threefry2x32.body_part2 | unfold fn_threefry2x32.body_part3
    | unfold fn_threefry2x32_1.body_part0 | unfold fn_threefry2x32_1.body_part1 | unfold fn_threefry2x32_1.body_part2 | unfold fn_threefry2x32_1.body_part3

/-- The generator's operations, -/
def signOps : List (HloOp τ sig (Elt F)) := (randint_straight (F := F)).choose
/-- of which its body is the line, -/
theorem signOps_eq : fn_randint.body (F := F) (.of main_v52) (.of main_c_11) (.of main_c_12) main_call3 = seq signOps :=
  (randint_straight (F := F)).choose_spec.1
theorem signOps_within : Within (F := F) signOps := (randint_straight (F := F)).choose_spec.2

/-- and a buffer outside the generator's keeps its contents through it. -/
theorem after_signOps (V0 : Valuation τ sig (Elt F)) (r : Ref sig .tc) (hr : ¬Sgn r) :
    after signOps V0 (Proc.devRef .tc r) = V0 (Proc.devRef .tc r) := by
  have h : ∀ (ops : List (HloOp τ sig (Elt F))) (V : Valuation τ sig (Elt F)), Within ops → after ops V (Proc.devRef .tc r) = V (Proc.devRef .tc r) := by
    intro ops
    induction ops with
    | nil => intro V _; rfl
    | cons op ops ih =>
      intro V hw
      have hw' : Within ops := ⟨fun o h => hw.sub o (List.mem_cons_of_mem _ h), fun o h => hw.fresh o (List.mem_cons_of_mem _ h), fun o h => hw.own o (List.mem_cons_of_mem _ h)⟩
      refine (ih _ hw').trans ?_
      obtain ⟨r', hr', hs⟩ := hw.own op List.mem_cons_self
      exact op.result_of_not_mem V (fun hm => hr (by
        have e := Finset.mem_singleton.mp (hs hm)
        have e' : r = r' := Proc.devRef_injective _ e
        rw [e']; exact hr'))
  exact h _ V0 signOps_within

end Cert.ReferenceIdeal.Own

end
-- ==== Proof.RefRun.lean ====
/- The reference's run: its operations in order, in six lines with the signs' generator standing between the fourth and
   the fifth, and what a run leaves: the arguments as they were, the other buffers at what the lines compute. -/
module

public import proofs.«01_k».proof.Proof.RefSigns
public import Idealize.ShloMosaic.Lib.StableHlo.Run
public import Idealize.ShloMosaic.Lib.Pipeline.Frame

@[expose] public section

set_option Elab.async false

noncomputable section

namespace Cert.ReferenceIdeal.Own

open Cert.ReferenceIdeal Cert.ReferenceIdeal.Gen Idealize.ShloMosaic Idealize.ShloMosaic.TcCoe Idealize.SL.Sem Idealize.ShloMosaic.StableHlo

variable {F : FTy → Type} [FloatOps F]

/-- The joining of the two second differences, by name. -/
def join2 : (⟨S1x8x64x32x32, .f32⟩ : BufTy).Contents (Elt F) → (⟨S1x8x64x32x32, .f32⟩ : BufTy).Contents (Elt F) → (⟨S2x8x64x32x32, .f32⟩ : BufTy).Contents (Elt F) :=
  (fun a b => concatenate S2x8x64x32x32 0 [⟨S1x8x64x32x32, a⟩, ⟨S1x8x64x32x32, b⟩] concatenates_S1x8x64x32x32_S1x8x64x32x32_S2x8x64x32x32_d0)

/-- The joining of the key's two words, by name. -/
def joinKey : (⟨S1, .i32⟩ : BufTy).Contents (Elt F) → (⟨S1, .i32⟩ : BufTy).Contents (Elt F) → (⟨S2, .i32⟩ : BufTy).Contents (Elt F) :=
  (fun a b => concatenate S2 0 [⟨S1, a⟩, ⟨S1, b⟩] concatenates_S1_S1_S2_d0)

/-- The latent, its norms and the contrastive mean: -/
abbrev opsA0 : List (HloOp τ sig (Elt F)) :=
  [ binary main_arg1 main_arg0 main_v0 ((fun l r => Host.dotGeneral dot_S64x384_S8x384x32x32_S64x8x32x32_1_1_0_023_n_n none l r) : (⟨S64x384, .f32⟩ : BufTy).Contents (Elt F) → (⟨S8x384x32x32, .f32⟩ : BufTy).Contents (Elt F) → (⟨S64x8x32x32, .f32⟩ : BufTy).Contents (Elt F)),
    unary main_v0 main_v1 ((transpose S8x64x32x32 [1, 0, 2, 3] · transposes_S64x8x32x32_S8x64x32x32_1_0_2_3) : (⟨S64x8x32x32, .f32⟩ : BufTy).Contents (Elt F) → (⟨S8x64x32x32, .f32⟩ : BufTy).Contents (Elt F)),
    unary main_arg2 main_v2 (broadcastInDim S1x64x1x1 ![1] bcast_S64_S1x64x1x1_1 : (⟨S64, .f32⟩ : BufTy).Contents (Elt F) → (⟨S1x64x1x1, .f32⟩ : BufTy).Contents (Elt F)),
    unary main_v2 main_v3 (broadcastInDim S8x64x32x32 ![0, 1, 2, 3] bcast_S1x64x1x1_S8x64x32x32_0_1_2_3 : (⟨S1x64x1x1, .f32⟩ : BufTy).Contents (Elt F) → (⟨S8x64x32x32, .f32⟩ : BufTy).Contents (Elt F)),
    binary main_v1 main_v3 main_v4 (addf : (⟨S8x64x32x32, .f32⟩ : BufTy).Contents (Elt F) → (⟨S8x64x32x32, .f32⟩ : BufTy).Contents (Elt F) → (⟨S8x64x32x32, .f32⟩ : BufTy).Contents (Elt F)),
    reshape main_v4 main_v5 (rfl : (.f32 : EltTy) = .f32) shapeCasts_S8x64x32x32_S8192x64,
    unary main_arg3 main_v6 ((transpose S64x8192 [1, 0] · transposes_S8192x64_S64x8192_1_0) : (⟨S8192x64, .f32⟩ : BufTy).Contents (Elt F) → (⟨S64x8192, .f32⟩ : BufTy).Contents (Elt F)),
    binary main_arg3 main_v6 main_v7 ((fun l r => Host.dotGeneral dot_S8192x64_S64x8192_S8192x8192_1_0_0_1_n_n none l r) : (⟨S8192x64, .f32⟩ : BufTy).Contents (Elt F) → (⟨S64x8192, .f32⟩ : BufTy).Contents (Elt F) → (⟨S8192x8192, .f32⟩ : BufTy).Contents (Elt F)),
    TRef.binary (TRef.of (T := ⟨S8192x64, .f32⟩) main_arg3) (TRef.of (T := ⟨S8192x64, .f32⟩) main_arg3) (TRef.of (T := ⟨S8192x64, .f32⟩) main_call0_v0) mulf,
    TRef.nullary (TRef.of (T := ⟨S_, .f32⟩) main_call0_cst) (constant S_ .f32 0x00000000#32),
    TRef.binary (TRef.of (T := ⟨S8192x64, .f32⟩) main_call0_v0) (TRef.of (T := ⟨S_, .f32⟩) main_call0_cst) (TRef.of (T := ⟨S8192, .f32⟩) main_call0_v1) (fun x v => Host.reduceAdd x v reducesTo_S8192x64_S8192_d1 h_S_),
    TRef.unary (TRef.of (T := ⟨S8192, .f32⟩) main_call0_v1) (TRef.of (T := ⟨S8192, .f32⟩) main_v8) Host.sqrt,
    unary main_v8 main_v9 (broadcastInDim S1x8192 ![1] bcast_S8192_S1x8192_1 : (⟨S8192, .f32⟩ : BufTy).Contents (Elt F) → (⟨S1x8192, .f32⟩ : BufTy).Contents (Elt F)),
    reshape main_v9 main_v10 (rfl : (.f32 : EltTy) = .f32) shapeCasts_S1x8192_S1x1x1x8192,
    unary main_v10 main_v11 (broadcastInDim S8192x1x1x8192 ![0, 1, 2, 3] bcast_S1x1x1x8192_S8192x1x1x8192_0_1_2_3 : (⟨S1x1x1x8192, .f32⟩ : BufTy).Contents (Elt F) → (⟨S8192x1x1x8192, .f32⟩ : BufTy).Contents (Elt F)),
    reshape main_v11 main_v12 (rfl : (.f32 : EltTy) = .f32) shapeCasts_S8192x1x1x8192_S8192x8192,
    unary main_v12 main_v13 ((transpose S8192x8192 [1, 0] · transposes_S8192x8192_S8192x8192_1_0) : (⟨S8192x8192, .f32⟩ : BufTy).Contents (Elt F) → (⟨S8192x8192, .f32⟩ : BufTy).Contents (Elt F)),
    binary main_v12 main_v13 main_v14 (mulf : (⟨S8192x8192, .f32⟩ : BufTy).Contents (Elt F) → (⟨S8192x8192, .f32⟩ : BufTy).Contents (Elt F) → (⟨S8192x8192, .f32⟩ : BufTy).Contents (Elt F)),
    binary main_v7 main_v14 main_v15 (Host.divf : (⟨S8192x8192, .f32⟩ : BufTy).Contents (Elt F) → (⟨S8192x8192, .f32⟩ : BufTy).Contents (Elt F) → (⟨S8192x8192, .f32⟩ : BufTy).Contents (Elt F)),
    nullary main_cst (constant S_ .f32 0x00000000#32),
    binary main_v15 main_cst main_v16 ((fun x v => Host.reduceAdd x v reducesTo_S8192x8192_S_d0_1 h_S_) : (⟨S8192x8192, .f32⟩ : BufTy).Contents (Elt F) → (⟨S_, .f32⟩ : BufTy).Contents (Elt F) → (⟨S_, .f32⟩ : BufTy).Contents (Elt F)),
    nullary main_cst_0 (constant S_ .f32 0x4C800000#32),
    binary main_v16 main_cst_0 main_v17 (Host.divf : (⟨S_, .f32⟩ : BufTy).Contents (Elt F) → (⟨S_, .f32⟩ : BufTy).Contents (Elt F) → (⟨S_, .f32⟩ : BufTy).Contents (Elt F)),
    binary main_v5 main_v5 main_v18 (mulf : (⟨S8192x64, .f32⟩ : BufTy).Contents (Elt F) → (⟨S8192x64, .f32⟩ : BufTy).Contents (Elt F) → (⟨S8192x64, .f32⟩ : BufTy).Contents (Elt F)),
    nullary main_cst_1 (constant S_ .f32 0x00000000#32),
    binary main_v18 main_cst_1 main_v19 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
    unary main_v19 main_v20 (broadcastInDim S8192x1 ![0] bcast_S8192_S8192x1_0 : (⟨S8192, .f32⟩ : BufTy).Contents (Elt F) → (⟨S8192x1, .f32⟩ : BufTy).Contents (Elt F)),
    binary main_arg3 main_arg3 main_v21 (mulf : (⟨S8192x64, .f32⟩ : BufTy).Contents (Elt F) → (⟨S8192x64, .f32⟩ : BufTy).Contents (Elt F) → (⟨S8192x64, .f32⟩ : BufTy).Contents (Elt F)),
    nullary main_cst_2 (constant S_ .f32 0x00000000#32),
    binary main_v21 main_cst_2 main_v22 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)) ]

/-- the distances, the nearest codes, and the indices the table is read at: -/
abbrev opsA1 : List (HloOp τ sig (Elt F)) :=
  [ unary main_v22 main_v23 (broadcastInDim S1x8192 ![1] bcast_S8192_S1x8192_1 : (⟨S8192, .f32⟩ : BufTy).Contents (Elt F) → (⟨S1x8192, .f32⟩ : BufTy).Contents (Elt F)),
    unary main_v20 main_v24 (broadcastInDim S8192x8192 ![0, 1] bcast_S8192x1_S8192x8192_0_1 : (⟨S8192x1, .f32⟩ : BufTy).Contents (Elt F) → (⟨S8192x8192, .f32⟩ : BufTy).Contents (Elt F)),
    unary main_v23 main_v25 (broadcastInDim S8192x8192 ![0, 1] bcast_S1x8192_S8192x8192_0_1 : (⟨S1x8192, .f32⟩ : BufTy).Contents (Elt F) → (⟨S8192x8192, .f32⟩ : BufTy).Contents (Elt F)),
    binary main_v24 main_v25 main_v26 (addf : (⟨S8192x8192, .f32⟩ : BufTy).Contents (Elt F) → (⟨S8192x8192, .f32⟩ : BufTy).Contents (Elt F) → (⟨S8192x8192, .f32⟩ : BufTy).Contents (Elt F)),
    unary main_arg3 main_v27 ((transpose S64x8192 [1, 0] · transposes_S8192x64_S64x8192_1_0) : (⟨S8192x64, .f32⟩ : BufTy).Contents (Elt F) → (⟨S64x8192, .f32⟩ : BufTy).Contents (Elt F)),
    binary main_v5 main_v27 main_v28 ((fun l r => Host.dotGeneral dot_S8192x64_S64x8192_S8192x8192_1_0_0_1_n_n none l r) : (⟨S8192x64, .f32⟩ : BufTy).Contents (Elt F) → (⟨S64x8192, .f32⟩ : BufTy).Contents (Elt F) → (⟨S8192x8192, .f32⟩ : BufTy).Contents (Elt F)),
    nullary main_cst_3 (constant S_ .f32 0x40000000#32),
    unary main_cst_3 main_v29 (broadcastInDim S8192x8192 ![] bcast_S_S8192x8192 : (⟨S_, .f32⟩ : BufTy).Contents (Elt F) → (⟨S8192x8192, .f32⟩ : BufTy).Contents (Elt F)),
    binary main_v29 main_v28 main_v30 (mulf : (⟨S8192x8192, .f32⟩ : BufTy).Contents (Elt F) → (⟨S8192x8192, .f32⟩ : BufTy).Contents (Elt F) → (⟨S8192x8192, .f32⟩ : BufTy).Contents (Elt F)),
    binary main_v26 main_v30 main_v31 (subf : (⟨S8192x8192, .f32⟩ : BufTy).Contents (Elt F) → (⟨S8192x8192, .f32⟩ : BufTy).Contents (Elt F) → (⟨S8192x8192, .f32⟩ : BufTy).Contents (Elt F)),
    TRef.nullary (TRef.of (T := ⟨S8192x8192, .i32⟩) main_call1_v0) (iotaInDim S8192x8192 32 1),
    TRef.nullary (TRef.of (T := ⟨S_, .f32⟩) main_call1_cst) (constant S_ .f32 0x7F800000#32),
    TRef.nullary (TRef.of (T := ⟨S_, .i32⟩) main_call1_c) (constantI S_ 32 0#32),
    TRef.quaternary (TRef.of (T := ⟨S8192x8192, .f32⟩) main_v31) (TRef.of (T := ⟨S8192x8192, .i32⟩) main_call1_v0) (TRef.of (T := ⟨S_, .f32⟩) main_call1_cst) (TRef.of (T := ⟨S_, .i32⟩) main_call1_c) (TRef.of (T := ⟨S8192, .f32⟩) main_call1_v1_0) (fun x y u v j => (Host.argReduce reducer_argmin_f32_i32 x y u v reducesTo_S8192x8192_S8192_d1 h_S_ j).1),
    TRef.quaternary (TRef.of (T := ⟨S8192x8192, .f32⟩) main_v31) (TRef.of (T := ⟨S8192x8192, .i32⟩) main_call1_v0) (TRef.of (T := ⟨S_, .f32⟩) main_call1_cst) (TRef.of (T := ⟨S_, .i32⟩) main_call1_c) (TRef.of (T := ⟨S8192, .i32⟩) main_v32) (fun x y u v j => (Host.argReduce reducer_argmin_f32_i32 x y u v reducesTo_S8192x8192_S8192_d1 h_S_ j).2),
    TRef.nullary (TRef.of (T := ⟨S_, .i32⟩) main_call2_c) (constantI S_ 32 0#32),
    TRef.unary (TRef.of (T := ⟨S_, .i32⟩) main_call2_c) (TRef.of (T := ⟨S8192, .i32⟩) main_call2_v0) (broadcastInDim S8192 ![] bcast_S_S8192),
    TRef.binary (TRef.of (T := ⟨S8192, .i32⟩) main_v32) (TRef.of (T := ⟨S8192, .i32⟩) main_call2_v0) (TRef.of (T := ⟨S8192, .i1⟩) main_call2_v1) (cmpi .slt),
    TRef.nullary (TRef.of (T := ⟨S_, .i32⟩) main_call2_c_0) (constantI S_ 32 8192#32),
    TRef.unary (TRef.of (T := ⟨S_, .i32⟩) main_call2_c_0) (TRef.of (T := ⟨S8192, .i32⟩) main_call2_v2) (broadcastInDim S8192 ![] bcast_S_S8192),
    TRef.binary (TRef.of (T := ⟨S8192, .i32⟩) main_v32) (TRef.of (T := ⟨S8192, .i32⟩) main_call2_v2) (TRef.of (T := ⟨S8192, .i32⟩) main_call2_v3) addi,
    TRef.ternary (TRef.of (T := ⟨S8192, .i1⟩) main_call2_v1) (TRef.of (T := ⟨S8192, .i32⟩) main_call2_v3) (TRef.of (T := ⟨S8192, .i32⟩) main_v32) (TRef.of (T := ⟨S8192, .i32⟩) main_call2_v4) select,
    TRef.unary (TRef.of (T := ⟨S8192, .i32⟩) main_call2_v4) (TRef.of (T := ⟨S8192x1, .i32⟩) main_call2_v5) (broadcastInDim S8192x1 ![0] bcast_S8192_S8192x1_0),
    TRef.nullary (TRef.of (T := ⟨S1, .i32⟩) main_call2_c_1) (constantI S1 32 8191#32),
    TRef.nullary (TRef.of (T := ⟨S_, .i32⟩) main_call2_c_2) (constantI S_ 32 0#32),
    TRef.unary (TRef.of (T := ⟨S_, .i32⟩) main_call2_c_2) (TRef.of (T := ⟨S8192x1, .i32⟩) main_call2_v6) (broadcastInDim S8192x1 ![] bcast_S_S8192x1),
    TRef.binary (TRef.of (T := ⟨S8192x1, .i32⟩) main_call2_v5) (TRef.of (T := ⟨S8192x1, .i32⟩) main_call2_v6) (TRef.of (T := ⟨S8192x1, .i1⟩) main_call2_v7) (cmpi .sge),
    TRef.unary (TRef.of (T := ⟨S1, .i32⟩) main_call2_c_1) (TRef.of (T := ⟨S1x1, .i32⟩) main_call2_v8) (broadcastInDim S1x1 ![1] bcast_S1_S1x1_1),
    TRef.unary (TRef.of (T := ⟨S1x1, .i32⟩) main_call2_v8) (TRef.of (T := ⟨S8192x1, .i32⟩) main_call2_v9) (broadcastInDim S8192x1 ![0, 1] bcast_S1x1_S8192x1_0_1),
    TRef.binary (TRef.of (T := ⟨S8192x1, .i32⟩) main_call2_v5) (TRef.of (T := ⟨S8192x1, .i32⟩) main_call2_v9) (TRef.of (T := ⟨S8192x1, .i1⟩) main_call2_v10) (cmpi .sle),
    TRef.binary (TRef.of (T := ⟨S8192x1, .i1⟩) main_call2_v7) (TRef.of (T := ⟨S8192x1, .i1⟩) main_call2_v10) (TRef.of (T := ⟨S8192x1, .i1⟩) main_call2_v11) andi,
    TRef.nullary (TRef.of (T := ⟨S_, .i1⟩) main_call2_c_3) (constantI S_ 1 1#1) ]

/-- the rows of the table and the two squared losses: -/
abbrev opsA2 : List (HloOp τ sig (Elt F)) :=
  [ TRef.binary (TRef.of (T := ⟨S8192x1, .i1⟩) main_call2_v11) (TRef.of (T := ⟨S_, .i1⟩) main_call2_c_3) (TRef.of (T := ⟨S8192, .i1⟩) main_call2_v12) (fun x v => Host.reduce IntOp.andi x v reducesTo_S8192x1_S8192_d1 h_S_),
    TRef.binary (TRef.of (T := ⟨S8192x64, .f32⟩) main_arg3) (TRef.of (T := ⟨S8192x1, .i32⟩) main_call2_v5) (TRef.of (T := ⟨S8192x64, .f32⟩) main_call2_v13) (fun x i => Host.gather gather_S8192x64_S8192x1_S8192x64_1_0_n_n_0_1_164 x i),
    TRef.unary (TRef.of (T := ⟨S8192, .i1⟩) main_call2_v12) (TRef.of (T := ⟨S8192x64, .i1⟩) main_call2_v14) (broadcastInDim S8192x64 ![0] bcast_S8192_S8192x64_0),
    TRef.nullary (TRef.of (T := ⟨S_, .f32⟩) main_call2_cst) (constant S_ .f32 0x7FC00000#32),
    TRef.unary (TRef.of (T := ⟨S_, .f32⟩) main_call2_cst) (TRef.of (T := ⟨S8192x64, .f32⟩) main_call2_v15) (broadcastInDim S8192x64 ![] bcast_S_S8192x64),
    TRef.ternary (TRef.of (T := ⟨S8192x64, .i1⟩) main_call2_v14) (TRef.of (T := ⟨S8192x64, .f32⟩) main_call2_v13) (TRef.of (T := ⟨S8192x64, .f32⟩) main_call2_v15) (TRef.of (T := ⟨S8192x64, .f32⟩) main_v33) select,
    reshape main_v33 main_v34 (rfl : (.f32 : EltTy) = .f32) shapeCasts_S8192x64_S8x64x32x32,
    binary main_v34 main_v4 main_v35 (subf : (⟨S8x64x32x32, .f32⟩ : BufTy).Contents (Elt F) → (⟨S8x64x32x32, .f32⟩ : BufTy).Contents (Elt F) → (⟨S8x64x32x32, .f32⟩ : BufTy).Contents (Elt F)),
    binary main_v35 main_v35 main_v36 (mulf : (⟨S8x64x32x32, .f32⟩ : BufTy).Contents (Elt F) → (⟨S8x64x32x32, .f32⟩ : BufTy).Contents (Elt F) → (⟨S8x64x32x32, .f32⟩ : BufTy).Contents (Elt F)),
    nullary main_cst_4 (constant S_ .f32 0x00000000#32),
    binary main_v36 main_cst_4 main_v37 ((fun x v => Host.reduceAdd x v reducesTo_S8x64x32x32_S_d0_1_2_3 h_S_) : (⟨S8x64x32x32, .f32⟩ : BufTy).Contents (Elt F) → (⟨S_, .f32⟩ : BufTy).Contents (Elt F) → (⟨S_, .f32⟩ : BufTy).Contents (Elt F)),
    nullary main_cst_5 (constant S_ .f32 0x49000000#32),
    binary main_v37 main_cst_5 main_v38 (Host.divf : (⟨S_, .f32⟩ : BufTy).Contents (Elt F) → (⟨S_, .f32⟩ : BufTy).Contents (Elt F) → (⟨S_, .f32⟩ : BufTy).Contents (Elt F)),
    binary main_v34 main_v4 main_v39 (subf : (⟨S8x64x32x32, .f32⟩ : BufTy).Contents (Elt F) → (⟨S8x64x32x32, .f32⟩ : BufTy).Contents (Elt F) → (⟨S8x64x32x32, .f32⟩ : BufTy).Contents (Elt F)),
    binary main_v39 main_v39 main_v40 (mulf : (⟨S8x64x32x32, .f32⟩ : BufTy).Contents (Elt F) → (⟨S8x64x32x32, .f32⟩ : BufTy).Contents (Elt F) → (⟨S8x64x32x32, .f32⟩ : BufTy).Contents (Elt F)),
    nullary main_cst_6 (constant S_ .f32 0x00000000#32),
    binary main_v40 main_cst_6 main_v41 ((fun x v => Host.reduceAdd x v reducesTo_S8x64x32x32_S_d0_1_2_3 h_S_) : (⟨S8x64x32x32, .f32⟩ : BufTy).Contents (Elt F) → (⟨S_, .f32⟩ : BufTy).Contents (Elt F) → (⟨S_, .f32⟩ : BufTy).Contents (Elt F)),
    nullary main_cst_7 (constant S_ .f32 0x49000000#32),
    binary main_v41 main_cst_7 main_v42 (Host.divf : (⟨S_, .f32⟩ : BufTy).Contents (Elt F) → (⟨S_, .f32⟩ : BufTy).Contents (Elt F) → (⟨S_, .f32⟩ : BufTy).Contents (Elt F)),
    nullary main_cst_8 (constant S_ .f32 0x3E800000#32),
    binary main_cst_8 main_v42 main_v43 (mulf : (⟨S_, .f32⟩ : BufTy).Contents (Elt F) → (⟨S_, .f32⟩ : BufTy).Contents (Elt F) → (⟨S_, .f32⟩ : BufTy).Contents (Elt F)),
    binary main_v38 main_v43 main_v44 (addf : (⟨S_, .f32⟩ : BufTy).Contents (Elt F) → (⟨S_, .f32⟩ : BufTy).Contents (Elt F) → (⟨S_, .f32⟩ : BufTy).Contents (Elt F)),
    binary main_v44 main_v17 main_v45 (addf : (⟨S_, .f32⟩ : BufTy).Contents (Elt F) → (⟨S_, .f32⟩ : BufTy).Contents (Elt F) → (⟨S_, .f32⟩ : BufTy).Contents (Elt F)),
    nullary main_c (constantI S_ 32 42#32),
    nullary main_c_9 (constantI S_ 32 32#32),
    binary main_c main_c_9 main_v46 (Host.shrui : (⟨S_, .i32⟩ : BufTy).Contents (Elt F) → (⟨S_, .i32⟩ : BufTy).Contents (Elt F) → (⟨S_, .i32⟩ : BufTy).Contents (Elt F)),
    unary main_v46 main_v47 (id : (⟨S_, .i32⟩ : BufTy).Contents (Elt F) → (⟨S_, .i32⟩ : BufTy).Contents (Elt F)) ]

/-- the key of the signs: -/
abbrev opsA3 : List (HloOp τ sig (Elt F)) :=
  [ unary main_v47 main_v48 (broadcastInDim S1 ![] bcast_S_S1 : (⟨S_, .i32⟩ : BufTy).Contents (Elt F) → (⟨S1, .i32⟩ : BufTy).Contents (Elt F)),
    nullary main_c_10 (constantI S_ 32 4294967295#32),
    binary main_c main_c_10 main_v49 (andi : (⟨S_, .i32⟩ : BufTy).Contents (Elt F) → (⟨S_, .i32⟩ : BufTy).Contents (Elt F) → (⟨S_, .i32⟩ : BufTy).Contents (Elt F)),
    unary main_v49 main_v50 (id : (⟨S_, .i32⟩ : BufTy).Contents (Elt F) → (⟨S_, .i32⟩ : BufTy).Contents (Elt F)),
    unary main_v50 main_v51 (broadcastInDim S1 ![] bcast_S_S1 : (⟨S_, .i32⟩ : BufTy).Contents (Elt F) → (⟨S1, .i32⟩ : BufTy).Contents (Elt F)),
    binary main_v48 main_v51 main_v52 (joinKey (F := F)),
    nullary main_c_11 (constantI S_ 32 0#32),
    nullary main_c_12 (constantI S_ 32 2#32) ]

/-- after the signs, the second differences along them: -/
abbrev opsB0 : List (HloOp τ sig (Elt F)) :=
  [ unary main_v53 main_v54 (sitofp .f32 : (⟨S2x8x384x32x32, .i32⟩ : BufTy).Contents (Elt F) → (⟨S2x8x384x32x32, .f32⟩ : BufTy).Contents (Elt F)),
    nullary main_cst_13 (constant S_ .f32 0x40000000#32),
    unary main_cst_13 main_v55 (broadcastInDim S2x8x384x32x32 ![] bcast_S_S2x8x384x32x32 : (⟨S_, .f32⟩ : BufTy).Contents (Elt F) → (⟨S2x8x384x32x32, .f32⟩ : BufTy).Contents (Elt F)),
    binary main_v54 main_v55 main_v56 (mulf : (⟨S2x8x384x32x32, .f32⟩ : BufTy).Contents (Elt F) → (⟨S2x8x384x32x32, .f32⟩ : BufTy).Contents (Elt F) → (⟨S2x8x384x32x32, .f32⟩ : BufTy).Contents (Elt F)),
    nullary main_cst_14 (constant S_ .f32 0x3F800000#32),
    unary main_cst_14 main_v57 (broadcastInDim S2x8x384x32x32 ![] bcast_S_S2x8x384x32x32 : (⟨S_, .f32⟩ : BufTy).Contents (Elt F) → (⟨S2x8x384x32x32, .f32⟩ : BufTy).Contents (Elt F)),
    binary main_v56 main_v57 main_v58 (subf : (⟨S2x8x384x32x32, .f32⟩ : BufTy).Contents (Elt F) → (⟨S2x8x384x32x32, .f32⟩ : BufTy).Contents (Elt F) → (⟨S2x8x384x32x32, .f32⟩ : BufTy).Contents (Elt F)),
    nullary main_cst_15 (constant S_ .f32 0x3DCCCCCD#32),
    unary main_cst_15 main_v59 (broadcastInDim S2x8x384x32x32 ![] bcast_S_S2x8x384x32x32 : (⟨S_, .f32⟩ : BufTy).Contents (Elt F) → (⟨S2x8x384x32x32, .f32⟩ : BufTy).Contents (Elt F)),
    binary main_v59 main_v58 main_v60 (mulf : (⟨S2x8x384x32x32, .f32⟩ : BufTy).Contents (Elt F) → (⟨S2x8x384x32x32, .f32⟩ : BufTy).Contents (Elt F) → (⟨S2x8x384x32x32, .f32⟩ : BufTy).Contents (Elt F)),
    unary main_v60 main_v61 ((extractStridedSlice S1x8x384x32x32 ![0, 0, 0, 0, 0] · slices_S2x8x384x32x32_S1x8x384x32x32_0_0_0_0_0) : (⟨S2x8x384x32x32, .f32⟩ : BufTy).Contents (Elt F) → (⟨S1x8x384x32x32, .f32⟩ : BufTy).Contents (Elt F)),
    reshape main_v61 main_v62 (rfl : (.f32 : EltTy) = .f32) shapeCasts_S1x8x384x32x32_S8x384x32x32,
    binary main_arg0 main_v62 main_v63 (addf : (⟨S8x384x32x32, .f32⟩ : BufTy).Contents (Elt F) → (⟨S8x384x32x32, .f32⟩ : BufTy).Contents (Elt F) → (⟨S8x384x32x32, .f32⟩ : BufTy).Contents (Elt F)),
    binary main_arg1 main_v63 main_v64 ((fun l r => Host.dotGeneral dot_S64x384_S8x384x32x32_S64x8x32x32_1_1_0_023_n_n none l r) : (⟨S64x384, .f32⟩ : BufTy).Contents (Elt F) → (⟨S8x384x32x32, .f32⟩ : BufTy).Contents (Elt F) → (⟨S64x8x32x32, .f32⟩ : BufTy).Contents (Elt F)),
    unary main_v64 main_v65 ((transpose S8x64x32x32 [1, 0, 2, 3] · transposes_S64x8x32x32_S8x64x32x32_1_0_2_3) : (⟨S64x8x32x32, .f32⟩ : BufTy).Contents (Elt F) → (⟨S8x64x32x32, .f32⟩ : BufTy).Contents (Elt F)),
    unary main_arg2 main_v66 (broadcastInDim S1x64x1x1 ![1] bcast_S64_S1x64x1x1_1 : (⟨S64, .f32⟩ : BufTy).Contents (Elt F) → (⟨S1x64x1x1, .f32⟩ : BufTy).Contents (Elt F)),
    unary main_v66 main_v67 (broadcastInDim S8x64x32x32 ![0, 1, 2, 3] bcast_S1x64x1x1_S8x64x32x32_0_1_2_3 : (⟨S1x64x1x1, .f32⟩ : BufTy).Contents (Elt F) → (⟨S8x64x32x32, .f32⟩ : BufTy).Contents (Elt F)),
    binary main_v65 main_v67 main_v68 (addf : (⟨S8x64x32x32, .f32⟩ : BufTy).Contents (Elt F) → (⟨S8x64x32x32, .f32⟩ : BufTy).Contents (Elt F) → (⟨S8x64x32x32, .f32⟩ : BufTy).Contents (Elt F)),
    nullary main_cst_16 (constant S_ .f32 0x40000000#32),
    unary main_cst_16 main_v69 (broadcastInDim S8x64x32x32 ![] bcast_S_S8x64x32x32 : (⟨S_, .f32⟩ : BufTy).Contents (Elt F) → (⟨S8x64x32x32, .f32⟩ : BufTy).Contents (Elt F)),
    binary main_v69 main_v4 main_v70 (mulf : (⟨S8x64x32x32, .f32⟩ : BufTy).Contents (Elt F) → (⟨S8x64x32x32, .f32⟩ : BufTy).Contents (Elt F) → (⟨S8x64x32x32, .f32⟩ : BufTy).Contents (Elt F)),
    binary main_v68 main_v70 main_v71 (subf : (⟨S8x64x32x32, .f32⟩ : BufTy).Contents (Elt F) → (⟨S8x64x32x32, .f32⟩ : BufTy).Contents (Elt F) → (⟨S8x64x32x32, .f32⟩ : BufTy).Contents (Elt F)),
    binary main_arg0 main_v62 main_v72 (subf : (⟨S8x384x32x32, .f32⟩ : BufTy).Contents (Elt F) → (⟨S8x384x32x32, .f32⟩ : BufTy).Contents (Elt F) → (⟨S8x384x32x32, .f32⟩ : BufTy).Contents (Elt F)),
    binary main_arg1 main_v72 main_v73 ((fun l r => Host.dotGeneral dot_S64x384_S8x384x32x32_S64x8x32x32_1_1_0_023_n_n none l r) : (⟨S64x384, .f32⟩ : BufTy).Contents (Elt F) → (⟨S8x384x32x32, .f32⟩ : BufTy).Contents (Elt F) → (⟨S64x8x32x32, .f32⟩ : BufTy).Contents (Elt F)),
    unary main_v73 main_v74 ((transpose S8x64x32x32 [1, 0, 2, 3] · transposes_S64x8x32x32_S8x64x32x32_1_0_2_3) : (⟨S64x8x32x32, .f32⟩ : BufTy).Contents (Elt F) → (⟨S8x64x32x32, .f32⟩ : BufTy).Contents (Elt F)),
    unary main_arg2 main_v75 (broadcastInDim S1x64x1x1 ![1] bcast_S64_S1x64x1x1_1 : (⟨S64, .f32⟩ : BufTy).Contents (Elt F) → (⟨S1x64x1x1, .f32⟩ : BufTy).Contents (Elt F)),
    unary main_v75 main_v76 (broadcastInDim S8x64x32x32 ![0, 1, 2, 3] bcast_S1x64x1x1_S8x64x32x32_0_1_2_3 : (⟨S1x64x1x1, .f32⟩ : BufTy).Contents (Elt F) → (⟨S8x64x32x32, .f32⟩ : BufTy).Contents (Elt F)),
    binary main_v74 main_v76 main_v77 (addf : (⟨S8x64x32x32, .f32⟩ : BufTy).Contents (Elt F) → (⟨S8x64x32x32, .f32⟩ : BufTy).Contents (Elt F) → (⟨S8x64x32x32, .f32⟩ : BufTy).Contents (Elt F)),
    binary main_v71 main_v77 main_v78 (addf : (⟨S8x64x32x32, .f32⟩ : BufTy).Contents (Elt F) → (⟨S8x64x32x32, .f32⟩ : BufTy).Contents (Elt F) → (⟨S8x64x32x32, .f32⟩ : BufTy).Contents (Elt F)),
    nullary main_cst_17 (constant S_ .f32 0x3C23D70A#32),
    unary main_cst_17 main_v79 (broadcastInDim S8x64x32x32 ![] bcast_S_S8x64x32x32 : (⟨S_, .f32⟩ : BufTy).Contents (Elt F) → (⟨S8x64x32x32, .f32⟩ : BufTy).Contents (Elt F)),
    binary main_v78 main_v79 main_v80 (Host.divf : (⟨S8x64x32x32, .f32⟩ : BufTy).Contents (Elt F) → (⟨S8x64x32x32, .f32⟩ : BufTy).Contents (Elt F) → (⟨S8x64x32x32, .f32⟩ : BufTy).Contents (Elt F)),
    unary main_v60 main_v81 ((extractStridedSlice S1x8x384x32x32 ![1, 0, 0, 0, 0] · slices_S2x8x384x32x32_S1x8x384x32x32_1_0_0_0_0) : (⟨S2x8x384x32x32, .f32⟩ : BufTy).Contents (Elt F) → (⟨S1x8x384x32x32, .f32⟩ : BufTy).Contents (Elt F)),
    reshape main_v81 main_v82 (rfl : (.f32 : EltTy) = .f32) shapeCasts_S1x8x384x32x32_S8x384x32x32,
    binary main_arg0 main_v82 main_v83 (addf : (⟨S8x384x32x32, .f32⟩ : BufTy).Contents (Elt F) → (⟨S8x384x32x32, .f32⟩ : BufTy).Contents (Elt F) → (⟨S8x384x32x32, .f32⟩ : BufTy).Contents (Elt F)),
    binary main_arg1 main_v83 main_v84 ((fun l r => Host.dotGeneral dot_S64x384_S8x384x32x32_S64x8x32x32_1_1_0_023_n_n none l r) : (⟨S64x384, .f32⟩ : BufTy).Contents (Elt F) → (⟨S8x384x32x32, .f32⟩ : BufTy).Contents (Elt F) → (⟨S64x8x32x32, .f32⟩ : BufTy).Contents (Elt F)),
    unary main_v84 main_v85 ((transpose S8x64x32x32 [1, 0, 2, 3] · transposes_S64x8x32x32_S8x64x32x32_1_0_2_3) : (⟨S64x8x32x32, .f32⟩ : BufTy).Contents (Elt F) → (⟨S8x64x32x32, .f32⟩ : BufTy).Contents (Elt F)),
    unary main_arg2 main_v86 (broadcastInDim S1x64x1x1 ![1] bcast_S64_S1x64x1x1_1 : (⟨S64, .f32⟩ : BufTy).Contents (Elt F) → (⟨S1x64x1x1, .f32⟩ : BufTy).Contents (Elt F)),
    unary main_v86 main_v87 (broadcastInDim S8x64x32x32 ![0, 1, 2, 3] bcast_S1x64x1x1_S8x64x32x32_0_1_2_3 : (⟨S1x64x1x1, .f32⟩ : BufTy).Contents (Elt F) → (⟨S8x64x32x32, .f32⟩ : BufTy).Contents (Elt F)),
    binary main_v85 main_v87 main_v88 (addf : (⟨S8x64x32x32, .f32⟩ : BufTy).Contents (Elt F) → (⟨S8x64x32x32, .f32⟩ : BufTy).Contents (Elt F) → (⟨S8x64x32x32, .f32⟩ : BufTy).Contents (Elt F)),
    nullary main_cst_18 (constant S_ .f32 0x40000000#32),
    unary main_cst_18 main_v89 (broadcastInDim S8x64x32x32 ![] bcast_S_S8x64x32x32 : (⟨S_, .f32⟩ : BufTy).Contents (Elt F) → (⟨S8x64x32x32, .f32⟩ : BufTy).Contents (Elt F)),
    binary main_v89 main_v4 main_v90 (mulf : (⟨S8x64x32x32, .f32⟩ : BufTy).Contents (Elt F) → (⟨S8x64x32x32, .f32⟩ : BufTy).Contents (Elt F) → (⟨S8x64x32x32, .f32⟩ : BufTy).Contents (Elt F)),
    binary main_v88 main_v90 main_v91 (subf : (⟨S8x64x32x32, .f32⟩ : BufTy).Contents (Elt F) → (⟨S8x64x32x32, .f32⟩ : BufTy).Contents (Elt F) → (⟨S8x64x32x32, .f32⟩ : BufTy).Contents (Elt F)),
    binary main_arg0 main_v82 main_v92 (subf : (⟨S8x384x32x32, .f32⟩ : BufTy).Contents (Elt F) → (⟨S8x384x32x32, .f32⟩ : BufTy).Contents (Elt F) → (⟨S8x384x32x32, .f32⟩ : BufTy).Contents (Elt F)),
    binary main_arg1 main_v92 main_v93 ((fun l r => Host.dotGeneral dot_S64x384_S8x384x32x32_S64x8x32x32_1_1_0_023_n_n none l r) : (⟨S64x384, .f32⟩ : BufTy).Contents (Elt F) → (⟨S8x384x32x32, .f32⟩ : BufTy).Contents (Elt F) → (⟨S64x8x32x32, .f32⟩ : BufTy).Contents (Elt F)),
    unary main_v93 main_v94 ((transpose S8x64x32x32 [1, 0, 2, 3] · transposes_S64x8x32x32_S8x64x32x32_1_0_2_3) : (⟨S64x8x32x32, .f32⟩ : BufTy).Contents (Elt F) → (⟨S8x64x32x32, .f32⟩ : BufTy).Contents (Elt F)),
    unary main_arg2 main_v95 (broadcastInDim S1x64x1x1 ![1] bcast_S64_S1x64x1x1_1 : (⟨S64, .f32⟩ : BufTy).Contents (Elt F) → (⟨S1x64x1x1, .f32⟩ : BufTy).Contents (Elt F)),
    unary main_v95 main_v96 (broadcastInDim S8x64x32x32 ![0, 1, 2, 3] bcast_S1x64x1x1_S8x64x32x32_0_1_2_3 : (⟨S1x64x1x1, .f32⟩ : BufTy).Contents (Elt F) → (⟨S8x64x32x32, .f32⟩ : BufTy).Contents (Elt F)),
    binary main_v94 main_v96 main_v97 (addf : (⟨S8x64x32x32, .f32⟩ : BufTy).Contents (Elt F) → (⟨S8x64x32x32, .f32⟩ : BufTy).Contents (Elt F) → (⟨S8x64x32x32, .f32⟩ : BufTy).Contents (Elt F)),
    binary main_v91 main_v97 main_v98 (addf : (⟨S8x64x32x32, .f32⟩ : BufTy).Contents (Elt F) → (⟨S8x64x32x32, .f32⟩ : BufTy).Contents (Elt F) → (⟨S8x64x32x32, .f32⟩ : BufTy).Contents (Elt F)) ]

/-- their variance and the four results: -/
abbrev opsB1 : List (HloOp τ sig (Elt F)) :=
  [ nullary main_cst_19 (constant S_ .f32 0x3C23D70A#32),
    unary main_cst_19 main_v99 (broadcastInDim S8x64x32x32 ![] bcast_S_S8x64x32x32 : (⟨S_, .f32⟩ : BufTy).Contents (Elt F) → (⟨S8x64x32x32, .f32⟩ : BufTy).Contents (Elt F)),
    binary main_v98 main_v99 main_v100 (Host.divf : (⟨S8x64x32x32, .f32⟩ : BufTy).Contents (Elt F) → (⟨S8x64x32x32, .f32⟩ : BufTy).Contents (Elt F) → (⟨S8x64x32x32, .f32⟩ : BufTy).Contents (Elt F)),
    unary main_v80 main_v101 (broadcastInDim S1x8x64x32x32 ![1, 2, 3, 4] bcast_S8x64x32x32_S1x8x64x32x32_1_2_3_4 : (⟨S8x64x32x32, .f32⟩ : BufTy).Contents (Elt F) → (⟨S1x8x64x32x32, .f32⟩ : BufTy).Contents (Elt F)),
    unary main_v100 main_v102 (broadcastInDim S1x8x64x32x32 ![1, 2, 3, 4] bcast_S8x64x32x32_S1x8x64x32x32_1_2_3_4 : (⟨S8x64x32x32, .f32⟩ : BufTy).Contents (Elt F) → (⟨S1x8x64x32x32, .f32⟩ : BufTy).Contents (Elt F)),
    binary main_v101 main_v102 main_v103 (join2 (F := F)),
    nullary main_c_20 (constantI S_ 32 1#32),
    TRef.nullary (TRef.of (T := ⟨S_, .f32⟩) main_call4_cst) (constant S_ .f32 0x00000000#32),
    TRef.binary (TRef.of (T := ⟨S2x8x64x32x32, .f32⟩) main_v103) (TRef.of (T := ⟨S_, .f32⟩) main_call4_cst) (TRef.of (T := ⟨S8x64x32x32, .f32⟩) main_call4_v0) (fun x v => Host.reduceAdd x v reducesTo_S2x8x64x32x32_S8x64x32x32_d0 h_S_),
    TRef.unary (TRef.of (T := ⟨S8x64x32x32, .f32⟩) main_call4_v0) (TRef.of (T := ⟨S1x8x64x32x32, .f32⟩) main_call4_v1) (broadcastInDim S1x8x64x32x32 ![1, 2, 3, 4] bcast_S8x64x32x32_S1x8x64x32x32_1_2_3_4),
    TRef.nullary (TRef.of (T := ⟨S_, .f32⟩) main_call4_cst_0) (constant S_ .f32 0x40000000#32),
    TRef.unary (TRef.of (T := ⟨S_, .f32⟩) main_call4_cst_0) (TRef.of (T := ⟨S1x8x64x32x32, .f32⟩) main_call4_v2) (broadcastInDim S1x8x64x32x32 ![] bcast_S_S1x8x64x32x32),
    TRef.binary (TRef.of (T := ⟨S1x8x64x32x32, .f32⟩) main_call4_v1) (TRef.of (T := ⟨S1x8x64x32x32, .f32⟩) main_call4_v2) (TRef.of (T := ⟨S1x8x64x32x32, .f32⟩) main_call4_v3) Host.divf,
    TRef.unary (TRef.of (T := ⟨S1x8x64x32x32, .f32⟩) main_call4_v3) (TRef.of (T := ⟨S2x8x64x32x32, .f32⟩) main_call4_v4) (broadcastInDim S2x8x64x32x32 ![0, 1, 2, 3, 4] bcast_S1x8x64x32x32_S2x8x64x32x32_0_1_2_3_4),
    TRef.binary (TRef.of (T := ⟨S2x8x64x32x32, .f32⟩) main_v103) (TRef.of (T := ⟨S2x8x64x32x32, .f32⟩) main_call4_v4) (TRef.of (T := ⟨S2x8x64x32x32, .f32⟩) main_call4_v5) subf,
    TRef.binary (TRef.of (T := ⟨S2x8x64x32x32, .f32⟩) main_call4_v5) (TRef.of (T := ⟨S2x8x64x32x32, .f32⟩) main_call4_v5) (TRef.of (T := ⟨S2x8x64x32x32, .f32⟩) main_call4_v6) mulf,
    TRef.unary (TRef.of (T := ⟨S_, .i32⟩) main_c_20) (TRef.of (T := ⟨S_, .f32⟩) main_call4_v7) (sitofp .f32),
    TRef.nullary (TRef.of (T := ⟨S_, .f32⟩) main_call4_cst_1) (constant S_ .f32 0x40000000#32),
    TRef.binary (TRef.of (T := ⟨S_, .f32⟩) main_call4_cst_1) (TRef.of (T := ⟨S_, .f32⟩) main_call4_v7) (TRef.of (T := ⟨S_, .f32⟩) main_call4_v8) subf,
    TRef.nullary (TRef.of (T := ⟨S_, .f32⟩) main_call4_cst_2) (constant S_ .f32 0x00000000#32),
    TRef.binary (TRef.of (T := ⟨S2x8x64x32x32, .f32⟩) main_call4_v6) (TRef.of (T := ⟨S_, .f32⟩) main_call4_cst_2) (TRef.of (T := ⟨S8x64x32x32, .f32⟩) main_call4_v9) (fun x v => Host.reduceAdd x v reducesTo_S2x8x64x32x32_S8x64x32x32_d0 h_S_),
    TRef.unary (TRef.of (T := ⟨S_, .f32⟩) main_call4_v8) (TRef.of (T := ⟨S8x64x32x32, .f32⟩) main_call4_v10) (broadcastInDim S8x64x32x32 ![] bcast_S_S8x64x32x32),
    TRef.binary (TRef.of (T := ⟨S8x64x32x32, .f32⟩) main_call4_v9) (TRef.of (T := ⟨S8x64x32x32, .f32⟩) main_call4_v10) (TRef.of (T := ⟨S8x64x32x32, .f32⟩) main_call4_v11) Host.divf,
    TRef.nullary (TRef.of (T := ⟨S_, .f32⟩) main_call4_cst_3) (constant S_ .f32 0x00000000#32),
    TRef.binary (TRef.of (T := ⟨S_, .f32⟩) main_call4_v8) (TRef.of (T := ⟨S_, .f32⟩) main_call4_cst_3) (TRef.of (T := ⟨S_, .i1⟩) main_call4_v12) (cmpf .ogt),
    TRef.nullary (TRef.of (T := ⟨S_, .f32⟩) main_call4_cst_4) (constant S_ .f32 0x7FC00000#32),
    TRef.unary (TRef.of (T := ⟨S_, .f32⟩) main_call4_cst_4) (TRef.of (T := ⟨S_, .f32⟩) main_call4_call0_v0) id,
    TRef.unary (TRef.of (T := ⟨S_, .f32⟩) main_call4_call0_v0) (TRef.of (T := ⟨S8x64x32x32, .f32⟩) main_call4_call0_v1) (broadcastInDim S8x64x32x32 ![] bcast_S_S8x64x32x32),
    TRef.ternary (TRef.of (T := ⟨S_, .i1⟩) main_call4_v12) (TRef.of (T := ⟨S8x64x32x32, .f32⟩) main_call4_v11) (TRef.of (T := ⟨S8x64x32x32, .f32⟩) main_call4_call0_v1) (TRef.of (T := ⟨S8x64x32x32, .f32⟩) main_v104) (fun p a b => select (broadcastInDim S8x64x32x32 ![] bcast_S_S8x64x32x32 p) a b),
    nullary main_cst_21 (constant S_ .f32 0xFF800000#32),
    binary main_v104 main_cst_21 main_v105 ((fun x v => Host.reduce FloatOps.maximumf x v reducesTo_S8x64x32x32_S_d0_1_2_3 h_S_) : (⟨S8x64x32x32, .f32⟩ : BufTy).Contents (Elt F) → (⟨S_, .f32⟩ : BufTy).Contents (Elt F) → (⟨S_, .f32⟩ : BufTy).Contents (Elt F)),
    binary main_v45 main_v105 main_v106 (addf : (⟨S_, .f32⟩ : BufTy).Contents (Elt F) → (⟨S_, .f32⟩ : BufTy).Contents (Elt F) → (⟨S_, .f32⟩ : BufTy).Contents (Elt F)),
    binary main_v34 main_v4 main_v107 (subf : (⟨S8x64x32x32, .f32⟩ : BufTy).Contents (Elt F) → (⟨S8x64x32x32, .f32⟩ : BufTy).Contents (Elt F) → (⟨S8x64x32x32, .f32⟩ : BufTy).Contents (Elt F)),
    binary main_v4 main_v107 main_v108 (addf : (⟨S8x64x32x32, .f32⟩ : BufTy).Contents (Elt F) → (⟨S8x64x32x32, .f32⟩ : BufTy).Contents (Elt F) → (⟨S8x64x32x32, .f32⟩ : BufTy).Contents (Elt F)),
    nullary main_cst_22 (constant S_ .f32 0x00000000#32),
    unary main_cst_22 main_v109 (broadcastInDim S65536 ![] bcast_S_S65536 : (⟨S_, .f32⟩ : BufTy).Contents (Elt F) → (⟨S65536, .f32⟩ : BufTy).Contents (Elt F)),
    nullary main_c_23 (constantI S_ 32 0#32),
    unary main_c_23 main_v110 (broadcastInDim S8192 ![] bcast_S_S8192 : (⟨S_, .i32⟩ : BufTy).Contents (Elt F) → (⟨S8192, .i32⟩ : BufTy).Contents (Elt F)),
    binary main_v32 main_v110 main_v111 (cmpi .slt : (⟨S8192, .i32⟩ : BufTy).Contents (Elt F) → (⟨S8192, .i32⟩ : BufTy).Contents (Elt F) → (⟨S8192, .i1⟩ : BufTy).Contents (Elt F)),
    nullary main_c_24 (constantI S_ 32 65536#32),
    unary main_c_24 main_v112 (broadcastInDim S8192 ![] bcast_S_S8192 : (⟨S_, .i32⟩ : BufTy).Contents (Elt F) → (⟨S8192, .i32⟩ : BufTy).Contents (Elt F)),
    binary main_v32 main_v112 main_v113 (addi : (⟨S8192, .i32⟩ : BufTy).Contents (Elt F) → (⟨S8192, .i32⟩ : BufTy).Contents (Elt F) → (⟨S8192, .i32⟩ : BufTy).Contents (Elt F)),
    ternary main_v111 main_v113 main_v32 main_v114 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v114 main_v115 (broadcastInDim S8192x1 ![0] bcast_S8192_S8192x1_0 : (⟨S8192, .i32⟩ : BufTy).Contents (Elt F) → (⟨S8192x1, .i32⟩ : BufTy).Contents (Elt F)),
    nullary main_cst_25 (constant S_ .f32 0x3F800000#32),
    unary main_cst_25 main_v116 (broadcastInDim S8192 ![] bcast_S_S8192 : (⟨S_, .f32⟩ : BufTy).Contents (Elt F) → (⟨S8192, .f32⟩ : BufTy).Contents (Elt F)),
    ternary main_v109 main_v115 main_v116 main_v117 ((fun x i u => Host.scatter scatter_S65536_S8192x1_S8192_n_0_0_1 (fun _ b => b) x i u) : (⟨S65536, .f32⟩ : BufTy).Contents (Elt F) → (⟨S8192x1, .i32⟩ : BufTy).Contents (Elt F) → (⟨S8192, .f32⟩ : BufTy).Contents (Elt F) → (⟨S65536, .f32⟩ : BufTy).Contents (Elt F)),
    reshape main_v117 main_v118 (rfl : (.f32 : EltTy) = .f32) shapeCasts_S65536_S8x8192,
    reshape main_v32 main_v119 (rfl : (.i32 : EltTy) = .i32) shapeCasts_S8192_S8x1024 ]

/-- The buffers `opsA0` writes, -/
abbrev opsA0_W : List (Ref sig .tc) := [main_v0, main_v1, main_v2, main_v3, main_v4, main_v5, main_v6, main_v7, main_call0_v0, main_call0_cst, main_call0_v1, main_v8, main_v9, main_v10, main_v11, main_v12, main_v13, main_v14, main_v15, main_cst, main_v16, main_cst_0, main_v17, main_v18, main_cst_1, main_v19, main_v20, main_v21, main_cst_2, main_v22]
/-- so that another keeps its contents. -/
theorem opsA0_keep (V : Valuation τ sig (Elt F)) (r : Ref sig .tc) (h : r ∉ opsA0_W) : after opsA0 V (Proc.devRef .tc r) = V (Proc.devRef .tc r) :=
  after_of_writes_sub _ V (forall_writes_sub_of_map rfl) h
theorem opsA0_sub : (opsA0 (F := F)).Forall fun op => op.bufs ⊆ tcRefs τ sig := by
  simp only [List.forall_cons, List.Forall, nullary_bufs_sub, unary_bufs_sub, binary_bufs_sub, ternary_bufs_sub, quaternary_bufs_sub, reshape_bufs_sub, and_self]
theorem opsA0_fresh : (opsA0 (F := F)).Forall fun op => op.fresh = ∅ := by
  repeat' apply And.intro
  all_goals rfl

/-- The buffers `opsA1` writes, -/
abbrev opsA1_W : List (Ref sig .tc) := [main_v23, main_v24, main_v25, main_v26, main_v27, main_v28, main_cst_3, main_v29, main_v30, main_v31, main_call1_v0, main_call1_cst, main_call1_c, main_call1_v1_0, main_v32, main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3]
/-- so that another keeps its contents. -/
theorem opsA1_keep (V : Valuation τ sig (Elt F)) (r : Ref sig .tc) (h : r ∉ opsA1_W) : after opsA1 V (Proc.devRef .tc r) = V (Proc.devRef .tc r) :=
  after_of_writes_sub _ V (forall_writes_sub_of_map rfl) h
theorem opsA1_sub : (opsA1 (F := F)).Forall fun op => op.bufs ⊆ tcRefs τ sig := by
  simp only [List.forall_cons, List.Forall, nullary_bufs_sub, unary_bufs_sub, binary_bufs_sub, ternary_bufs_sub, quaternary_bufs_sub, reshape_bufs_sub, and_self]
theorem opsA1_fresh : (opsA1 (F := F)).Forall fun op => op.fresh = ∅ := by
  repeat' apply And.intro
  all_goals rfl

/-- The buffers `opsA2` writes, -/
abbrev opsA2_W : List (Ref sig .tc) := [main_call2_v12, main_call2_v13, main_call2_v14, main_call2_cst, main_call2_v15, main_v33, main_v34, main_v35, main_v36, main_cst_4, main_v37, main_cst_5, main_v38, main_v39, main_v40, main_cst_6, main_v41, main_cst_7, main_v42, main_cst_8, main_v43, main_v44, main_v45, main_c, main_c_9, main_v46, main_v47]
/-- so that another keeps its contents. -/
theorem opsA2_keep (V : Valuation τ sig (Elt F)) (r : Ref sig .tc) (h : r ∉ opsA2_W) : after opsA2 V (Proc.devRef .tc r) = V (Proc.devRef .tc r) :=
  after_of_writes_sub _ V (forall_writes_sub_of_map rfl) h
theorem opsA2_sub : (opsA2 (F := F)).Forall fun op => op.bufs ⊆ tcRefs τ sig := by
  simp only [List.forall_cons, List.Forall, nullary_bufs_sub, unary_bufs_sub, binary_bufs_sub, ternary_bufs_sub, quaternary_bufs_sub, reshape_bufs_sub, and_self]
theorem opsA2_fresh : (opsA2 (F := F)).Forall fun op => op.fresh = ∅ := by
  repeat' apply And.intro
  all_goals rfl

/-- The buffers `opsA3` writes, -/
abbrev opsA3_W : List (Ref sig .tc) := [main_v48, main_c_10, main_v49, main_v50, main_v51, main_v52, main_c_11, main_c_12]
/-- so that another keeps its contents. -/
theorem opsA3_keep (V : Valuation τ sig (Elt F)) (r : Ref sig .tc) (h : r ∉ opsA3_W) : after opsA3 V (Proc.devRef .tc r) = V (Proc.devRef .tc r) :=
  after_of_writes_sub _ V (forall_writes_sub_of_map rfl) h
theorem opsA3_sub : (opsA3 (F := F)).Forall fun op => op.bufs ⊆ tcRefs τ sig := by
  simp only [List.forall_cons, List.Forall, nullary_bufs_sub, unary_bufs_sub, binary_bufs_sub, ternary_bufs_sub, quaternary_bufs_sub, reshape_bufs_sub, and_self]
theorem opsA3_fresh : (opsA3 (F := F)).Forall fun op => op.fresh = ∅ := by
  repeat' apply And.intro
  all_goals rfl

/-- The buffers `opsB0` writes, -/
abbrev opsB0_W : List (Ref sig .tc) := [main_v54, main_cst_13, main_v55, main_v56, main_cst_14, main_v57, main_v58, main_cst_15, main_v59, main_v60, main_v61, main_v62, main_v63, main_v64, main_v65, main_v66, main_v67, main_v68, main_cst_16, main_v69, main_v70, main_v71, main_v72, main_v73, main_v74, main_v75, main_v76, main_v77, main_v78, main_cst_17, main_v79, main_v80, main_v81, main_v82, main_v83, main_v84, main_v85, main_v86, main_v87, main_v88, main_cst_18, main_v89, main_v90, main_v91, main_v92, main_v93, main_v94, main_v95, main_v96, main_v97, main_v98]
/-- so that another keeps its contents. -/
theorem opsB0_keep (V : Valuation τ sig (Elt F)) (r : Ref sig .tc) (h : r ∉ opsB0_W) : after opsB0 V (Proc.devRef .tc r) = V (Proc.devRef .tc r) :=
  after_of_writes_sub _ V (forall_writes_sub_of_map rfl) h
theorem opsB0_sub : (opsB0 (F := F)).Forall fun op => op.bufs ⊆ tcRefs τ sig := by
  simp only [List.forall_cons, List.Forall, nullary_bufs_sub, unary_bufs_sub, binary_bufs_sub, ternary_bufs_sub, quaternary_bufs_sub, reshape_bufs_sub, and_self]
theorem opsB0_fresh : (opsB0 (F := F)).Forall fun op => op.fresh = ∅ := by
  repeat' apply And.intro
  all_goals rfl

/-- The buffers `opsB1` writes, -/
abbrev opsB1_W : List (Ref sig .tc) := [main_cst_19, main_v99, main_v100, main_v101, main_v102, main_v103, main_c_20, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v104, main_cst_21, main_v105, main_v106, main_v107, main_v108, main_cst_22, main_v109, main_c_23, main_v110, main_v111, main_c_24, main_v112, main_v113, main_v114, main_v115, main_cst_25, main_v116, main_v117, main_v118, main_v119]
/-- so that another keeps its contents. -/
theorem opsB1_keep (V : Valuation τ sig (Elt F)) (r : Ref sig .tc) (h : r ∉ opsB1_W) : after opsB1 V (Proc.devRef .tc r) = V (Proc.devRef .tc r) :=
  after_of_writes_sub _ V (forall_writes_sub_of_map rfl) h
theorem opsB1_sub : (opsB1 (F := F)).Forall fun op => op.bufs ⊆ tcRefs τ sig := by
  simp only [List.forall_cons, List.Forall, nullary_bufs_sub, unary_bufs_sub, binary_bufs_sub, ternary_bufs_sub, quaternary_bufs_sub, reshape_bufs_sub, and_self]
theorem opsB1_fresh : (opsB1 (F := F)).Forall fun op => op.fresh = ∅ := by
  repeat' apply And.intro
  all_goals rfl

/-- What stands before the signs, and what after. -/
def opsA : List (HloOp τ sig (Elt F)) := opsA0 ++ (opsA1 ++ (opsA2 ++ opsA3))
def opsB : List (HloOp τ sig (Elt F)) := opsB0 ++ opsB1

set_option maxRecDepth 8192 in
theorem main_part0_eq (c : Dev nD) : main_part0 (F := F) c = seq (opsA0 ++ (opsA1 ++ opsA2)) := rfl
set_option maxRecDepth 8192 in
theorem main_part1_eq (c : Dev nD) : main_part1 (F := F) c
    = seqK opsA3 (fn_randint.body (.of main_v52) (.of main_c_11) (.of main_c_12) main_call3 >>= fun _ => seq opsB0) := rfl
set_option maxRecDepth 8192 in
theorem main_part2_eq (c : Dev nD) : main_part2 (F := F) c = seq opsB1 := rfl

/-- The program is the line of all its operations. -/
theorem main_eq (c : Dev nD) : main (F := F) c = seq (opsA ++ (signOps ++ opsB)) := by
  have h : main (F := F) c = main_part0 c >>= fun _ => main_part1 c >>= fun _ => main_part2 c := rfl
  rw [h, main_part0_eq, main_part1_eq, main_part2_eq, ← seq_bind_seqK, signOps_eq]
  simp only [opsA, opsB, seq_append, bind_assoc]

theorem all_sub : (opsA ++ (signOps ++ opsB) : List (HloOp τ sig (Elt F))).Forall fun op => op.bufs ⊆ tcRefs τ sig := by
  rw [List.forall_iff_forall_mem]
  intro op h
  simp only [opsA, opsB, List.mem_append] at h
  rcases h with (h | h | h | h) | h | h | h
  exacts [List.forall_iff_forall_mem.mp opsA0_sub op h, List.forall_iff_forall_mem.mp opsA1_sub op h, List.forall_iff_forall_mem.mp opsA2_sub op h,
    List.forall_iff_forall_mem.mp opsA3_sub op h, signOps_within.sub op h, List.forall_iff_forall_mem.mp opsB0_sub op h, List.forall_iff_forall_mem.mp opsB1_sub op h]

theorem all_fresh : ∀ op ∈ (opsA ++ (signOps ++ opsB) : List (HloOp τ sig (Elt F))), op.fresh = ∅ := by
  intro op h
  simp only [opsA, opsB, List.mem_append] at h
  rcases h with (h | h | h | h) | h | h | h
  exacts [List.forall_iff_forall_mem.mp opsA0_fresh op h, List.forall_iff_forall_mem.mp opsA1_fresh op h, List.forall_iff_forall_mem.mp opsA2_fresh op h,
    List.forall_iff_forall_mem.mp opsA3_fresh op h, signOps_within.fresh op h, List.forall_iff_forall_mem.mp opsB0_fresh op h, List.forall_iff_forall_mem.mp opsB1_fresh op h]

theorem scopedRefs_eq : (Finset.univ.filter fun b : Ref sig .tc => b.isScoped) = ∅ := by decide
theorem scopedSems_eq : (Finset.univ.filter fun sm : SemLoc sig => sm.isScoped .tc) = ∅ := by decide

/-- Every run ends, with every buffer at what the line of operations leaves. -/
theorem run_ends (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after (opsA ++ (signOps ++ opsB)) (launchContents m c) (Proc.devRef .tc b) :=
  run_seq scopedRefs_eq scopedSems_eq defs main (fun _ => _) main_eq (fun _ => all_sub) m ρ fun _ => all_fresh

/-- A buffer no operation writes keeps its contents. -/
theorem all_keep (V : Valuation τ sig (Elt F)) (r : Ref sig .tc) (h0 : r ∉ opsA0_W) (h1 : r ∉ opsA1_W) (h2 : r ∉ opsA2_W) (h3 : r ∉ opsA3_W)
    (hs : ¬Sgn r) (h4 : r ∉ opsB0_W) (h5 : r ∉ opsB1_W) :
    after (opsA ++ (signOps ++ opsB)) V (Proc.devRef .tc r) = V (Proc.devRef .tc r) := by
  simp only [opsA, opsB, after_append]
  rw [opsB1_keep _ r h5, opsB0_keep _ r h4, after_signOps _ r hs, opsA3_keep _ r h3, opsA2_keep _ r h2, opsA1_keep _ r h1, opsA0_keep _ r h0]

/-- The reference's frame: every run ends, the arguments as they were and every counter at zero. -/
theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run defs _ _).mono (fun r h => ⟨fun c => ⟨
      (h c main_arg0).trans (all_keep _ main_arg0 (by decide) (by decide) (by decide) (by decide) (by decide) (by decide) (by decide)),
      (h c main_arg1).trans (all_keep _ main_arg1 (by decide) (by decide) (by decide) (by decide) (by decide) (by decide) (by decide)),
      (h c main_arg2).trans (all_keep _ main_arg2 (by decide) (by decide) (by decide) (by decide) (by decide) (by decide) (by decide)),
      (h c main_arg3).trans (all_keep _ main_arg3 (by decide) (by decide) (by decide) (by decide) (by decide) (by decide) (by decide))⟩,
    sem_eq_zero_of_no_sems (by decide) _⟩) (run_ends m ρ)

end Cert.ReferenceIdeal.Own

end
-- ==== Proof.KernelTiles.lean ====
/- The blocks of the two regions' inputs, read off their arrays. -/
module

public import proofs.«01_k».proof.Proof.KernelIdealFrame
public import Idealize.ShloMosaic.Lib.Pipeline.ValueKit.Geometry
public import Idealize.ShloMosaic.Lib.Pointwise

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.ShloMosaic.Pipeline (Dat Cfg Window)

variable {F : FTy → Type} [FloatOps F]
variable (V : (c : Dev nD) → (b : Ref sig .tc) → Buf (Elt F) ((c : Thread nD τ).loc b))

/-- The `n`-th block of 1024 rows of the pixels' array. -/
def pixels (X : Vec F S8192x384 .f32) (n : Fin 8) : Vec F S1024x384 .f32 :=
  fun i => X (ix2 ⟨n.val * 1024 + (i 0).val, by have := n.isLt; have h : (i 0).val < 1024 := (i 0).isLt; omega⟩ (i 1))

/-- The `n`-th block of 128 rows of the latent rows. -/
def tile (Z : Vec F S8192x64 .f32) (n : Fin 64) : Vec F S128x64 .f32 :=
  fun i => Z (ix2 ⟨n.val * 128 + (i 0).val, by have := n.isLt; have h : (i 0).val < 128 := (i 0).isLt; omega⟩ (i 1))

theorem index0_0 : ∀ t : Fin cfg0.N, win0_0.index t = ![t.val, 0] := by decide +kernel
theorem index0_1 : ∀ t : Fin cfg0.N, win0_1.index t = ![0, 0] := by decide +kernel
theorem index0_2 : ∀ t : Fin cfg0.N, win0_2.index t = ![t.val, 0] := by decide +kernel
theorem index1_0 : ∀ t : Fin cfg1.N, win1_0.index t = ![t.val, 0] := by decide +kernel
theorem index1_1 : ∀ t : Fin cfg1.N, win1_1.index t = ![0, 0] := by decide +kernel
theorem index1_2 : ∀ t : Fin cfg1.N, win1_2.index t = ![t.val, 0, 0] := by decide +kernel
theorem index1_3 : ∀ t : Fin cfg1.N, win1_3.index t = ![t.val, 0, 0] := by decide +kernel
theorem index1_4 : ∀ t : Fin cfg1.N, win1_4.index t = ![t.val, 0, 0] := by decide +kernel

/-- Region 0's first input block is a block of rows of the pixels. -/
theorem iblk0_0 (c : Dev nD) (t : Fin cfg0.N) : iblk0 V c 0 t = pixels (V c main_v1) t := by
  funext y
  blk_simp [iblk0]
  unfold pixels
  blk_ext [index0_0]

/-- Region 0's second input block is the whole weight. -/
theorem iblk0_1 (c : Dev nD) (t : Fin cfg0.N) : iblk0 V c 1 t = V c main_arg1 := by
  funext y
  blk_simp [iblk0]
  blk_ext [index0_1]

/-- Region 1's first input block is a block of latent rows. -/
theorem iblk1_0 (c : Dev nD) (t : Fin cfg1.N) : iblk1 V c 0 t = tile (V c main_v8) t := by
  funext y
  blk_simp [iblk1]
  unfold tile
  blk_ext [index1_0]

/-- Region 1's second input block is the whole codebook. -/
theorem iblk1_1 (c : Dev nD) (t : Fin cfg1.N) : iblk1 V c 1 t = V c main_arg3 := by
  funext y
  blk_simp [iblk1]
  blk_ext [index1_1]

end Cert.KernelIdeal.Own

end
-- ==== Proof.KernelArrays.lean ====
/- What the two regions of the kernel leave in their arrays, each array as a whole. -/
module

public import proofs.«01_k».proof.Proof.KernelTiles
public import Idealize.ShloMosaic.Lib.Pipeline.ValueKit.Geometry
public import Idealize.ShloMosaic.Lib.Pointwise

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.ShloMosaic.Pipeline (Dat Cfg Window)

variable {F : FTy → Type} [FloatOps F]
variable (V : (c : Dev nD) → (b : Ref sig .tc) → Buf (Elt F) ((c : Thread nD τ).loc b))

/-- The array of products: row `1024 n + r` is row `r` of block `n`'s product. -/
def products (X : Vec F S8192x384 .f32) (W : Vec F S64x384 .f32) : Vec F S8192x64 .f32 :=
  fun y => k0_pay1 (pixels X ⟨(y 0).val / 1024, by have h : (y 0).val < 8192 := (y 0).isLt; omega⟩) W
    (ix2 ⟨(y 0).val % 1024, by omega⟩ (y 1))

/-- The array of nearest indices. -/
def indices (Z : Vec F S8192x64 .f32) (E : Vec F S8192x64 .f32) : Vec F S64x1x128 .i32 :=
  fun y => k1_pay8 (tile Z (y 0)) E (ix3 0 0 (y 2))

/-- The array of least distances. -/
def leasts (Z : Vec F S8192x64 .f32) (E : Vec F S8192x64 .f32) : Vec F S64x1x128 .f32 :=
  fun y => k1_pay9 (tile Z (y 0)) E (ix3 0 0 (y 2))

/-- The array of nearest codebook rows. -/
def nearests (Z : Vec F S8192x64 .f32) (E : Vec F S8192x64 .f32) : Vec F S64x128x64 .f32 :=
  fun y => k1_pay1 (k1_pay11 (tile Z (y 0)) E) (ix3 0 (y 1) (y 2))

/-- The marks after the first `n + 1` tiles. -/
def marks (Z : Vec F S8192x64 .f32) (E : Vec F S8192x64 .f32) : (n : ℕ) → n < 64 → Vec F S1x1x8192 .f32
  | 0, h => k1_pay4 (k1_pay10 (tile Z ⟨0, h⟩) E) k1_pay2
  | n + 1, h => k1_pay4 (k1_pay10 (tile Z ⟨n + 1, h⟩) E) (marks Z E n (Nat.lt_of_succ_lt h))

/-- The running marks of the region are the marks of its inputs. -/
theorem marks1_eq (c : Dev nD) : ∀ (n : ℕ) (h : n < cfg1.N), marks1 V c n h = marks (V c main_v8) (V c main_arg3) n h
  | 0, h => by
    rw [marks1, iblk1_0, iblk1_1]; rfl
  | n + 1, h => by
    rw [marks1, iblk1_0, iblk1_1, marks1_eq c n]; rfl

/-- Region 0's output array. -/
theorem arr0_2 (c : Dev nD) : (dat0 V c).arrAt 2 cfg0.N = products (V c main_v1) (V c main_arg1) := by
  refine (dat0 V c).arrAt_eq_of_covers 2 _ (by decide +kernel) fun t hf y => ?_
  blk_simp
  rw [after0_2, iblk0_0, iblk0_1]
  unfold out0_2
  frame_out
  have e0 : ((((cfg0.win 2).blk t).view.emb y) 0).val = t.val * 1024 + (y 0).val := by blk_simp [index0_2]
  have h0 : (⟨((((cfg0.win 2).blk t).view.emb y) 0).val / 1024, by rw [e0]; have h8 : t.val < 8 := t.isLt; have hy : (y 0).val < 1024 := (y 0).isLt; omega⟩ : Fin 8) = t := by
    apply Fin.ext; show ((((cfg0.win 2).blk t).view.emb y) 0).val / 1024 = t.val; rw [e0]; have hy : (y 0).val < 1024 := (y 0).isLt; omega
  have h : (ix2 ⟨((((cfg0.win 2).blk t).view.emb y) 0).val % 1024, by omega⟩ ((((cfg0.win 2).blk t).view.emb y) 1) : S1024x64.Idx) = y := by
    blk_ext [index0_2]
  exact (congrArg₂ (fun n i => k0_pay1 (pixels (V c main_v1) n) (V c main_arg1) i) h0 h).symm

/-- Region 1's array of indices. -/
theorem arr1_2 (c : Dev nD) : (dat1 V c).arrAt 2 cfg1.N = indices (V c main_v8) (V c main_arg3) := by
  refine (dat1 V c).arrAt_eq_of_covers 2 _ (by decide +kernel) fun t hf y => ?_
  blk_simp
  rw [after1_2, iblk1_0, iblk1_1]
  have h0 : (((cfg1.win 2).blk t).view.emb y) 0 = t := by apply Fin.ext; blk_simp [index1_2]
  have h : (ix3 0 0 ((((cfg1.win 2).blk t).view.emb y) 2) : S1x1x128.Idx) = y := by blk_ext [index1_2]
  exact (congrArg₂ (fun n i => k1_pay8 (tile (V c main_v8) n) (V c main_arg3) i) h0 h).symm

/-- Region 1's array of least distances. -/
theorem arr1_3 (c : Dev nD) : (dat1 V c).arrAt 3 cfg1.N = leasts (V c main_v8) (V c main_arg3) := by
  refine (dat1 V c).arrAt_eq_of_covers 3 _ (by decide +kernel) fun t hf y => ?_
  blk_simp
  rw [after1_3, iblk1_0, iblk1_1]
  have h0 : (((cfg1.win 3).blk t).view.emb y) 0 = t := by apply Fin.ext; blk_simp [index1_3]
  have h : (ix3 0 0 ((((cfg1.win 3).blk t).view.emb y) 2) : S1x1x128.Idx) = y := by blk_ext [index1_3]
  exact (congrArg₂ (fun n i => k1_pay9 (tile (V c main_v8) n) (V c main_arg3) i) h0 h).symm

/-- Region 1's array of nearest rows. -/
theorem arr1_4 (c : Dev nD) : (dat1 V c).arrAt 4 cfg1.N = nearests (V c main_v8) (V c main_arg3) := by
  refine (dat1 V c).arrAt_eq_of_covers 4 _ (by decide +kernel) fun t hf y => ?_
  blk_simp
  rw [after1_4, iblk1_0, iblk1_1]
  have h0 : (((cfg1.win 4).blk t).view.emb y) 0 = t := by apply Fin.ext; blk_simp [index1_4]
  have h : (ix3 0 ((((cfg1.win 4).blk t).view.emb y) 1) ((((cfg1.win 4).blk t).view.emb y) 2) : S1x128x64.Idx) = y := by blk_ext [index1_4]
  exact (congrArg₂ (fun n i => k1_pay1 (k1_pay11 (tile (V c main_v8) n) (V c main_arg3)) i) h0 h).symm

/-- Region 1's array of marks. -/
theorem arr1_5 (c : Dev nD) : (dat1 V c).arrAt 5 cfg1.N = marks (V c main_v8) (V c main_arg3) 63 (by decide) := by
  refine (dat1 V c).arrAt_eq_of_after_last 5 ⟨63, by decide⟩ (by decide +kernel) _ fun j => ?_
  refine Eq.trans (congrFun (after1_5 V c ⟨63, by decide⟩) _) ?_
  rw [marks1_eq]
  rfl

/-- Region 1's array of the codebook's direction sums. -/
theorem arr1_6 (c : Dev nD) : (dat1 V c).arrAt 6 cfg1.N = k1_pay3 (V c main_arg3) := by
  refine (dat1 V c).arrAt_eq_of_after_last 6 ⟨63, by decide⟩ (by decide +kernel) _ fun j => ?_
  refine Eq.trans (congrFun (after1_6 V c ⟨63, by decide⟩) _) ?_
  rw [iblk1_1]
  rfl

end Cert.KernelIdeal.Own

end
-- ==== Proof.KernelHost.lean ====
/- What the kernel's host lines compute from the arrays the regions leave. -/
module

public import proofs.«01_k».proof.Proof.KernelArrays

@[expose] public section

noncomputable section

namespace Cert.KernelIdeal.Own

open Cert.KernelIdeal Cert.KernelIdeal.Gen
open Idealize.ShloMosaic Idealize.ShloMosaic.TcCoe Idealize.ShloMosaic.Tactic Idealize.ShloMosaic.StableHlo

variable {F : FTy → Type} [FloatOps F]

/-- The pixels, one row for each. -/
def pixelRows (x : FVec F S8x384x32x32 .f32) : FVec F S8192x384 .f32 :=
  shapeCast _ (transpose S8x32x32x384 [0, 2, 3, 1] x transposes_S8x384x32x32_S8x32x32x384_0_2_3_1) shapeCasts_S8x32x32x384_S8192x384

/-- The latent's rows, from the products and the bias. -/
def latentRows (p : FVec F S8192x64 .f32) (b : FVec F S64 .f32) : FVec F S8192x64 .f32 :=
  shapeCast _ (transpose S8x64x16x2x32 [0, 4, 1, 2, 3] (shapeCast S8x16x2x32x64 (addf p (broadcastInDim S8192x64 ![0, 1] bcast_S1x64_S8192x64_0_1
    (broadcastInDim S1x64 ![1] bcast_S64_S1x64_1 b))) shapeCasts_S8192x64_S8x16x2x32x64) transposes_S8x16x2x32x64_S8x64x16x2x32_0_4_1_2_3) shapeCasts_S8x64x16x2x32_S8192x64

/-- The loss, from the least distances and the sum of the codes' directions. -/
def loss (l : FVec F S64x1x128 .f32) (s : FVec F S1x1x64 .f32) : FVec F S_ .f32 :=
  addf (mulf (Host.reduceAdd l (constant S_ .f32 0x00000000#32) reducesTo_S64x1x128_S_d0_1_2 h_S_) (constant S_ .f32 0x36200000#32))
    (Host.divf (Host.reduceAdd (mulf s s) (constant S_ .f32 0x00000000#32) reducesTo_S1x1x64_S_d0_1_2 h_S_) (constant S_ .f32 0x4C800000#32))

/-- The marks written into the first of eight rows of zeros. -/
def sampled (k : FVec F S1x1x8192 .f32) : FVec F S8x8192 .f32 :=
  Host.scatter scatter_S8x8192_S1_S8192_0_0_0_0 (fun _ b => b) (broadcastInDim S8x8192 ![] bcast_S_S8x8192 (constant S_ .f32 0x00000000#32))
    (broadcastInDim S1 ![] bcast_S_S1 (constantI S_ 32 0#32)) (shapeCast S8192 k shapeCasts_S1x1x8192_S8192)

section Lines
variable (V : Valuation τ sig (Elt F))
set_option maxRecDepth 8192
set_option maxHeartbeats 4000000

theorem host0 : after hostOps0 V (no_index (Proc.devRef .tc main_v1)) = pixelRows (F := F) (V (Proc.devRef .tc main_arg0)) := by
  after_results_simp; rfl
theorem host1 : after hostOps1 V (no_index (Proc.devRef .tc main_v8)) = latentRows (F := F) (V (Proc.devRef .tc main_v2)) (V (Proc.devRef .tc main_arg2)) := by
  after_results_simp; rfl
theorem host2_v10 : after hostOps2 V (no_index (Proc.devRef .tc main_v10)) = shapeCast (s := S64x1x128) S8x1024 (V (Proc.devRef .tc main_v9_0)) shapeCasts_S64x1x128_S8x1024 := by
  after_results_simp; rfl
theorem host2_v11 : after hostOps2 V (no_index (Proc.devRef .tc main_v11)) = shapeCast (s := S64x128x64) S8x64x32x32 (V (Proc.devRef .tc main_v9_2)) shapeCasts_S64x128x64_S8x64x32x32 := by
  after_results_simp; rfl
theorem host2_v17 : after hostOps2 V (no_index (Proc.devRef .tc main_v17)) = loss (F := F) (V (Proc.devRef .tc main_v9_1)) (V (Proc.devRef .tc main_v9_4)) := by
  after_results_simp; rfl
theorem host2_v21 : after hostOps2 V (no_index (Proc.devRef .tc main_v21)) = sampled (F := F) (V (Proc.devRef .tc main_v9_3)) := by
  after_results_simp; rfl

end Lines

variable (m : (l : Loc nD τ sig) → Buf (Elt F) l) (ρ : Dev nD → PrngReg)

/-- The rows the second region reads. -/
abbrev zRows (c : Dev nD) : FVec F S8192x64 .f32 :=
  latentRows (products (pixelRows (F := F) (m ((c : Thread nD τ).loc main_arg0))) (m ((c : Thread nD τ).loc main_arg1))) (m ((c : Thread nD τ).loc main_arg2))

theorem V3_v8 (c : Dev nD) : V3 m ρ c main_v8 = zRows m c := by
  refine (host1 (W2 m ρ c)).trans ?_
  rw [W2_args m ρ c main_arg2 (by decide)]
  refine congrArg (fun p => latentRows p _) ((W2_arr m ρ c 2).trans ((arr0_2 (V1 m ρ) c).trans ?_))
  exact congrArg₂ products ((host0 (W0 m ρ c)).trans rfl) (W1_args m ρ c main_arg1 (by decide))
theorem V3_arg3 (c : Dev nD) : V3 m ρ c main_arg3 = m ((c : Thread nD τ).loc main_arg3) := W3_args m ρ c main_arg3 (by decide)

/-- The indices at the end, -/
theorem W5_v10 (c : Dev nD) : W5 m ρ c (Proc.devRef .tc main_v10)
    = shapeCast (s := S64x1x128) S8x1024 (indices (zRows m c) (m ((c : Thread nD τ).loc main_arg3))) shapeCasts_S64x1x128_S8x1024 := by
  refine (host2_v10 (W4 m ρ c)).trans (congrArg (fun q => shapeCast (s := S64x1x128) S8x1024 q shapeCasts_S64x1x128_S8x1024) ((W4_arr m ρ c 2).trans ((arr1_2 (V3 m ρ) c).trans ?_)))
  exact congrArg₂ indices (V3_v8 m ρ c) (V3_arg3 m ρ c)
/-- the nearest rows, -/
theorem W5_v11 (c : Dev nD) : W5 m ρ c (Proc.devRef .tc main_v11)
    = shapeCast (s := S64x128x64) S8x64x32x32 (nearests (zRows m c) (m ((c : Thread nD τ).loc main_arg3))) shapeCasts_S64x128x64_S8x64x32x32 := by
  refine (host2_v11 (W4 m ρ c)).trans (congrArg (fun q => shapeCast (s := S64x128x64) S8x64x32x32 q shapeCasts_S64x128x64_S8x64x32x32) ((W4_arr m ρ c 4).trans ((arr1_4 (V3 m ρ) c).trans ?_)))
  exact congrArg₂ nearests (V3_v8 m ρ c) (V3_arg3 m ρ c)
/-- the loss, -/
theorem W5_v17 (c : Dev nD) : W5 m ρ c (Proc.devRef .tc main_v17)
    = loss (leasts (zRows m c) (m ((c : Thread nD τ).loc main_arg3))) (k1_pay3 (m ((c : Thread nD τ).loc main_arg3))) := by
  refine (host2_v17 (W4 m ρ c)).trans (congrArg₂ loss ((W4_arr m ρ c 3).trans ((arr1_3 (V3 m ρ) c).trans ?_)) ((W4_arr m ρ c 6).trans ((arr1_6 (V3 m ρ) c).trans ?_)))
  · exact congrArg₂ leasts (V3_v8 m ρ c) (V3_arg3 m ρ c)
  · exact congrArg k1_pay3 (V3_arg3 m ρ c)
/-- and the marks. -/
theorem W5_v21 (c : Dev nD) : W5 m ρ c (Proc.devRef .tc main_v21)
    = sampled (marks (zRows m c) (m ((c : Thread nD τ).loc main_arg3)) 63 (by decide)) := by
  refine (host2_v21 (W4 m ρ c)).trans (congrArg sampled ((W4_arr m ρ c 5).trans ((arr1_5 (V3 m ρ) c).trans ?_)))
  exact congrArg₂ (fun z e => marks z e 63 (by decide)) (V3_v8 m ρ c) (V3_arg3 m ρ c)

end Cert.KernelIdeal.Own

end
-- ==== Proof.Nearest.lean ====
/- The nearest code of a row: the least index at which a finite family of distances takes its least value, and two ways
   of finding it. -/
module

public import Idealize.ShloMosaic.Lib.Pointwise

@[expose] public section

noncomputable section

namespace Cert.Vq

open Idealize.ShloMosaic

/-- `k` is the least index at which `d` takes its least value. -/
structure IsNearest {n : ℕ} (d : Fin n → EReal) (k : Fin n) : Prop where
  le : ∀ j, d k ≤ d j
  lt : ∀ j, j < k → d k < d j

theorem exists_nearest {n : ℕ} (hn : 0 < n) (d : Fin n → EReal) : ∃ k, IsNearest d k := by
  haveI : Nonempty (Fin n) := ⟨⟨0, hn⟩⟩
  obtain ⟨m, _, hm⟩ := Finset.exists_min_image Finset.univ d Finset.univ_nonempty
  let S := Finset.univ.filter fun k => ∀ j, d k ≤ d j
  have hS : S.Nonempty := ⟨m, by simpa [S] using hm⟩
  refine ⟨S.min' hS, ?_, fun j hj => ?_⟩
  · have := S.min'_mem hS
    simpa [S] using this
  · by_contra h
    have hk : ∀ i, d (S.min' hS) ≤ d i := by simpa [S] using S.min'_mem hS
    exact absurd (S.min'_le j (by simpa [S] using fun i => (not_lt.1 h).trans (hk i))) (not_le.2 hj)

/-- There is only one such index. -/
theorem IsNearest.unique {n : ℕ} {d : Fin n → EReal} {k l : Fin n} (hk : IsNearest d k) (hl : IsNearest d l) : k = l := by
  rcases lt_trichotomy k l with h | h | h
  · exact absurd (hk.le l) (not_le.2 (hl.lt k h))
  · exact h
  · exact absurd (hl.le k) (not_le.2 (hk.lt l h))

/-- The nearest of 8192 codes. -/
def nearest (d : Fin 8192 → EReal) : Fin 8192 := (exists_nearest (by decide) d).choose
theorem nearest_spec (d : Fin 8192 → EReal) : IsNearest d (nearest d) := (exists_nearest (by decide) d).choose_spec
theorem nearest_eq {d : Fin 8192 → EReal} {k : Fin 8192} (h : IsNearest d k) : nearest d = k := (nearest_spec d).unique h

/-- The least value is the one at the nearest code. -/
theorem fold_min (d : Fin 8192 → EReal) : Finset.univ.fold min ⊤ d = d (nearest d) := by
  apply le_antisymm
  · exact (Finset.fold_min_le _).2 (.inr ⟨nearest d, Finset.mem_univ _, le_rfl⟩)
  · exact (Finset.le_fold_min _).2 ⟨le_top, fun k _ => (nearest_spec d).le k⟩

/-! ## The least index by a minimum of integers -/

theorem minsi_rel {x y z : BitVec 32} : x.toInt ≤ (IntOp.minsi y z).toInt ↔ x.toInt ≤ y.toInt ∧ x.toInt ≤ z.toInt := by
  have h : (IntOp.minsi y z).toInt = min y.toInt z.toInt := by
    unfold IntOp.minsi
    split
    · next h => rw [min_eq_left]; simp [BitVec.slt] at h; omega
    · next h => rw [min_eq_right]; simp [BitVec.slt] at h; omega
  rw [h]; exact le_min_iff

theorem toInt_ofNat (k : ℕ) (h : k < 8192) : (BitVec.ofNat 32 k).toInt = k := by
  rw [BitVec.toInt_eq_toNat_of_lt] <;> simp <;> omega

/-- The minimum of the indices at which the least value is taken is the nearest code. -/
theorem fold_minsi (d : Fin 8192 → EReal) :
    Finset.univ.fold IntOp.minsi 2147483647#32 (fun k : Fin 8192 => if d k = d (nearest d) then BitVec.ofNat 32 k.val else 1073741824#32)
      = BitVec.ofNat 32 (nearest d).val := by
  have key : ∀ c : BitVec 32, _ := fun c => Finset.fold_op_rel_iff_and (op := IntOp.minsi) (r := fun x y : BitVec 32 => x.toInt ≤ y.toInt)
    (fun {_ _ _} => minsi_rel) (b := 2147483647#32) (s := Finset.univ) (c := c)
    (f := fun k : Fin 8192 => if d k = d (nearest d) then BitVec.ofNat 32 k.val else 1073741824#32)
  refine BitVec.eq_of_toInt_eq (le_antisymm ?_ ?_)
  · have := ((key _).1 le_rfl).2 (nearest d) (Finset.mem_univ _)
    simpa using this
  · refine (key _).2 ⟨?_, fun k _ => ?_⟩
    · rw [toInt_ofNat _ (nearest d).isLt]; have := (nearest d).isLt; rw [show (2147483647#32).toInt = 2147483647 from by decide]; omega
    · have hn := (nearest d).isLt
      have hk := k.isLt
      rw [toInt_ofNat _ hn]
      by_cases h : d k = d (nearest d)
      · simp only [h, if_true]
        rw [toInt_ofNat _ hk]
        by_contra hlt
        have : k < nearest d := by rw [Fin.lt_def]; omega
        exact absurd h ((nearest_spec d).lt k this).ne'
      · simp only [h, if_false]
        rw [show (1073741824#32).toInt = 1073741824 from by decide]; omega

/-! ## The distances -/

/-- The squared distance of two rows, by the expanded square. -/
def dsq (z e : Fin 64 → EReal) : EReal := ∑ c, z c * z c + ∑ c, e c * e c - 2 * ∑ c, z c * e c

/-- The squared distances of a row from the codes. -/
def dists (z : Fin 64 → EReal) (E : FVec Ideal ⟨2, ![8192, 64]⟩ .f32) (k : Fin 8192) : EReal := dsq z fun c => E (ix2 k c)

/-- The code nearest to row `p` of `Z`. -/
def code (Z E : FVec Ideal ⟨2, ![8192, 64]⟩ .f32) (p : Fin 8192) : Fin 8192 := nearest (dists (fun c => Z (ix2 p c)) E)

/-! ## Constants -/

theorem ofBits_two : Ideal.ofBits .f32 0x40000000#32 = 2 := by
  simp [Ideal.ofBits, Ideal.ieee]
  rw [← EReal.coe_mul]
  norm_num
  rfl
theorem ofBits_top : Ideal.ofBits .f32 0x7F800000#32 = ⊤ := by simp [Ideal.ofBits, Ideal.ieee]
theorem ofBits_bot : Ideal.ofBits .f32 0xFF800000#32 = ⊥ := by simp [Ideal.ofBits, Ideal.ieee]

end Cert.Vq

end
-- ==== Proof.KernelBlock.lean ====
/- What one tile of the kernel computes, element by element. -/
module

public import proofs.«01_k».proof.Proof.Gen.KernelIdeal.Skeleton
public import proofs.«01_k».proof.Proof.Nearest
public import Idealize.ShloMosaic.Lib.Pointwise

@[expose] public section

noncomputable section

namespace Cert.KernelIdeal.Own

open Cert.KernelIdeal Cert.KernelIdeal.Gen
open Idealize.ShloMosaic Cert.Vq

/-- A tile of the convolution: row by row the products with the weight's rows. -/
theorem product_apply (x : Vec Ideal S1024x384 .f32) (w : Vec Ideal S64x384 .f32) (r : Fin 1024) (o : Fin 64) :
    k0_pay1 x w (ix2 r o) = ∑ c : Fin 384, x (ix2 r c) * w (ix2 o c) := by
  pointwise [k0_pay1]

variable (z : FVec Ideal S128x64 .f32) (e : FVec Ideal S8192x64 .f32)

/-- The distances of a tile's rows. -/
abbrev tileDists (r : Fin 128) : Fin 8192 → EReal := dists (fun c => z (ix2 r c)) e

theorem dists_apply (r : Fin 128) (k : Fin 8192) : k1_pay5 (F := Ideal) z e (ix2 r k) = tileDists z e r k := by
  pointwise [k1_pay5]
  rw [ofBits_two]; rfl

/-- The least distance, -/
theorem least_apply (r : Fin 128) : k1_pay6 (F := Ideal) z e (ix2 r 0) = tileDists z e r (nearest (tileDists z e r)) := by
  pointwise [k1_pay6]
  simp only [dists_apply]
  rw [ofBits_top]; exact fold_min _
theorem leastRow_apply (r : Fin 128) : k1_pay9 (F := Ideal) z e (ix3 0 0 r) = tileDists z e r (nearest (tileDists z e r)) := by
  pointwise [k1_pay9]
  exact least_apply z e r

/-- the nearest code's index, -/
theorem index_apply (r : Fin 128) : k1_pay7 (F := Ideal) z e (ix1 r) = BitVec.ofNat 32 (nearest (tileDists z e r)).val := by
  pointwise [k1_pay7]
  simp only [dists_apply, least_apply]
  exact fold_minsi _
theorem indexRow_apply (r : Fin 128) : k1_pay8 (F := Ideal) z e (ix3 0 0 r) = BitVec.ofNat 32 (nearest (tileDists z e r)).val := by
  pointwise [k1_pay8]
  exact index_apply z e r

/-- the one-hot row of that index, -/
theorem oneHot_apply (r : Fin 128) (k : Fin 8192) :
    k1_pay10 (F := Ideal) z e (ix2 r k) = if k = nearest (tileDists z e r) then 1 else 0 := by
  pointwise [k1_pay10]
  rw [index_apply]
  generalize nearest (tileDists z e r) = l
  have hi : (BitVec.ofNat 32 k.val = BitVec.ofNat 32 l.val) ↔ k = l := by
    refine ⟨fun h => ?_, fun h => by rw [h]⟩
    have := congrArg BitVec.toInt h
    rw [toInt_ofNat _ k.isLt, toInt_ofNat _ l.isLt] at this
    exact Fin.ext (by exact_mod_cast this)
  by_cases h : k = l
  · subst h
    simp [IntOp.cmpi, FloatOps.sitofp]
  · have h' : ¬ (BitVec.ofNat 32 k.val = BitVec.ofNat 32 l.val) := fun e => h (hi.1 e)
    have hb : (BitVec.ofNat 32 k.val == BitVec.ofNat 32 l.val) = false := beq_eq_false_iff_ne.2 h'
    simp [IntOp.cmpi, FloatOps.sitofp, h, hb]

/-- and the nearest code. -/
theorem nearestRow_apply (r : Fin 128) (c : Fin 64) : k1_pay1 (k1_pay11 (F := Ideal) z e) (ix3 0 r c) = e (ix2 (nearest (tileDists z e r)) c) := by
  pointwise [k1_pay1, k1_pay11]
  simp only [oneHot_apply, ite_mul, one_mul, zero_mul, Finset.sum_ite_eq', Finset.sum_ite_eq, Finset.mem_univ, if_true]

theorem noMarks_apply (j : S1x1x8192.Idx) : k1_pay2 (F := Ideal) j = 0 := by
  pointwise [k1_pay2]

/-- The sum of the codes' directions. -/
theorem directions_apply (c : Fin 64) :
    k1_pay3 (F := Ideal) e (ix3 0 0 c) = ∑ k : Fin 8192, Ideal.div (e (ix2 k c)) (Ideal.sqrt (∑ c', e (ix2 k c') * e (ix2 k c'))) := by
  pointwise [k1_pay3]

/-- A tile marks the codes nearest to its rows. -/
theorem marks_apply (m : FVec Ideal S1x1x8192 .f32) (k : Fin 8192) :
    k1_pay4 (k1_pay10 (F := Ideal) z e) m (ix3 0 0 k) = max (m (ix3 0 0 k)) (Finset.univ.fold max ⊥ fun r : Fin 128 => if k = nearest (tileDists z e r) then (1 : EReal) else 0) := by
  pointwise [k1_pay4]
  simp only [oneHot_apply]
  rw [ofBits_bot]

end Cert.KernelIdeal.Own

end
-- ==== Proof.Latent.lean ====
/- The latent and the table of its rows. -/
module

public import Idealize.ShloMosaic.Lib.Pointwise

@[expose] public section

noncomputable section

namespace Cert.Vq

open Idealize.ShloMosaic

/-- The latent: the convolution of the pixels plus the bias. -/
def lat (x : FVec Ideal ⟨4, ![8, 384, 32, 32]⟩ .f32) (W : FVec Ideal ⟨2, ![64, 384]⟩ .f32) (b : FVec Ideal ⟨1, ![64]⟩ .f32)
    (n : Fin 8) (o : Fin 64) (h w : Fin 32) : EReal := ∑ c, x (ix4 n c h w) * W (ix2 o c) + b (ix1 o)

/-- The table of the latent's rows: row `p` holds the 64 entries that follow one another from `64 * p` on. -/
def table (x : FVec Ideal ⟨4, ![8, 384, 32, 32]⟩ .f32) (W : FVec Ideal ⟨2, ![64, 384]⟩ .f32) (b : FVec Ideal ⟨1, ![64]⟩ .f32) : FVec Ideal ⟨2, ![8192, 64]⟩ .f32 :=
  fun y => lat x W b ⟨(y 0).val / 1024, by have : (y 0).val < 8192 := (y 0).isLt; omega⟩ ⟨(y 0).val / 16 % 64, by omega⟩
    ⟨(y 0).val % 16 * 2 + (y 1).val / 32, by have : (y 1).val < 64 := (y 1).isLt; omega⟩ ⟨(y 1).val % 32, by omega⟩

end Cert.Vq

end
-- ==== Proof.Scatter.lean ====
/- Where the updates of the two programs' scatters land. -/
module

public import proofs.«01_k».proof.Proof.Gen.KernelIdeal
public import proofs.«01_k».proof.Proof.Gen.ReferenceIdeal
public import Idealize.ShloMosaic.Lib.Pointwise
public import Idealize.ShloMosaic.Lib.Routing.OpsSet

@[expose] public section

noncomputable section

namespace Cert.Vq

open Idealize.ShloMosaic

/-- An update lands at an element exactly when on each axis its start and its window coordinate add up to the element's coordinate. -/
theorem lands_iff {s si u : Shape} {w : ℕ} (d : ScatterDims s si u) (j : u.Idx) (idx : IVec si w) (x : s.Idx) :
    d.resultIdx? j idx = some x ↔ ∀ a, d.start j idx a + (d.window j a : ℤ) = ((x a).val : ℤ) := by
  unfold ScatterDims.resultIdx?
  split
  · next h =>
    constructor
    · intro e a
      have e0 := congrArg Fin.val (congrFun (Option.some.inj e) a)
      have := (h a).1
      simp only at e0
      omega
    · intro e
      refine congrArg some (funext fun a => Fin.ext ?_)
      have := e a
      simp only
      omega
  · next h =>
    constructor
    · intro e; cases e
    · intro e
      refine (h fun a => ?_).elim
      have := e a
      have := (x a).isLt
      constructor <;> omega

/-- The reference's scatter: update `p` lands at the entry its index word names. -/
theorem lands_word (idx : IVec Cert.ReferenceIdeal.S8192x1 32) (p : Fin 8192) (x : Fin 65536) :
    Cert.ReferenceIdeal.scatter_S65536_S8192x1_S8192_n_0_0_1.resultIdx? (ix1 p) idx = some (ix1 x)
      ↔ (idx (ix2 p 0)).toInt = (x.val : ℤ) := by
  rw [lands_iff]
  have hs : Cert.ReferenceIdeal.scatter_S65536_S8192x1_S8192_n_0_0_1.start (ix1 p) idx 0 = (idx (ix2 p 0)).toInt := by
    unfold ScatterDims.start
    rw [dif_pos (by decide)]
    refine congrArg (fun q => (idx q).toInt) (funext fun b => Fin.ext ?_)
    match b with
    | ⟨0, _⟩ => rfl
    | ⟨1, _⟩ => rfl
  have hw : Cert.ReferenceIdeal.scatter_S65536_S8192x1_S8192_n_0_0_1.window (ix1 p) 0 = 0 := rfl
  constructor
  · intro h
    have := h 0
    rw [hs, hw] at this
    simpa using this
  · intro h a
    obtain rfl : a = 0 := Subsingleton.elim _ _
    rw [hs, hw, h]
    simp [ix1]

/-- The kernel's scatter, at the index word zero: update `k` lands at entry `k` of the first row. -/
theorem lands_first (idx : IVec Cert.KernelIdeal.S1 32) (h0 : idx (ix1 0) = 0#32) (j : Fin 8192) (s : Fin 8) (k : Fin 8192) :
    Cert.KernelIdeal.scatter_S8x8192_S1_S8192_0_0_0_0.resultIdx? (ix1 j) idx = some (ix2 s k) ↔ s = 0 ∧ j = k := by
  rw [lands_iff]
  have hs0 : Cert.KernelIdeal.scatter_S8x8192_S1_S8192_0_0_0_0.start (ix1 j) idx 0 = 0 := by
    unfold ScatterDims.start
    rw [dif_pos (by decide)]
    have e : Cert.KernelIdeal.scatter_S8x8192_S1_S8192_0_0_0_0.siIdx (ix1 j) ⟨0, by decide⟩ = ix1 0 := funext fun b => match b with | ⟨0, _⟩ => Subsingleton.elim (α := Fin 1) _ _
    exact (congrArg (fun q => (idx q).toInt) e).trans (by rw [h0]; rfl)
  have hs1 : Cert.KernelIdeal.scatter_S8x8192_S1_S8192_0_0_0_0.start (ix1 j) idx 1 = 0 := by
    unfold ScatterDims.start
    rw [dif_neg (by decide)]
  have hw0 : Cert.KernelIdeal.scatter_S8x8192_S1_S8192_0_0_0_0.window (ix1 j) 0 = 0 := rfl
  have hw1 : Cert.KernelIdeal.scatter_S8x8192_S1_S8192_0_0_0_0.window (ix1 j) 1 = j.val := rfl
  constructor
  · intro h
    have a0 := h 0
    have a1 := h 1
    rw [hs0, hw0] at a0
    rw [hs1, hw1] at a1
    constructor <;> refine Fin.ext ?_
    · have : ((s.val : ℕ) : ℤ) = 0 := by simpa [ix2] using a0.symm
      simpa using this
    · have : ((j.val : ℕ) : ℤ) = k.val := by simpa [ix2] using a1
      omega
  · rintro ⟨rfl, rfl⟩ a
    match a with
    | ⟨0, _⟩ => exact (congrArg₂ (fun (x : ℤ) (y : ℕ) => x + (y : ℤ)) hs0 hw0).trans rfl
    | ⟨1, _⟩ => exact (congrArg₂ (fun (x : ℤ) (y : ℕ) => x + (y : ℤ)) hs1 hw1).trans (by simp [ix2])

end Cert.Vq

end
-- ==== Proof.Consts.lean ====
/- The values of the literals the two programs carry. -/
module

public import Idealize.ShloMosaic.Lib.Pointwise

@[expose] public section

noncomputable section

namespace Cert.Vq

open Idealize.ShloMosaic

/-- The literal one. -/
theorem ofBits_one : Ideal.ofBits .f32 0x3F800000#32 = 1 := by
  simp [Ideal.ofBits, Ideal.ieee]
  rw [← EReal.coe_mul]
  norm_num
/-- A quarter. -/
theorem ofBits_quarter : Ideal.ofBits .f32 0x3E800000#32 = ((1 / 4 : ℝ) : EReal) := by
  simp [Ideal.ofBits, Ideal.ieee]
  rw [← EReal.coe_mul]
  norm_num
/-- The number of entries of the latent. -/
theorem ofBits_size : Ideal.ofBits .f32 0x49000000#32 = ((524288 : ℝ) : EReal) := by
  simp [Ideal.ofBits, Ideal.ieee]
  rw [← EReal.coe_mul]
  norm_num
/-- The number of pairs of codes. -/
theorem ofBits_pairs : Ideal.ofBits .f32 0x4C800000#32 = ((67108864 : ℝ) : EReal) := by
  simp [Ideal.ofBits, Ideal.ieee]
  rw [← EReal.coe_pow, ← EReal.coe_mul]
  norm_num
/-- One and a quarter over the number of entries of the latent. -/
theorem ofBits_weight : Ideal.ofBits .f32 0x36200000#32 = ((5 / 4 / 524288 : ℝ) : EReal) := by
  simp [Ideal.ofBits, Ideal.ieee]
  rw [← EReal.coe_mul]
  norm_num
/-- The step of the directions. -/
theorem ofBits_step : Ideal.ofBits .f32 0x3DCCCCCD#32 = ((13421773 / 134217728 : ℝ) : EReal) := by
  simp [Ideal.ofBits, Ideal.ieee]
  rw [← EReal.coe_mul]
  norm_num
/-- The square of the step. -/
theorem ofBits_step2 : Ideal.ofBits .f32 0x3C23D70A#32 = ((10737418 / 1073741824 : ℝ) : EReal) := by
  simp [Ideal.ofBits, Ideal.ieee]
  rw [← EReal.coe_mul]
  norm_num

end Cert.Vq

end
-- ==== Proof.KernelValue.lean ====
/- The kernel's results over the extended reals, from the pixels, the weight, the bias and the codebook. -/
module

public import proofs.«01_k».proof.Proof.KernelHost
public import proofs.«01_k».proof.Proof.KernelBlock
public import proofs.«01_k».proof.Proof.Latent
public import proofs.«01_k».proof.Proof.Scatter
public import proofs.«01_k».proof.Proof.Consts

@[expose] public section

noncomputable section

namespace Cert.KernelIdeal.Own

open Cert.KernelIdeal Cert.KernelIdeal.Gen
open Idealize.ShloMosaic Cert.Vq

/-- A block of pixels, pixel by pixel. -/
theorem pixels_apply (x : FVec Ideal S8x384x32x32 .f32) (n : Fin 8) (r : Fin 1024) (c : Fin 384) :
    pixels (F := Ideal) (pixelRows x) n (ix2 r c) = x (ix4 n c ⟨r.val / 32, by have := r.isLt; omega⟩ ⟨r.val % 32, by omega⟩) := by
  pointwise [pixels, pixelRows]
  have := r.isLt
  refine congrArg x ?_
  congr 1 <;> refine Fin.ext ?_ <;> simp only <;> omega

/-- The rows the second region reads are the table of the latent's rows. -/
theorem rows_table (x : FVec Ideal S8x384x32x32 .f32) (W : FVec Ideal S64x384 .f32) (b : FVec Ideal S64 .f32) :
    latentRows (products (F := Ideal) (pixelRows x) W) b = table x W b := by
  funext y
  obtain ⟨p, c, rfl⟩ : ∃ p c, y = ix2 p c := ⟨y 0, y 1, eq_ix2 y⟩
  pointwise [latentRows, products, table, lat]
  rw [product_apply]
  refine congrArg (· + _) (Finset.sum_congr rfl fun k _ => ?_)
  rw [pixels_apply]
  refine congrArg (· * _) (congrArg x ?_)
  have := p.isLt
  have := c.isLt
  congr 1 <;> refine Fin.ext ?_ <;> simp only <;> omega

variable (Z E : FVec Ideal S8192x64 .f32)

theorem tile_dists (n : Fin 64) (r : Fin 128) :
    tileDists (tile (F := Ideal) Z n) E r = dists (fun c => Z (ix2 ⟨n.val * 128 + r.val, by have := n.isLt; have := r.isLt; omega⟩ c)) E := rfl
theorem tile_code (n : Fin 64) (r : Fin 128) :
    nearest (tileDists (tile (F := Ideal) Z n) E r) = code Z E ⟨n.val * 128 + r.val, by have := n.isLt; have := r.isLt; omega⟩ := rfl

/-- The indices. -/
theorem indices_apply (n : Fin 8) (q : Fin 1024) :
    shapeCast (s := S64x1x128) S8x1024 (indices (F := Ideal) Z E) shapeCasts_S64x1x128_S8x1024 (ix2 n q)
      = BitVec.ofNat 32 (code Z E ⟨n.val * 1024 + q.val, by have := n.isLt; have := q.isLt; omega⟩).val := by
  pointwise [indices]
  rw [indexRow_apply, tile_code]
  refine congrArg (fun p => BitVec.ofNat 32 (code Z E p).val) (Fin.ext ?_)
  simp only
  omega

/-- The nearest rows, as a latent. -/
theorem nearests_apply (n : Fin 8) (o : Fin 64) (h w : Fin 32) :
    shapeCast (s := S64x128x64) S8x64x32x32 (nearests (F := Ideal) Z E) shapeCasts_S64x128x64_S8x64x32x32 (ix4 n o h w)
      = E (ix2 (code Z E ⟨n.val * 1024 + o.val * 16 + h.val / 2, by have := n.isLt; have := o.isLt; have := h.isLt; omega⟩) ⟨h.val % 2 * 32 + w.val, by have := w.isLt; omega⟩) := by
  pointwise [nearests]
  rw [nearestRow_apply, tile_code]
  refine congrArg (fun p => E (ix2 (code Z E p) _)) (Fin.ext ?_)
  simp only
  omega

/-- The greater of a mark and a tile's marks. -/
theorem max_marks (P : Prop) [Decidable P] (g : Fin 128 → Fin 8192) (k : Fin 8192) (Q : Prop) [Decidable Q] (hQ : Q ↔ P ∨ ∃ r, k = g r) :
    max (if P then (1 : EReal) else 0) (Finset.univ.fold max ⊥ fun r => if k = g r then (1 : EReal) else 0) = if Q then 1 else 0 := by
  have h01 : (0 : EReal) ≤ 1 := zero_le_one
  have hle : ∀ (R : Prop) [Decidable R], (if R then (1 : EReal) else 0) ≤ 1 := fun R _ => by split <;> simp
  apply le_antisymm
  · refine max_le ?_ ((Finset.fold_max_le _).2 ⟨bot_le, fun r _ => ?_⟩)
    · split
      · next h => rw [if_pos (hQ.2 (.inl h))]
      · split <;> simp
    · split
      · next h => rw [if_pos (hQ.2 (.inr ⟨r, h⟩))]
      · split <;> simp
  · split
    · next h =>
      rcases hQ.1 h with h | ⟨r, h⟩
      · rw [if_pos h]; exact le_max_left _ _
      · exact le_max_of_le_right ((Finset.le_fold_max _).2 (.inr ⟨r, Finset.mem_univ _, by rw [if_pos h]⟩))
    · refine le_max_of_le_left ?_
      split <;> simp

/-- The marks after `n + 1` tiles: one where a row so far has the code as its nearest. -/
theorem marks_code (k : Fin 8192) : ∀ (n : ℕ) (h : n < 64), marks (F := Ideal) Z E n h (ix3 0 0 k) = if ∃ p : Fin 8192, p.val < (n + 1) * 128 ∧ code Z E p = k then 1 else 0
  | 0, h => by
    rw [marks, marks_apply, noMarks_apply]
    simp only [tile_code]
    refine (congrArg (fun t => max t _) (if_neg (not_false : ¬ False)).symm).trans (max_marks False _ k _ ⟨?_, ?_⟩)
    · rintro ⟨p, hp, e⟩
      refine .inr ⟨⟨p.val, by omega⟩, ?_⟩
      rw [← e]
      exact congrArg (code Z E) (Fin.ext (by simp only; omega))
    · rintro (h | ⟨r, e⟩)
      · exact h.elim
      · refine ⟨⟨0 * 128 + r.val, by have := r.isLt; omega⟩, ?_, e.symm⟩
        clear e
        have := r.isLt
        simp only
        omega
  | n + 1, h => by
    rw [marks, marks_apply, marks_code k n]
    simp only [tile_code]
    refine max_marks _ _ k _ ⟨?_, ?_⟩
    · rintro ⟨p, hp, rfl⟩
      by_cases hn : p.val < (n + 1) * 128
      · exact .inl ⟨p, hn, rfl⟩
      · refine .inr ⟨⟨p.val - (n + 1) * 128, by omega⟩, ?_⟩
        exact congrArg (code Z E) (Fin.ext (by simp only; omega))
    · rintro (⟨p, hp, e⟩ | ⟨r, e⟩)
      · exact ⟨p, hp.trans_le (Nat.mul_le_mul_right _ (Nat.le_succ _)), e⟩
      · refine ⟨⟨(n + 1) * 128 + r.val, by have := r.isLt; omega⟩, ?_, e.symm⟩
        clear e
        have := r.isLt
        simp only
        omega

theorem sampled_apply (s : Fin 8) (k : Fin 8192) :
    sampled (F := Ideal) (marks (F := Ideal) Z E 63 (by decide)) (ix2 s k) = if s = 0 ∧ ∃ p, code Z E p = k then 1 else 0 := by
  have hm : ∀ j : Fin 8192, shapeCast S8192 (marks (F := Ideal) Z E 63 (by decide)) shapeCasts_S1x1x8192_S8192 (ix1 j) = if ∃ p, code Z E p = j then 1 else 0 := fun j => by
    have e := marks_code Z E j 63 (by decide)
    have e' : (∃ p : Fin 8192, p.val < (63 + 1) * 128 ∧ code Z E p = j) ↔ ∃ p, code Z E p = j :=
      exists_congr fun p => and_iff_right (by have := p.isLt; omega)
    generalize marks (F := Ideal) Z E 63 (by decide) = M at e ⊢
    pointwise []
    rw [e]
    simp only [e']
  unfold sampled
  generalize shapeCast S8192 (marks (F := Ideal) Z E 63 (by decide)) shapeCasts_S1x1x8192_S8192 = u at hm ⊢
  have hl := lands_first (broadcastInDim S1 ![] bcast_S_S1 (constantI S_ 32 0#32)) rfl
  by_cases hs : s = 0
  · subst hs
    refine (Routing.scatter_set_hit _ _ _ _ _ (u (ix1 k)) (fun q hq => ?_) (ix1 k) ((hl k 0 k).2 ⟨rfl, rfl⟩)).trans ?_
    · obtain ⟨j, rfl⟩ : ∃ j, q = ix1 j := ⟨q 0, eq_ix1 q⟩
      rw [((hl j 0 k).1 hq).2]
    · rw [hm]
      simp
  · refine (Routing.scatter_set_miss _ _ _ _ _ fun q hq => ?_).trans ?_
    · obtain ⟨j, rfl⟩ : ∃ j, q = ix1 j := ⟨q 0, eq_ix1 q⟩
      exact hs ((hl j s k).1 hq).1
    · rw [if_neg fun h => hs h.1]
      exact Ideal.ofBits_zero .f32

/-- A sum over the rows, tile by tile. -/
theorem sum_tiles (f : Fin 8192 → EReal) : ∑ p, f p = ∑ x : Fin 64, ∑ y : Fin 128, f ⟨x.val * 128 + y.val, by have := x.isLt; have := y.isLt; omega⟩ := by
  refine ((Equiv.sum_comp (finProdFinEquiv (m := 64) (n := 128)) f).symm.trans (Fintype.sum_prod_type _)).trans
    (Finset.sum_congr rfl fun x _ => Finset.sum_congr rfl fun y _ => congrArg f (Fin.ext ?_))
  show y.val + 128 * x.val = x.val * 128 + y.val
  omega

theorem loss_sums (l : FVec Ideal S64x1x128 .f32) (s : FVec Ideal S1x1x64 .f32) (j : S_.Idx) :
    loss l s j = (∑ x, ∑ y, l (ix3 x 0 y)) * Ideal.ofBits .f32 0x36200000#32 + Ideal.div (∑ c, s (ix3 0 0 c) * s (ix3 0 0 c)) (Ideal.ofBits .f32 0x4C800000#32) := by
  pointwise [loss]
  simp

/-- The loss: the weighted sum of the least distances and the mean of the squares of the direction sums. -/
theorem loss_apply (j : S_.Idx) : loss (leasts (F := Ideal) Z E) (k1_pay3 (F := Ideal) E) j
    = (∑ p : Fin 8192, dists (fun c => Z (ix2 p c)) E (code Z E p)) * Ideal.ofBits .f32 0x36200000#32
      + Ideal.div (∑ c : Fin 64, (∑ k : Fin 8192, Ideal.div (E (ix2 k c)) (Ideal.sqrt (∑ c', E (ix2 k c') * E (ix2 k c'))))
          * (∑ k : Fin 8192, Ideal.div (E (ix2 k c)) (Ideal.sqrt (∑ c', E (ix2 k c') * E (ix2 k c'))))) (Ideal.ofBits .f32 0x4C800000#32) := by
  have hl : ∀ (x : Fin 64) (y : Fin 128), leasts (F := Ideal) Z E (ix3 x 0 y)
      = dists (fun c => Z (ix2 ⟨x.val * 128 + y.val, by have := x.isLt; have := y.isLt; omega⟩ c)) E (code Z E ⟨x.val * 128 + y.val, by have := x.isLt; have := y.isLt; omega⟩) :=
    fun x y => by
      have e := leastRow_apply (tile (F := Ideal) Z x) E y
      rw [tile_code, tile_dists] at e
      unfold leasts
      exact e
  have hs := directions_apply E
  generalize leasts (F := Ideal) Z E = l at hl ⊢
  generalize k1_pay3 (F := Ideal) E = s at hs ⊢
  rw [loss_sums, sum_tiles]
  simp only [hl, hs]

end Cert.KernelIdeal.Own

end
-- ==== Proof.RefArgmin.lean ====
/- The fold by which the reference finds a row's nearest code. -/
module

public import proofs.«01_k».proof.Proof.Gen.ReferenceIdeal
public import proofs.«01_k».proof.Proof.Nearest
public import Idealize.ShloMosaic.Lib.Pointwise

@[expose] public section

noncomputable section

namespace Cert.ReferenceIdeal.Own

open Cert.ReferenceIdeal Cert.ReferenceIdeal.Gen
open Idealize.ShloMosaic Cert.Vq

/-- The order of (distance, index) pairs: by distance, then by index. -/
def Before (a b : EReal × BitVec 32) : Prop := a.1 < b.1 ∨ (a.1 = b.1 ∧ a.2.toInt ≤ b.2.toInt)

theorem Before.refl (a : EReal × BitVec 32) : Before a a := .inr ⟨rfl, le_rfl⟩
theorem Before.trans {a b c : EReal × BitVec 32} (h : Before a b) (h' : Before b c) : Before a c := by
  rcases h with h | ⟨h, i⟩ <;> rcases h' with h' | ⟨h', i'⟩
  · exact .inl (h.trans h')
  · exact .inl (h' ▸ h)
  · exact .inl (h ▸ h')
  · exact .inr ⟨h.trans h', i.trans i'⟩

/-- The body returns one of its two pairs, and that one is before both. -/
theorem body_before (a b : EReal × BitVec 32) :
    (reducer_argmin_f32_i32 (F := Ideal) a b = a ∧ Before a b) ∨ (reducer_argmin_f32_i32 (F := Ideal) a b = b ∧ Before b a) := by
  obtain ⟨x, i⟩ := a
  obtain ⟨y, j⟩ := b
  rcases lt_trichotomy x y with h | h | h
  · left
    refine ⟨?_, .inl h⟩
    simp [reducer_argmin_f32_i32, Ideal.cmpf_def, Ideal.cmp, h, h.ne, IntOp.ori, IntOp.andi, Scalar.select]
  · subst h
    by_cases hi : i.slt j = true
    · left
      refine ⟨?_, .inr ⟨rfl, ?_⟩⟩
      · simp [reducer_argmin_f32_i32, Ideal.cmpf_def, Ideal.cmp, IntOp.ori, IntOp.andi, IntOp.cmpi, Scalar.select, hi]
      · simp [BitVec.slt] at hi; exact hi.le
    · right
      refine ⟨?_, .inr ⟨rfl, ?_⟩⟩
      · simp [reducer_argmin_f32_i32, Ideal.cmpf_def, Ideal.cmp, IntOp.ori, IntOp.andi, IntOp.cmpi, Scalar.select, hi]
      · simp [BitVec.slt] at hi; exact hi
  · right
    refine ⟨?_, .inl h⟩
    simp [reducer_argmin_f32_i32, Ideal.cmpf_def, Ideal.cmp, h, h.le, h.not_gt, h.ne', IntOp.ori, IntOp.andi, Scalar.select]

/-- The fold is one of the pairs and before all of them. -/
theorem fold_before (l : List (EReal × BitVec 32)) (a : EReal × BitVec 32) :
    (l.foldl (reducer_argmin_f32_i32 (F := Ideal)) a = a ∨ l.foldl (reducer_argmin_f32_i32 (F := Ideal)) a ∈ l)
      ∧ Before (l.foldl (reducer_argmin_f32_i32 (F := Ideal)) a) a ∧ ∀ b ∈ l, Before (l.foldl (reducer_argmin_f32_i32 (F := Ideal)) a) b := by
  induction l generalizing a with
  | nil => exact ⟨.inl rfl, Before.refl a, fun _ h => by simp at h⟩
  | cons b l ih =>
    rw [List.foldl_cons]
    obtain ⟨h1, h2, h3⟩ := ih (reducer_argmin_f32_i32 (F := Ideal) a b)
    rcases body_before a b with ⟨e, h⟩ | ⟨e, h⟩ <;> rw [e] at h1 h2 h3 ⊢
    · exact ⟨h1.imp_right (List.mem_cons_of_mem _), h2, fun c hc => (List.mem_cons.1 hc).elim (fun hc => hc ▸ h2.trans h) (h3 c)⟩
    · refine ⟨.inr (h1.elim (fun h => List.mem_cons.2 (.inl h)) (List.mem_cons_of_mem _)), h2.trans h, fun c hc => (List.mem_cons.1 hc).elim (fun hc => hc ▸ h2) (h3 c)⟩

/-- The index the fold over each row of a table ends with. -/
def rowArgmin {F : FTy → Type} [FloatOps F] {n m : ℕ} (h : (⟨2, ![n, m]⟩ : Shape).ReducesTo [1] ⟨1, ![n]⟩) (hS : 0 < S_.numel)
    (d : FVec F ⟨2, ![n, m]⟩ .f32) (y : IVec ⟨2, ![n, m]⟩ 32) (u : FVec F S_ .f32) (v : IVec S_ 32) : IVec ⟨1, ![n]⟩ 32 :=
  fun j => (Host.argReduce (reducer_argmin_f32_i32 (F := F)) d y u v h hS j).2

/-- The index the fold over a row ends with is the least one at which the row takes its least value. -/
theorem argmin_row {n m : ℕ} (hm : 0 < m) (hm' : m ≤ 8192) (h : (⟨2, ![n, m]⟩ : Shape).ReducesTo [1] ⟨1, ![n]⟩) (d : FVec Ideal ⟨2, ![n, m]⟩ .f32)
    (y : IVec ⟨2, ![n, m]⟩ 32) (p : Fin n) (hy : ∀ k : Fin m, y (ix2 p k) = BitVec.ofNat 32 k.val) (u : FVec Ideal S_ .f32) (v : IVec S_ 32) (hS : 0 < S_.numel)
    (hu : u (Shape.Idx.first hS) = ⊤) (hv : v (Shape.Idx.first hS) = 0#32) :
    ∃ k : Fin m, IsNearest (fun k => d (ix2 p k)) k
      ∧ rowArgmin h hS d y u v (ix1 p) = BitVec.ofNat 32 k.val := by
  have hmem : ∀ q : EReal × BitVec 32, q ∈ Host.argReduceFiber d y h (ix1 p) ↔ ∃ k : Fin m, q = (d (ix2 p k), BitVec.ofNat 32 k.val) := by
    intro q
    unfold Host.argReduceFiber
    simp only [List.mem_map, List.mem_filter, List.mem_finRange, true_and, decide_eq_true_eq]
    constructor
    · rintro ⟨n, hn, rfl⟩
      obtain ⟨k, hk⟩ := (Shape.ReducesTo.fiber_r2_a1 _ _ _).1 hn
      refine ⟨k, ?_⟩
      rw [← hk]
      exact Prod.ext rfl (hy k)
    · rintro ⟨k, rfl⟩
      refine ⟨(⟨2, ![n, m]⟩ : Shape).rowMajor (ix2 p k), ?_, ?_⟩
      · rw [Equiv.symm_apply_apply]
        exact (Shape.ReducesTo.fiber_r2_a1 _ _ _).2 ⟨k, rfl⟩
      · rw [Equiv.symm_apply_apply, hy]
  unfold rowArgmin
  rw [Ideal.argReduce_eq_reduce2, Host.reduce2_eq_foldl_fiber, hu, hv]
  obtain ⟨h1, h2, h3⟩ := fold_before (Host.argReduceFiber d y h (ix1 p)) (⊤, 0#32)
  generalize List.foldl (reducer_argmin_f32_i32 (F := Ideal)) _ _ = r at h1 h2 h3 ⊢
  have h0 := h3 _ ((hmem _).2 ⟨⟨0, hm⟩, rfl⟩)
  obtain ⟨k, hk⟩ : ∃ k : Fin m, r = (d (ix2 p k), BitVec.ofNat 32 k.val) := by
    rcases h1 with h1 | h1
    · refine ⟨⟨0, hm⟩, ?_⟩
      rw [h1] at h0
      rw [h1]
      rcases h0 with h0 | ⟨h0, -⟩
      · exact absurd h0 not_top_lt
      · exact Prod.ext h0 rfl
    · exact (hmem _).1 h1
  refine ⟨k, ⟨fun j => ?_, fun j hj => ?_⟩, by rw [hk]⟩
  · have := h3 _ ((hmem _).2 ⟨j, rfl⟩)
    rw [hk] at this
    rcases this with h | ⟨h, -⟩
    · exact h.le
    · exact h.le
  · have := h3 _ ((hmem _).2 ⟨j, rfl⟩)
    rw [hk] at this
    rcases this with h | ⟨-, h⟩
    · exact h
    · simp only [toInt_ofNat _ (j.isLt.trans_le hm'), toInt_ofNat _ (k.isLt.trans_le hm')] at h
      rw [Fin.lt_def] at hj; omega

end Cert.ReferenceIdeal.Own

end
-- ==== Proof.RefValue.lean ====
/- What the reference computes, as terms of its four arguments and of the signs' array, and its run read at the results. -/
module

public import proofs.«01_k».proof.Proof.RefRun
public import proofs.«01_k».proof.Proof.RefArgmin

@[expose] public section

set_option Elab.async false

noncomputable section

namespace Cert.ReferenceIdeal.Own

open Cert.ReferenceIdeal Cert.ReferenceIdeal.Gen Idealize.ShloMosaic Idealize.ShloMosaic.TcCoe Idealize.SL.Sem Idealize.ShloMosaic.StableHlo

variable {F : FTy → Type} [FloatOps F]

/-! ## The terms -/

/-- The one-by-one convolution. -/
def conv (x : FVec F S8x384x32x32 .f32) (W : FVec F S64x384 .f32) (b : FVec F S64 .f32) : FVec F S8x64x32x32 .f32 :=
  addf (transpose S8x64x32x32 [1, 0, 2, 3] (Host.dotGeneral dot_S64x384_S8x384x32x32_S64x8x32x32_1_1_0_023_n_n none W x) transposes_S64x8x32x32_S8x64x32x32_1_0_2_3)
    (broadcastInDim S8x64x32x32 ![0, 1, 2, 3] bcast_S1x64x1x1_S8x64x32x32_0_1_2_3 (broadcastInDim S1x64x1x1 ![1] bcast_S64_S1x64x1x1_1 b))

/-- The latent's rows. -/
def flat (z : FVec F S8x64x32x32 .f32) : FVec F S8192x64 .f32 := shapeCast _ z shapeCasts_S8x64x32x32_S8192x64

/-- The rows' sums of squares. -/
def sqs (a : FVec F S8192x64 .f32) : FVec F S8192 .f32 := Host.reduceAdd (mulf a a) (constant S_ .f32 0x00000000#32) reducesTo_S8192x64_S8192_d1 h_S_

/-- The products of two tables' rows. -/
def gram (a e : FVec F S8192x64 .f32) : FVec F S8192x8192 .f32 :=
  Host.dotGeneral dot_S8192x64_S64x8192_S8192x8192_1_0_0_1_n_n none a (transpose S64x8192 [1, 0] e transposes_S8192x64_S64x8192_1_0)

/-- The codes' norms, one row for each code. -/
def norms (E : FVec F S8192x64 .f32) : FVec F S8192x8192 .f32 :=
  shapeCast _ (broadcastInDim S8192x1x1x8192 ![0, 1, 2, 3] bcast_S1x1x1x8192_S8192x1x1x8192_0_1_2_3 (shapeCast _ (broadcastInDim S1x8192 ![1] bcast_S8192_S1x8192_1
    (Host.sqrt (sqs E))) shapeCasts_S1x8192_S1x1x1x8192)) shapeCasts_S8192x1x1x8192_S8192x8192

/-- The mean of the codes' cosines. -/
def contr (E : FVec F S8192x64 .f32) : FVec F S_ .f32 :=
  Host.divf (Host.reduceAdd (Host.divf (gram E E) (mulf (norms E) (transpose S8192x8192 [1, 0] (norms E) transposes_S8192x8192_S8192x8192_1_0)))
    (constant S_ .f32 0x00000000#32) reducesTo_S8192x8192_S_d0_1 h_S_) (constant S_ .f32 0x4C800000#32)

/-- The squared distances, from the sums of squares and the rows. -/
def dist' (r20 : FVec F S8192x1 .f32) (r22 : FVec F S8192 .f32) (a e : FVec F S8192x64 .f32) : FVec F S8192x8192 .f32 :=
  subf (addf (broadcastInDim S8192x8192 ![0, 1] bcast_S8192x1_S8192x8192_0_1 r20)
      (broadcastInDim S8192x8192 ![0, 1] bcast_S1x8192_S8192x8192_0_1 (broadcastInDim S1x8192 ![1] bcast_S8192_S1x8192_1 r22)))
    (mulf (broadcastInDim S8192x8192 ![] bcast_S_S8192x8192 (constant S_ .f32 0x40000000#32)) (gram a e))

/-- The squared distances of the rows of `a` from those of `e`. -/
def dist (a e : FVec F S8192x64 .f32) : FVec F S8192x8192 .f32 :=
  dist' (broadcastInDim S8192x1 ![0] bcast_S8192_S8192x1_0 (sqs a)) (sqs e) a e

/-- The index of the nearest code, for each row. -/
def near (d : FVec F S8192x8192 .f32) : IVec S8192 32 :=
  rowArgmin (n := 8192) (m := 8192) reducesTo_S8192x8192_S8192_d1 h_S_ d (iotaInDim S8192x8192 32 1) (constant S_ .f32 0x7F800000#32) (constantI S_ 32 0#32)

/-- An index below zero counts from the table's end. -/
def wrap (n : BitVec 32) (i : IVec S8192 32) : IVec S8192x1 32 :=
  broadcastInDim S8192x1 ![0] bcast_S8192_S8192x1_0 (select (cmpi .slt i (broadcastInDim S8192 ![] bcast_S_S8192 (constantI S_ 32 0#32)))
    (addi i (broadcastInDim S8192 ![] bcast_S_S8192 (constantI S_ 32 n))) i)

/-- Whether an index lies in the table. -/
def inside (i : IVec S8192x1 32) : IVec S8192x1 1 :=
  andi (cmpi .sge i (broadcastInDim S8192x1 ![] bcast_S_S8192x1 (constantI S_ 32 0#32)))
    (cmpi .sle i (broadcastInDim S8192x1 ![0, 1] bcast_S1x1_S8192x1_0_1 (broadcastInDim S1x1 ![1] bcast_S1_S1x1_1 (constantI S1 32 8191#32))))

/-- The table's rows at the indices. -/
def take' (E : FVec F S8192x64 .f32) (i : IVec S8192x1 32) (p : IVec S8192x1 1) (u : IVec S_ 1) : FVec F S8x64x32x32 .f32 :=
  shapeCast _ (select (broadcastInDim S8192x64 ![0] bcast_S8192_S8192x64_0 (Host.reduce IntOp.andi p u reducesTo_S8192x1_S8192_d1 h_S_))
    (Host.gather gather_S8192x64_S8192x1_S8192x64_1_0_n_n_0_1_164 E i) (broadcastInDim S8192x64 ![] bcast_S_S8192x64 (constant S_ .f32 0x7FC00000#32))) shapeCasts_S8192x64_S8x64x32x32

def take (E : FVec F S8192x64 .f32) (i : IVec S8192 32) : FVec F S8x64x32x32 .f32 :=
  take' E (wrap 8192#32 i) (inside (wrap 8192#32 i)) (constantI S_ 1 1#1)

/-- The mean of squares. -/
def meanSq (a : FVec F S8x64x32x32 .f32) : FVec F S_ .f32 :=
  Host.divf (Host.reduceAdd (mulf a a) (constant S_ .f32 0x00000000#32) reducesTo_S8x64x32x32_S_d0_1_2_3 h_S_) (constant S_ .f32 0x49000000#32)

/-- The two quantization losses and the contrastive one. -/
def loss' (z q : FVec F S8x64x32x32 .f32) (t : FVec F S_ .f32) : FVec F S_ .f32 :=
  addf (addf (meanSq (subf q z)) (mulf (constant S_ .f32 0x3E800000#32) (meanSq (subf q z)))) t

/-- The two random directions: a tenth of a sign at every place. -/
def dirs (S : IVec S2x8x384x32x32 32) : FVec F S2x8x384x32x32 .f32 :=
  mulf (broadcastInDim S2x8x384x32x32 ![] bcast_S_S2x8x384x32x32 (constant S_ .f32 0x3DCCCCCD#32))
    (subf (mulf (sitofp .f32 S) (broadcastInDim S2x8x384x32x32 ![] bcast_S_S2x8x384x32x32 (constant S_ .f32 0x40000000#32)))
      (broadcastInDim S2x8x384x32x32 ![] bcast_S_S2x8x384x32x32 (constant S_ .f32 0x3F800000#32)))
def dir0 (d : FVec F S2x8x384x32x32 .f32) : FVec F S8x384x32x32 .f32 :=
  shapeCast _ (extractStridedSlice S1x8x384x32x32 ![0, 0, 0, 0, 0] d slices_S2x8x384x32x32_S1x8x384x32x32_0_0_0_0_0) shapeCasts_S1x8x384x32x32_S8x384x32x32
def dir1 (d : FVec F S2x8x384x32x32 .f32) : FVec F S8x384x32x32 .f32 :=
  shapeCast _ (extractStridedSlice S1x8x384x32x32 ![1, 0, 0, 0, 0] d slices_S2x8x384x32x32_S1x8x384x32x32_1_0_0_0_0) shapeCasts_S1x8x384x32x32_S8x384x32x32

/-- The second difference of the convolution along a direction. -/
def diff2 (x : FVec F S8x384x32x32 .f32) (W : FVec F S64x384 .f32) (b : FVec F S64 .f32) (z : FVec F S8x64x32x32 .f32) (s : FVec F S8x384x32x32 .f32) : FVec F S8x64x32x32 .f32 :=
  addf (subf (conv (addf x s) W b) (mulf (broadcastInDim S8x64x32x32 ![] bcast_S_S8x64x32x32 (constant S_ .f32 0x40000000#32)) z)) (conv (subf x s) W b)

/-- A second difference over the square of the step. -/
def over (a : FVec F S8x64x32x32 .f32) : FVec F S8x64x32x32 .f32 :=
  Host.divf a (broadcastInDim S8x64x32x32 ![] bcast_S_S8x64x32x32 (constant S_ .f32 0x3C23D70A#32))

/-- The two differences joined along a first axis, -/
def both (a b : FVec F S8x64x32x32 .f32) : FVec F S2x8x64x32x32 .f32 :=
  join2 (F := F) (broadcastInDim S1x8x64x32x32 ![1, 2, 3, 4] bcast_S8x64x32x32_S1x8x64x32x32_1_2_3_4 a)
    (broadcastInDim S1x8x64x32x32 ![1, 2, 3, 4] bcast_S8x64x32x32_S1x8x64x32x32_1_2_3_4 b)

/-- their differences from their mean, -/
def centred (v : FVec F S2x8x64x32x32 .f32) : FVec F S2x8x64x32x32 .f32 :=
  subf v (broadcastInDim S2x8x64x32x32 ![0, 1, 2, 3, 4] bcast_S1x8x64x32x32_S2x8x64x32x32_0_1_2_3_4 (Host.divf
    (broadcastInDim S1x8x64x32x32 ![1, 2, 3, 4] bcast_S8x64x32x32_S1x8x64x32x32_1_2_3_4 (Host.reduceAdd v (constant S_ .f32 0x00000000#32) reducesTo_S2x8x64x32x32_S8x64x32x32_d0 h_S_))
    (broadcastInDim S1x8x64x32x32 ![] bcast_S_S1x8x64x32x32 (constant S_ .f32 0x40000000#32))))

/-- the number of differences less one, -/
def dof : FVec F S_ .f32 := subf (constant S_ .f32 0x40000000#32) (sitofp .f32 (constantI S_ 32 1#32))

/-- and the greatest of their variances. -/
def penalty (a b : FVec F S8x64x32x32 .f32) : FVec F S_ .f32 :=
  Host.reduce FloatOps.maximumf (select (broadcastInDim S8x64x32x32 ![] bcast_S_S8x64x32x32 (cmpf .ogt (dof (F := F)) (constant S_ .f32 0x00000000#32)))
    (Host.divf (Host.reduceAdd (mulf (centred (both a b)) (centred (both a b))) (constant S_ .f32 0x00000000#32) reducesTo_S2x8x64x32x32_S8x64x32x32_d0 h_S_)
      (broadcastInDim S8x64x32x32 ![] bcast_S_S8x64x32x32 (dof (F := F))))
    (broadcastInDim S8x64x32x32 ![] bcast_S_S8x64x32x32 (id (constant S_ .f32 0x7FC00000#32)))) (constant S_ .f32 0xFF800000#32) reducesTo_S8x64x32x32_S_d0_1_2_3 h_S_

/-- The codes in use: one at each index, written into zeros. -/
def used (i : IVec S8192 32) : FVec F S8x8192 .f32 :=
  shapeCast _ (Host.scatter scatter_S65536_S8192x1_S8192_n_0_0_1 (fun _ b => b) (broadcastInDim S65536 ![] bcast_S_S65536 (constant S_ .f32 0x00000000#32))
    (wrap 65536#32 i) (broadcastInDim S8192 ![] bcast_S_S8192 (constant S_ .f32 0x3F800000#32))) shapeCasts_S65536_S8x8192

/-! ## The lines read at the buffers a later one needs -/

section Lines
variable (V : Valuation τ sig (Elt F))
set_option maxRecDepth 8192
set_option maxHeartbeats 4000000

theorem A0_v4 : after opsA0 V (no_index (Proc.devRef .tc main_v4)) = conv (F := F) (V (Proc.devRef .tc main_arg0)) (V (Proc.devRef .tc main_arg1)) (V (Proc.devRef .tc main_arg2)) := by
  after_results_simp; rfl
theorem A0_v5 : after opsA0 V (no_index (Proc.devRef .tc main_v5)) = flat (F := F) (conv (F := F) (V (Proc.devRef .tc main_arg0)) (V (Proc.devRef .tc main_arg1)) (V (Proc.devRef .tc main_arg2))) := by
  after_results_simp; rfl
theorem A0_v17 : after opsA0 V (no_index (Proc.devRef .tc main_v17)) = contr (F := F) (V (Proc.devRef .tc main_arg3)) := by
  simp only [opsA0, TRef.binary, TRef.nullary, TRef.unary, TRef.toBuf, TRef.ofBuf, cast_eq]
  after_results_simp; rfl
theorem A0_v20 : after opsA0 V (no_index (Proc.devRef .tc main_v20))
    = broadcastInDim S8192x1 ![0] bcast_S8192_S8192x1_0 (sqs (F := F) (flat (F := F) (conv (F := F) (V (Proc.devRef .tc main_arg0)) (V (Proc.devRef .tc main_arg1)) (V (Proc.devRef .tc main_arg2))))) := by
  simp only [opsA0, TRef.binary, TRef.nullary, TRef.unary, TRef.toBuf, TRef.ofBuf, cast_eq]
  after_results_simp; rfl
theorem A0_v22 : after opsA0 V (no_index (Proc.devRef .tc main_v22)) = sqs (F := F) (V (Proc.devRef .tc main_arg3)) := by
  simp only [opsA0, TRef.binary, TRef.nullary, TRef.unary, TRef.toBuf, TRef.ofBuf, cast_eq]
  after_results_simp; rfl

/-- The nearest codes from what the first line leaves. -/
abbrev idxA : IVec S8192 32 := near (F := F) (dist' (F := F) (V (Proc.devRef .tc main_v20)) (V (Proc.devRef .tc main_v22)) (V (Proc.devRef .tc main_v5)) (V (Proc.devRef .tc main_arg3)))
theorem A1_v32 : after opsA1 V (no_index (Proc.devRef .tc main_v32)) = idxA V := by
  simp only [opsA1, TRef.quaternary, TRef.ternary, TRef.binary, TRef.nullary, TRef.unary, TRef.toBuf, TRef.ofBuf, cast_eq]
  after_results_simp; rfl
theorem A1_at : after opsA1 V (no_index (Proc.devRef .tc main_call2_v5)) = wrap 8192#32 (idxA V) := by
  simp only [opsA1, TRef.quaternary, TRef.ternary, TRef.binary, TRef.nullary, TRef.unary, TRef.toBuf, TRef.ofBuf, cast_eq]
  after_results_simp; rfl
theorem A1_inside : after opsA1 V (no_index (Proc.devRef .tc main_call2_v11)) = inside (wrap 8192#32 (idxA V)) := by
  simp only [opsA1, TRef.quaternary, TRef.ternary, TRef.binary, TRef.nullary, TRef.unary, TRef.toBuf, TRef.ofBuf, cast_eq]
  after_results_simp; rfl
theorem A1_one : after opsA1 V (no_index (Proc.devRef .tc main_call2_c_3)) = constantI S_ 1 1#1 := by
  simp only [opsA1, TRef.quaternary, TRef.ternary, TRef.binary, TRef.nullary, TRef.unary, TRef.toBuf, TRef.ofBuf, cast_eq]
  after_results_simp; try rfl

abbrev rowsA : FVec F S8x64x32x32 .f32 := take' (F := F) (V (Proc.devRef .tc main_arg3)) (V (Proc.devRef .tc main_call2_v5)) (V (Proc.devRef .tc main_call2_v11)) (V (Proc.devRef .tc main_call2_c_3))
theorem A2_v34 : after opsA2 V (no_index (Proc.devRef .tc main_v34)) = rowsA V := by
  simp only [opsA2, TRef.ternary, TRef.binary, TRef.nullary, TRef.unary, TRef.toBuf, TRef.ofBuf, cast_eq]
  after_results_simp; rfl
theorem A2_v45 : after opsA2 V (no_index (Proc.devRef .tc main_v45)) = loss' (F := F) (V (Proc.devRef .tc main_v4)) (rowsA V) (V (Proc.devRef .tc main_v17)) := by
  simp only [opsA2, TRef.ternary, TRef.binary, TRef.nullary, TRef.unary, TRef.toBuf, TRef.ofBuf, cast_eq]
  after_results_simp; rfl

theorem B0_v80 : after opsB0 V (no_index (Proc.devRef .tc main_v80)) = over (F := F) (diff2 (F := F) (V (Proc.devRef .tc main_arg0)) (V (Proc.devRef .tc main_arg1)) (V (Proc.devRef .tc main_arg2))
    (V (Proc.devRef .tc main_v4)) (dir0 (F := F) (dirs (F := F) (V (Proc.devRef .tc main_v53))))) := by
  after_results_simp; rfl
theorem B0_v98 : after opsB0 V (no_index (Proc.devRef .tc main_v98)) = diff2 (F := F) (V (Proc.devRef .tc main_arg0)) (V (Proc.devRef .tc main_arg1)) (V (Proc.devRef .tc main_arg2))
    (V (Proc.devRef .tc main_v4)) (dir1 (F := F) (dirs (F := F) (V (Proc.devRef .tc main_v53)))) := by
  after_results_simp; rfl

theorem B1_v106 : after opsB1 V (no_index (Proc.devRef .tc main_v106))
    = addf (F := F) (s := S_) (φ := .f32) (V (Proc.devRef .tc main_v45)) (penalty (F := F) (V (Proc.devRef .tc main_v80)) (over (F := F) (V (Proc.devRef .tc main_v98)))) := by
  simp only [opsB1, TRef.ternary, TRef.binary, TRef.nullary, TRef.unary, TRef.toBuf, TRef.ofBuf, cast_eq]
  after_results_simp; rfl
theorem B1_v108 : after opsB1 V (no_index (Proc.devRef .tc main_v108))
    = addf (F := F) (s := S8x64x32x32) (φ := .f32) (V (Proc.devRef .tc main_v4)) (subf (F := F) (s := S8x64x32x32) (φ := .f32) (V (Proc.devRef .tc main_v34)) (V (Proc.devRef .tc main_v4))) := by
  simp only [opsB1, TRef.ternary, TRef.binary, TRef.nullary, TRef.unary, TRef.toBuf, TRef.ofBuf, cast_eq]
  after_results_simp; try rfl
theorem B1_v118 : after opsB1 V (no_index (Proc.devRef .tc main_v118)) = used (F := F) (V (Proc.devRef .tc main_v32)) := by
  simp only [opsB1, TRef.ternary, TRef.binary, TRef.nullary, TRef.unary, TRef.toBuf, TRef.ofBuf, cast_eq]
  after_results_simp; rfl
theorem B1_v119 : after opsB1 V (no_index (Proc.devRef .tc main_v119)) = shapeCast (s := S8192) S8x1024 (V (Proc.devRef .tc main_v32)) shapeCasts_S8192_S8x1024 := by
  simp only [opsB1, TRef.ternary, TRef.binary, TRef.nullary, TRef.unary, TRef.toBuf, TRef.ofBuf, cast_eq]
  after_results_simp; try rfl

end Lines

/-! ## The results -/

section Results
variable (V : Valuation τ sig (Elt F))

/-- The signs' array, as the generator leaves it. -/
def signs : IVec S2x8x384x32x32 32 := after (opsA ++ signOps) V (Proc.devRef .tc main_v53)

abbrev latent : FVec F S8x64x32x32 .f32 := conv (F := F) (V (Proc.devRef .tc main_arg0)) (V (Proc.devRef .tc main_arg1)) (V (Proc.devRef .tc main_arg2))
abbrev index : IVec S8192 32 := near (F := F) (dist (F := F) (flat (F := F) (latent V)) (V (Proc.devRef .tc main_arg3)))
abbrev rows : FVec F S8x64x32x32 .f32 := take (F := F) (V (Proc.devRef .tc main_arg3)) (index V)

/-- What stands after the signs' generator in a buffer it and the key's line do not write. -/
theorem mid (r : Ref sig .tc) (h3 : r ∉ opsA3_W) (hs : ¬Sgn r) :
    after signOps (after opsA3 (after opsA2 (after opsA1 (after opsA0 V)))) (Proc.devRef .tc r) = after opsA2 (after opsA1 (after opsA0 V)) (Proc.devRef .tc r) := by
  rw [after_signOps _ r hs, opsA3_keep _ r h3]
theorem mid_arg (r : Ref sig .tc) (h0 : r ∉ opsA0_W) (h1 : r ∉ opsA1_W) (h2 : r ∉ opsA2_W) (h3 : r ∉ opsA3_W) (hs : ¬Sgn r) :
    after signOps (after opsA3 (after opsA2 (after opsA1 (after opsA0 V)))) (Proc.devRef .tc r) = V (Proc.devRef .tc r) := by
  rw [mid V r h3 hs, opsA2_keep _ r h2, opsA1_keep _ r h1, opsA0_keep _ r h0]

theorem idxA_eq : idxA (after opsA0 V) = index V := by
  unfold idxA
  rw [A0_v20, A0_v22, A0_v5, opsA0_keep _ main_arg3 (by decide)]; rfl
theorem mid_v32 : after signOps (after opsA3 (after opsA2 (after opsA1 (after opsA0 V)))) (Proc.devRef .tc main_v32) = index V := by
  rw [mid V main_v32 (by decide) (by decide), opsA2_keep _ main_v32 (by decide), A1_v32, idxA_eq]
theorem mid_v4 : after signOps (after opsA3 (after opsA2 (after opsA1 (after opsA0 V)))) (Proc.devRef .tc main_v4) = latent V := by
  rw [mid V main_v4 (by decide) (by decide), opsA2_keep _ main_v4 (by decide), opsA1_keep _ main_v4 (by decide), A0_v4]
theorem rowsA_eq : rowsA (after opsA1 (after opsA0 V)) = rows V := by
  unfold rowsA
  rw [opsA1_keep _ main_arg3 (by decide), opsA0_keep _ main_arg3 (by decide), A1_at, A1_inside, A1_one, idxA_eq]; rfl
theorem mid_v34 : after signOps (after opsA3 (after opsA2 (after opsA1 (after opsA0 V)))) (Proc.devRef .tc main_v34) = rows V := by
  rw [mid V main_v34 (by decide) (by decide), A2_v34, rowsA_eq]
theorem mid_v45 : after signOps (after opsA3 (after opsA2 (after opsA1 (after opsA0 V)))) (Proc.devRef .tc main_v45)
    = loss' (F := F) (latent V) (rows V) (contr (F := F) (V (Proc.devRef .tc main_arg3))) := by
  rw [mid V main_v45 (by decide) (by decide), A2_v45, rowsA_eq, opsA1_keep _ main_v4 (by decide), A0_v4, opsA1_keep _ main_v17 (by decide), A0_v17]

theorem signs_eq : after signOps (after opsA3 (after opsA2 (after opsA1 (after opsA0 V)))) (Proc.devRef .tc main_v53) = signs V := by
  simp only [signs, opsA, after_append]

/-- The quantized latent, passed straight through. -/
theorem end_v108 : after (opsA ++ (signOps ++ opsB)) V (Proc.devRef .tc main_v108) = addf (F := F) (latent V) (subf (F := F) (rows V) (latent V)) := by
  simp only [opsA, opsB, after_append]
  rw [B1_v108, opsB0_keep _ main_v4 (by decide), opsB0_keep _ main_v34 (by decide), mid_v4, mid_v34]
/-- The loss. -/
theorem end_v106 : after (opsA ++ (signOps ++ opsB)) V (Proc.devRef .tc main_v106)
    = addf (F := F) (loss' (F := F) (latent V) (rows V) (contr (F := F) (V (Proc.devRef .tc main_arg3))))
      (penalty (F := F)
        (over (F := F) (diff2 (F := F) (V (Proc.devRef .tc main_arg0)) (V (Proc.devRef .tc main_arg1)) (V (Proc.devRef .tc main_arg2)) (latent V) (dir0 (F := F) (dirs (F := F) (signs V)))))
        (over (F := F) (diff2 (F := F) (V (Proc.devRef .tc main_arg0)) (V (Proc.devRef .tc main_arg1)) (V (Proc.devRef .tc main_arg2)) (latent V) (dir1 (F := F) (dirs (F := F) (signs V)))))) := by
  simp only [opsA, opsB, after_append]
  rw [B1_v106, opsB0_keep _ main_v45 (by decide), mid_v45, B0_v80, B0_v98, mid_v4, signs_eq,
    mid_arg V main_arg0 (by decide) (by decide) (by decide) (by decide) (by decide),
    mid_arg V main_arg1 (by decide) (by decide) (by decide) (by decide) (by decide),
    mid_arg V main_arg2 (by decide) (by decide) (by decide) (by decide) (by decide)]
/-- The codes in use. -/
theorem end_v118 : after (opsA ++ (signOps ++ opsB)) V (Proc.devRef .tc main_v118) = used (F := F) (index V) := by
  simp only [opsA, opsB, after_append]
  rw [B1_v118, opsB0_keep _ main_v32 (by decide), mid_v32]
/-- The indices. -/
theorem end_v119 : after (opsA ++ (signOps ++ opsB)) V (Proc.devRef .tc main_v119) = shapeCast S8x1024 (index V) shapeCasts_S8192_S8x1024 := by
  simp only [opsA, opsB, after_append]
  rw [B1_v119, opsB0_keep _ main_v32 (by decide), mid_v32]

end Results

end Cert.ReferenceIdeal.Own

end
-- ==== Proof.RefNearest.lean ====
/- The reference's nearest codes, the rows taken at them, and the codes marked as used. -/
module

public import proofs.«01_k».proof.Proof.RefValue
public import proofs.«01_k».proof.Proof.RefArgmin
public import proofs.«01_k».proof.Proof.Scatter
public import proofs.«01_k».proof.Proof.Consts
public import Idealize.ShloMosaic.Lib.Pointwise
public import Idealize.ShloMosaic.Lib.Routing.OpsSet

@[expose] public section

noncomputable section

namespace Cert.ReferenceIdeal.Own

open Cert.ReferenceIdeal Cert.ReferenceIdeal.Gen
open Idealize.ShloMosaic Cert.Vq

/-- The reference's index of a row is the nearest code of the row of distances. -/
theorem near_apply (d : FVec Ideal S8192x8192 .f32) (p : Fin 8192) :
    near d (ix1 p) = BitVec.ofNat 32 (nearest fun k => d (ix2 p k)).val := by
  obtain ⟨k, hk, e⟩ := argmin_row (by decide) le_rfl reducesTo_S8192x8192_S8192_d1 d (iotaInDim S8192x8192 32 1) p (fun k => rfl)
    (constant S_ .f32 0x7F800000#32) (constantI S_ 32 0#32) h_S_ ofBits_top rfl
  rw [nearest_eq hk, ← e]
  rfl

/-! ## The rows taken -/

section Taken
variable (i : IVec S8192 32) (f : Fin 8192 → Fin 8192) (hi : ∀ p, i (ix1 p) = BitVec.ofNat 32 (f p).val)
include hi

theorem wrap_apply (n : BitVec 32) (p : Fin 8192) : wrap n i (ix2 p 0) = BitVec.ofNat 32 (f p).val := by
  pointwise [wrap]
  rw [hi]
  have h : (BitVec.ofNat 32 (f p).val).slt 0#32 = false := by
    simp only [BitVec.slt, toInt_ofNat _ (f p).isLt]; simp
  simp [IntOp.cmpi, h, Scalar.select]

theorem inside_apply (p : Fin 8192) : inside (wrap 8192#32 i) (ix2 p 0) = 1#1 := by
  pointwise [inside]
  rw [wrap_apply i f hi]
  have h : (0#32).sle (BitVec.ofNat 32 (f p).val) = true := by
    simp only [BitVec.sle, toInt_ofNat _ (f p).isLt]; simp
  have h' : (BitVec.ofNat 32 (f p).val).sle 8191#32 = true := by
    have := (f p).isLt
    simp only [BitVec.sle, toInt_ofNat _ (f p).isLt, show (8191#32).toInt = 8191 from by decide]; simp; omega
  simp [IntOp.cmpi, h, h', IntOp.andi]

/-- The table of rows taken, before its reshape. -/
def taken (E : FVec Ideal S8192x64 .f32) (g : Fin 8192 → Fin 8192) : FVec Ideal S8192x64 .f32 := fun j => E (ix2 (g (j 0)) (j 1))

omit hi in
theorem gather_apply (E : FVec Ideal S8192x64 .f32) (idx : IVec S8192x1 32) (p : Fin 8192) (c : Fin 64) (k : Fin 8192)
    (hk : idx (ix2 p 0) = BitVec.ofNat 32 k.val) :
    Host.gather gather_S8192x64_S8192x1_S8192x64_1_0_n_n_0_1_164 E idx (ix2 p c) = E (ix2 k c) := by
  exact Routing.gather_row (nb := 8192) (B := 64) (n := 8192) gather_S8192x64_S8192x1_S8192x64_1_0_n_n_0_1_164 rfl rfl rfl rfl rfl E idx p c k hk (by norm_num)

theorem take_eq (E : FVec Ideal S8192x64 .f32) : take E i = shapeCast S8x64x32x32 (taken E f) shapeCasts_S8192x64_S8x64x32x32 := by
  unfold take take'
  refine congrArg (fun q => shapeCast S8x64x32x32 q shapeCasts_S8192x64_S8x64x32x32) ?_
  funext j
  obtain ⟨p, c, rfl⟩ : ∃ p c, j = ix2 p c := ⟨j 0, j 1, eq_ix2 j⟩
  pointwise [taken]
  rw [gather_apply E _ p c (f p) (wrap_apply i f hi _ p)]
  have hx : ∀ x : Fin 1, inside (wrap 8192#32 i) (ix2 p x) = 1#1 := fun x => by
    obtain rfl : x = 0 := Subsingleton.elim _ _
    exact inside_apply i f hi p
  simp only [hx]
  simp [IntOp.andi, Scalar.select]

/-- The codes marked: one where some row's index is the code, in the first row; zero elsewhere. -/
theorem used_apply (s : Fin 8) (k : Fin 8192) : used (F := Ideal) i (ix2 s k) = if s = 0 ∧ ∃ p, f p = k then 1 else 0 := by
  have hz : (FloatOps.ofBits .f32 0x00000000#32 : Ideal .f32) = 0 := Ideal.ofBits_zero _
  have ho : (FloatOps.ofBits .f32 0x3F800000#32 : Ideal .f32) = 1 := ofBits_one
  pointwise [used]
  have hl : ∀ (p : Fin 8192) (x : Fin 65536), scatter_S65536_S8192x1_S8192_n_0_0_1.resultIdx? (ix1 p) (wrap 65536#32 i) = some (ix1 x)
      ↔ (f p).val = x.val := fun p x => by
    rw [lands_word, wrap_apply i f hi, toInt_ofNat _ (f p).isLt]
    omega
  split
  · next h =>
    obtain ⟨rfl, p, rfl⟩ := h
    refine (Routing.scatter_set_hit _ _ _ _ _ 1 (fun q _ => ?_) (ix1 p) ((hl p _).2 (by simp))).trans rfl
    exact ho
  · next h =>
    refine (Routing.scatter_set_miss _ _ _ _ _ fun q hq => ?_).trans ?_
    · rw [show q = ix1 (q 0) from eq_ix1 q] at hq
      have e := (hl (q 0) _).1 hq
      have h1 := (f (q 0)).isLt
      have h2 := k.isLt
      simp only at e
      refine h ⟨Fin.ext ?_, q 0, Fin.ext ?_⟩
      · show s.val = 0
        omega
      · omega
    · exact hz
end Taken

end Cert.ReferenceIdeal.Own

end
-- ==== Proof.RefBlock.lean ====
/- The reference's terms, element by element, over the extended reals. -/
module

public import proofs.«01_k».proof.Proof.RefNearest
public import proofs.«01_k».proof.Proof.Latent

@[expose] public section

noncomputable section

namespace Cert.ReferenceIdeal.Own

open Cert.ReferenceIdeal Cert.ReferenceIdeal.Gen
open Idealize.ShloMosaic Cert.Vq

theorem coe_two : ((2 : ℝ) : EReal) = 2 := rfl

theorem conv_apply (x : FVec Ideal S8x384x32x32 .f32) (W : FVec Ideal S64x384 .f32) (b : FVec Ideal S64 .f32) (n : Fin 8) (o : Fin 64) (h w : Fin 32) :
    conv x W b (ix4 n o h w) = lat x W b n o h w := by
  pointwise [conv, lat]
  simp only [mul_comm]

/-- The reference's rows are the table. -/
theorem flat_conv (x : FVec Ideal S8x384x32x32 .f32) (W : FVec Ideal S64x384 .f32) (b : FVec Ideal S64 .f32) : flat (conv x W b) = table x W b := by
  funext y
  obtain ⟨p, c, rfl⟩ : ∃ p c, y = ix2 p c := ⟨y 0, y 1, eq_ix2 y⟩
  have h := conv_apply x W b
  pointwise [flat]
  rw [h]
  rfl

/-- The reference's distances. -/
theorem dist_apply (a e : FVec Ideal S8192x64 .f32) (p k : Fin 8192) : dist a e (ix2 p k) = dists (fun c => a (ix2 p c)) e k := by
  have h2 := ofBits_two
  pointwise [dist, dist', sqs, gram, dists, dsq]
  simp [h2]

/-- The reference's index of a row. -/
theorem index_apply (a e : FVec Ideal S8192x64 .f32) (p : Fin 8192) : near (dist a e) (ix1 p) = BitVec.ofNat 32 (code a e p).val := by
  rw [near_apply]
  simp only [dist_apply]
  rfl

/-- The mean of the cosines of the codes. -/
theorem contr_apply (e : FVec Ideal S8192x64 .f32) (j : S_.Idx) :
    contr e j = Ideal.div (∑ x : Fin 8192, ∑ y : Fin 8192, Ideal.div (∑ c, e (ix2 x c) * e (ix2 y c))
      (Ideal.sqrt (∑ c, e (ix2 y c) * e (ix2 y c)) * Ideal.sqrt (∑ c, e (ix2 x c) * e (ix2 x c)))) (Ideal.ofBits .f32 0x4C800000#32) := by
  pointwise [contr, gram, norms, sqs]

/-- The mean of the squares of an array. -/
theorem meanSq_apply (a : FVec Ideal S8x64x32x32 .f32) (j : S_.Idx) : meanSq a j = Ideal.div (∑ i, a i * a i) (Ideal.ofBits .f32 0x49000000#32) := by
  have h := Ideal.hostReduceAdd_total reducesTo_S8x64x32x32_S_d0_1_2_3 (by decide) (mulf a a) 0 j
  pointwise [meanSq]
  rw [h, zero_add]
  rfl

theorem loss'_apply (a b : FVec Ideal S8x64x32x32 .f32) (t : FVec Ideal S_ .f32) (j : S_.Idx) :
    loss' a b t j = meanSq (subf b a) j + Ideal.ofBits .f32 0x3E800000#32 * meanSq (subf b a) j + t j := by
  pointwise [loss']

theorem diff2_apply (x s : FVec Ideal S8x384x32x32 .f32) (W : FVec Ideal S64x384 .f32) (b : FVec Ideal S64 .f32) (z : FVec Ideal S8x64x32x32 .f32)
    (n : Fin 8) (o : Fin 64) (h w : Fin 32) :
    diff2 x W b z s (ix4 n o h w) = lat (addf x s) W b n o h w - 2 * z (ix4 n o h w) + lat (subf x s) W b n o h w := by
  have h2 := ofBits_two
  have hc := conv_apply (addf x s) W b
  have hc' := conv_apply (subf x s) W b
  pointwise [diff2]
  rw [hc, hc', h2]

/-- A direction's entries: a tenth of twice a word less one. -/
theorem dir0_apply (S : IVec S2x8x384x32x32 32) (n : Fin 8) (o : Fin 384) (h w : Fin 32) :
    dir0 (F := Ideal) (dirs S) (ix4 n o h w) = Ideal.ofBits .f32 0x3DCCCCCD#32 * (((S (ix5 0 n o h w)).toInt : ℝ) * 2 - 1 : ℝ) := by
  have h2 := ofBits_two
  pointwise [dir0, dirs]
  simp [FloatOps.sitofp, h2, coe_two]
theorem dir1_apply (S : IVec S2x8x384x32x32 32) (n : Fin 8) (o : Fin 384) (h w : Fin 32) :
    dir1 (F := Ideal) (dirs S) (ix4 n o h w) = Ideal.ofBits .f32 0x3DCCCCCD#32 * (((S (ix5 1 n o h w)).toInt : ℝ) * 2 - 1 : ℝ) := by
  have h2 := ofBits_two
  pointwise [dir1, dirs]
  simp [FloatOps.sitofp, h2, coe_two]

/-- Where both second differences are zero everywhere, so is the penalty. -/
theorem penalty_zero (a b : FVec Ideal S8x64x32x32 .f32) (ha : ∀ n o h w, a (ix4 n o h w) = 0) (hb : ∀ n o h w, b (ix4 n o h w) = 0) (j : S_.Idx) :
    penalty a b j = 0 := by
  have h2 := ofBits_two
  have hboth : ∀ i n o h w, both a b (ix5 i n o h w) = 0 := fun i n o h w => by
    pointwise [both, join2]
    rw [ha, hb, dite_eq_ite, ite_self]
  have hcen : ∀ i n o h w, centred (both a b) (ix5 i n o h w) = 0 := fun i n o h w => by
    pointwise [centred]
    simp [hboth, h2, Ideal.div]
  have h1 : (2 : EReal) - FloatOps.sitofp (F := Ideal) .f32 1#32 = 1 := by
    have e : (2 : EReal) - 1 = 1 := by
      rw [← coe_two, ← EReal.coe_one, ← EReal.coe_sub]
      norm_num
    simp [FloatOps.sitofp, e]
  pointwise [penalty, dof]
  simp only [hcen, h2, h1, zero_lt_one, if_true, mul_zero, Finset.sum_const_zero, ofBits_bot]
  have h0 : Ideal.div 0 1 = 0 := by simp [Ideal.div]
  refine (Finset.fold_congr (g := fun _ => (0 : EReal)) fun x _ => (congrArg (Ideal.div · 1)
    (Finset.sum_eq_zero fun q _ => (congrArg (fun t => t * t) (hcen q _ _ _ _)).trans (mul_zero 0))).trans h0).trans ?_
  refine le_antisymm ((Finset.fold_max_le _).2 ⟨bot_le, fun _ _ => le_rfl⟩) ((Finset.le_fold_max _).2 (.inr ⟨ix4 0 0 0 0, ?_, le_rfl⟩))
  exact Finset.mem_filter.2 ⟨Finset.mem_univ _, funext fun a => a.elim0⟩

end Cert.ReferenceIdeal.Own

end
-- ==== Proof.Reals.lean ====
/- The equations between the two programs' values, for finite inputs: each side the image of a real number. -/
module

public import proofs.«01_k».proof.Proof.Latent
public import proofs.«01_k».proof.Proof.Nearest
public import proofs.«01_k».proof.Proof.Consts

@[expose] public section

noncomputable section

namespace Cert.Vq

open Idealize.ShloMosaic

/-- A sum of images of reals is the image of the sum. -/
theorem sum_coe {ι : Type*} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

theorem two_coe : (2 : EReal) = ((2 : ℝ) : EReal) := rfl

/-- The squared distance, expanded, is the sum of the squares of the differences. -/
theorem dsq_coe (z e : Fin 64 → ℝ) : dsq (fun c => (z c : EReal)) (fun c => (e c : EReal)) = ((∑ c, (e c - z c) * (e c - z c) : ℝ) : EReal) := by
  unfold dsq
  simp only [← EReal.coe_mul, sum_coe, two_coe, ← EReal.coe_add, ← EReal.coe_sub]
  refine congrArg _ ?_
  rw [Finset.mul_sum, ← Finset.sum_add_distrib, ← Finset.sum_sub_distrib]
  exact Finset.sum_congr rfl fun c _ => by ring

/-! ## The latent -/

/-- The latent over the reals. -/
def latR (x : (⟨4, ![8, 384, 32, 32]⟩ : Shape).Idx → ℝ) (W : (⟨2, ![64, 384]⟩ : Shape).Idx → ℝ) (b : (⟨1, ![64]⟩ : Shape).Idx → ℝ)
    (n : Fin 8) (o : Fin 64) (h w : Fin 32) : ℝ := ∑ c, x (ix4 n c h w) * W (ix2 o c) + b (ix1 o)

theorem lat_coe {x : FVec Ideal ⟨4, ![8, 384, 32, 32]⟩ .f32} {W : FVec Ideal ⟨2, ![64, 384]⟩ .f32} {b : FVec Ideal ⟨1, ![64]⟩ .f32}
    {x' : (⟨4, ![8, 384, 32, 32]⟩ : Shape).Idx → ℝ} {W' : (⟨2, ![64, 384]⟩ : Shape).Idx → ℝ} {b' : (⟨1, ![64]⟩ : Shape).Idx → ℝ}
    (hx : ∀ i, x i = (x' i : EReal)) (hW : ∀ i, W i = (W' i : EReal)) (hb : ∀ i, b i = (b' i : EReal)) (n : Fin 8) (o : Fin 64) (h w : Fin 32) :
    lat x W b n o h w = (latR x' W' b' n o h w : EReal) := by
  unfold lat latR
  simp only [hx, hW, hb, ← EReal.coe_mul, sum_coe, ← EReal.coe_add]

/-- The latent is affine in the pixels: its second differences are zero. -/
theorem latR_second (x s : (⟨4, ![8, 384, 32, 32]⟩ : Shape).Idx → ℝ) (W : (⟨2, ![64, 384]⟩ : Shape).Idx → ℝ) (b : (⟨1, ![64]⟩ : Shape).Idx → ℝ)
    (n : Fin 8) (o : Fin 64) (h w : Fin 32) :
    latR (fun i => x i + s i) W b n o h w - 2 * latR x W b n o h w + latR (fun i => x i - s i) W b n o h w = 0 := by
  unfold latR
  simp only [add_mul, sub_mul, Finset.sum_add_distrib, Finset.sum_sub_distrib]
  ring

/-! ## The mean of the cosines -/

theorem div_coe_coe (a : ℝ) {b : ℝ} (hb : b ≠ 0) : Ideal.div (a : EReal) (b : EReal) = ((a / b : ℝ) : EReal) := by
  rw [Ideal.div_coe hb, ← EReal.coe_mul]
  refine congrArg _ ?_
  rw [mul_one_div]

/-- The products of the codes' directions, summed over all pairs of codes, are the squares of the summed directions. -/
theorem cosines {e : Fin 8192 → Fin 64 → ℝ} {E : Fin 8192 → Fin 64 → EReal} (hE : ∀ k c, E k c = (e k c : EReal)) (h0 : ∀ k, ∃ c, E k c ≠ 0) :
    ∃ r : ℝ, (∑ x, ∑ y, Ideal.div (∑ c, E x c * E y c) (Ideal.sqrt (∑ c, E y c * E y c) * Ideal.sqrt (∑ c, E x c * E x c)) = (r : EReal))
      ∧ ∑ c, (∑ k, Ideal.div (E k c) (Ideal.sqrt (∑ c', E k c' * E k c'))) * (∑ k, Ideal.div (E k c) (Ideal.sqrt (∑ c', E k c' * E k c'))) = (r : EReal) := by
  let n : Fin 8192 → ℝ := fun k => Real.sqrt (∑ c, e k c * e k c)
  have hpos : ∀ k, 0 < ∑ c, e k c * e k c := fun k => by
    obtain ⟨c, hc⟩ := h0 k
    have hc' : e k c ≠ 0 := fun h => hc (by rw [hE, h]; rfl)
    exact Finset.sum_pos' (fun c _ => mul_self_nonneg _) ⟨c, Finset.mem_univ _, mul_self_pos.2 hc'⟩
  have hn : ∀ k, n k ≠ 0 := fun k => (Real.sqrt_pos.2 (hpos k)).ne'
  have hs : ∀ k, Ideal.sqrt (∑ c, E k c * E k c) = (n k : EReal) := fun k => by
    simp only [hE, ← EReal.coe_mul, sum_coe]
    rw [Ideal.sqrt_coe, if_neg (not_lt.2 (hpos k).le)]
  refine ⟨∑ c, (∑ k, e k c / n k) * (∑ k, e k c / n k), ?_, ?_⟩
  · have hd : ∀ (a : ℝ) (x y : Fin 8192), Ideal.div (a : EReal) ((n y * n x : ℝ) : EReal) = ((a / (n y * n x) : ℝ) : EReal) :=
      fun a x y => div_coe_coe a (mul_ne_zero (hn y) (hn x))
    simp only [hs]
    simp only [hE, ← EReal.coe_mul, sum_coe, hd]
    refine congrArg _ ?_
    simp only [Finset.sum_mul_sum, Finset.sum_div]
    refine Eq.trans (Finset.sum_congr rfl fun x _ => ?_) Finset.sum_comm
    refine Eq.trans (Finset.sum_congr rfl fun y _ => ?_) Finset.sum_comm
    refine Finset.sum_congr rfl fun c _ => ?_
    rw [div_mul_div_comm, mul_comm (n y)]
  · have hd : ∀ k c, Ideal.div (e k c : EReal) (n k : EReal) = ((e k c / n k : ℝ) : EReal) := fun k c => div_coe_coe _ (hn k)
    simp only [hs]
    simp only [hE, hd, ← EReal.coe_mul, sum_coe]

/-- The two ways of weighting the losses. -/
theorem weighted (d r : ℝ) : (d : EReal) * Ideal.ofBits .f32 0x36200000#32 + Ideal.div (r : EReal) (Ideal.ofBits .f32 0x4C800000#32)
    = Ideal.div (d : EReal) (Ideal.ofBits .f32 0x49000000#32) + Ideal.ofBits .f32 0x3E800000#32 * Ideal.div (d : EReal) (Ideal.ofBits .f32 0x49000000#32)
      + Ideal.div (r : EReal) (Ideal.ofBits .f32 0x4C800000#32) + 0 := by
  rw [ofBits_weight, ofBits_pairs, ofBits_size, ofBits_quarter, div_coe_coe _ (by norm_num), div_coe_coe _ (by norm_num)]
  simp only [← EReal.coe_mul, ← EReal.coe_add, add_zero]
  refine congrArg _ ?_
  ring

end Cert.Vq

end
-- ==== Proof.Proper.lean ====
/- What the precondition says of the inputs: every entry finite, no row of the codebook zero. -/
module

public import proofs.«01_k».proof.Defs
public import Idealize.ShloMosaic.Lib.Pointwise

@[expose] public section

noncomputable section

namespace Cert.Vq

open Idealize.ShloMosaic

/-- The shape relations the precondition's operations take. -/
theorem properFacts : Cert.Pre_proper.Facts where
  bcast_S_S8x384x32x32 := by decide
  bcast_S_S64x384 := by decide
  bcast_S_S64 := by decide
  bcast_S_S8192x64 := by decide
  reducesTo_S8192x64_S8192_d1 := by decide
  h_S_ := by decide

/-- Every entry of the inputs is a real number, and no row of the codebook is zero. -/
structure Proper (x : FVec Ideal ⟨4, ![8, 384, 32, 32]⟩ .f32) (W : FVec Ideal ⟨2, ![64, 384]⟩ .f32) (b : FVec Ideal ⟨1, ![64]⟩ .f32)
    (E : FVec Ideal ⟨2, ![8192, 64]⟩ .f32) : Prop where
  hx : ∀ i, ∃ r : ℝ, x i = (r : EReal)
  hW : ∀ i, ∃ r : ℝ, W i = (r : EReal)
  hb : ∀ i, ∃ r : ℝ, b i = (r : EReal)
  hE : ∀ i, ∃ r : ℝ, E i = (r : EReal)
  h0 : ∀ k, ∃ c, E (ix2 k c) ≠ 0

theorem bit_one {p : Prop} [Decidable p] (h : BitVec.ofBool (decide p) = 1#1) : p := by
  by_contra hp
  simp [hp] at h

/-- A value whose magnitude is below infinity is a real number. -/
theorem finite_of_abs (v : EReal) (h : max v (-v) < ⊤) : ∃ r : ℝ, v = (r : EReal) := by
  induction v with
  | bot => simp at h
  | top => simp at h
  | coe r => exact ⟨r, rfl⟩

/-- A disjunction of bits that is one has a bit that is one. -/
theorem fold_or {ι : Type*} [DecidableEq ι] (s : Finset ι) (f : ι → BitVec 1) (h : s.fold IntOp.ori 0#1 f = 1#1) : ∃ i ∈ s, f i = 1#1 := by
  induction s using Finset.induction_on with
  | empty => simp at h
  | insert a s ha ih =>
    rw [Finset.fold_insert ha] at h
    by_cases hf : f a = 1#1
    · exact ⟨a, Finset.mem_insert_self _ _, hf⟩
    · have h0 : f a = 0#1 := by
        generalize f a = q at hf
        revert q
        decide
      rw [h0] at h
      have hs : s.fold IntOp.ori 0#1 f = 1#1 := by
        generalize s.fold IntOp.ori 0#1 f = q at h
        revert q
        decide
      obtain ⟨i, hi, e⟩ := ih hs
      exact ⟨i, Finset.mem_insert_of_mem hi, e⟩

theorem proper_of [Cert.Pre_proper.Facts] (x : FVec Ideal ⟨4, ![8, 384, 32, 32]⟩ .f32) (W : FVec Ideal ⟨2, ![64, 384]⟩ .f32) (b : FVec Ideal ⟨1, ![64]⟩ .f32)
    (E : FVec Ideal ⟨2, ![8192, 64]⟩ .f32)
    (h : (Cert.Pre_proper.fn (F := Ideal) x W b E).1 = (fun _ => 1#1) ∧ (Cert.Pre_proper.fn (F := Ideal) x W b E).2.1 = (fun _ => 1#1)
      ∧ (Cert.Pre_proper.fn (F := Ideal) x W b E).2.2.1 = (fun _ => 1#1) ∧ (Cert.Pre_proper.fn (F := Ideal) x W b E).2.2.2.1 = (fun _ => 1#1)
      ∧ (Cert.Pre_proper.fn (F := Ideal) x W b E).2.2.2.2 = (fun _ => 1#1)) : Proper x W b E := by
  have ht : Ideal.ofBits .f32 0x7F800000#32 = ⊤ := by simp [Ideal.ofBits, Ideal.ieee]
  have key : ∀ v : EReal, BitVec.ofBool (decide (max v (-v) < Ideal.ofBits .f32 0x7F800000#32)) = 1#1 → ∃ r : ℝ, v = (r : EReal) := fun v e => by
    have e' := bit_one e
    rw [ht] at e'
    exact finite_of_abs v e'
  obtain ⟨h1, h2, h3, h4, h5⟩ := h
  refine ⟨fun i => key _ (congrFun h1 i), fun i => key _ (congrFun h2 i), fun i => key _ (congrFun h3 i), fun i => key _ (congrFun h4 i), fun k => ?_⟩
  have e := congrFun h5 (ix1 k)
  unfold Cert.Pre_proper.fn at e
  dsimp only at e
  pointwise at e
  obtain ⟨c, _, hc⟩ := fold_or _ _ e
  exact ⟨c, bit_one hc⟩

end Cert.Vq

end
-- ==== Proof.Equal.lean ====
/- The kernel's results equal the reference's, for finite inputs and a codebook without zero rows. -/
module

public import proofs.«01_k».proof.Proof.KernelValue
public import proofs.«01_k».proof.Proof.RefBlock
public import proofs.«01_k».proof.Proof.Reals
public import proofs.«01_k».proof.Proof.Proper
public import Idealize.ShloMosaic.Lib.Pipeline.Value

@[expose] public section

noncomputable section

namespace Cert.Vq

open Idealize.ShloMosaic
open Cert.KernelIdeal.Own (latentRows products pixelRows indices nearests leasts marks loss sampled)
open Cert.ReferenceIdeal.Own (conv flat dist near take used loss' contr meanSq penalty over diff2 dir0 dir1 dirs taken)

variable (x : FVec Ideal ⟨4, ![8, 384, 32, 32]⟩ .f32) (W : FVec Ideal ⟨2, ![64, 384]⟩ .f32) (b : FVec Ideal ⟨1, ![64]⟩ .f32) (E : FVec Ideal ⟨2, ![8192, 64]⟩ .f32)

/-- The reference's index of a row. -/
theorem ref_index (p : Fin 8192) : near (dist (flat (conv x W b)) E) (ix1 p) = BitVec.ofNat 32 (code (table x W b) E p).val := by
  rw [Cert.ReferenceIdeal.Own.flat_conv, Cert.ReferenceIdeal.Own.index_apply]

/-- The vector of indices, read as eight rows. -/
theorem rows_apply (i : IVec ⟨1, ![8192]⟩ 32) (n : Fin 8) (q : Fin 1024) :
    shapeCast (s := Cert.ReferenceIdeal.S8192) Cert.ReferenceIdeal.S8x1024 i Cert.ReferenceIdeal.Gen.shapeCasts_S8192_S8x1024 (ix2 n q)
      = i (ix1 ⟨n.val * 1024 + q.val, by have := n.isLt; have := q.isLt; omega⟩) := by
  pointwise []

/-- The indices agree. -/
theorem index_eq : shapeCast (s := Cert.KernelIdeal.S64x1x128) Cert.KernelIdeal.S8x1024 (indices (F := Ideal) (table x W b) E) Cert.KernelIdeal.Gen.shapeCasts_S64x1x128_S8x1024
    = shapeCast (s := Cert.ReferenceIdeal.S8192) Cert.ReferenceIdeal.S8x1024 (near (dist (flat (conv x W b)) E)) Cert.ReferenceIdeal.Gen.shapeCasts_S8192_S8x1024 := by
  have hi := ref_index x W b E
  have hk := Cert.KernelIdeal.Own.indices_apply (table x W b) E
  generalize near (dist (flat (conv x W b)) E) = i at hi ⊢
  generalize shapeCast (s := Cert.KernelIdeal.S64x1x128) Cert.KernelIdeal.S8x1024 (indices (F := Ideal) (table x W b) E) Cert.KernelIdeal.Gen.shapeCasts_S64x1x128_S8x1024 = l at hk ⊢
  funext j
  obtain ⟨n, q, rfl⟩ : ∃ n q, j = ix2 n q := ⟨j 0, j 1, eq_ix2 j⟩
  rw [hk, rows_apply, hi]

/-- The marks agree. -/
theorem sampled_eq : sampled (F := Ideal) (marks (F := Ideal) (table x W b) E 63 (by decide)) = used (F := Ideal) (near (dist (flat (conv x W b)) E)) := by
  funext j
  obtain ⟨n, q, rfl⟩ : ∃ n q, j = ix2 n q := ⟨j 0, j 1, eq_ix2 j⟩
  exact (Cert.KernelIdeal.Own.sampled_apply _ _ n q).trans (Cert.ReferenceIdeal.Own.used_apply _ (code (table x W b) E) (ref_index x W b E) n q).symm

/-- The reference's rows taken. -/
theorem ref_rows (n : Fin 8) (o : Fin 64) (h w : Fin 32) : take E (near (dist (flat (conv x W b)) E)) (ix4 n o h w)
    = E (ix2 (code (table x W b) E ⟨n.val * 1024 + o.val * 16 + h.val / 2, by have := n.isLt; have := o.isLt; have := h.isLt; omega⟩) ⟨h.val % 2 * 32 + w.val, by have := w.isLt; omega⟩) := by
  rw [Cert.ReferenceIdeal.Own.take_eq _ (code (table x W b) E) (ref_index x W b E)]
  pointwise [taken]

variable (hp : Proper x W b E)
include hp

/-- The quantized latents agree. -/
theorem quant_eq : shapeCast (s := Cert.KernelIdeal.S64x128x64) Cert.KernelIdeal.S8x64x32x32 (nearests (F := Ideal) (table x W b) E) Cert.KernelIdeal.Gen.shapeCasts_S64x128x64_S8x64x32x32
    = addf (F := Ideal) (conv x W b) (subf (F := Ideal) (take E (near (dist (flat (conv x W b)) E))) (conv x W b)) := by
  have hr := ref_rows x W b E
  generalize take E (near (dist (flat (conv x W b)) E)) = q at hr ⊢
  funext j
  obtain ⟨n, o, h, w, rfl⟩ : ∃ n o h w, j = ix4 n o h w := ⟨j 0, j 1, j 2, j 3, eq_ix4 j⟩
  refine (Cert.KernelIdeal.Own.nearests_apply _ _ n o h w).trans ?_
  obtain ⟨x', hx⟩ := Classical.axiomOfChoice hp.hx
  obtain ⟨W', hW⟩ := Classical.axiomOfChoice hp.hW
  obtain ⟨b', hb⟩ := Classical.axiomOfChoice hp.hb
  have hz := Cert.ReferenceIdeal.Own.conv_apply x W b n o h w
  generalize conv x W b = z at hz ⊢
  pointwise []
  rw [hz, hr, lat_coe hx hW hb]
  obtain ⟨e, he⟩ := hp.hE (ix2 (code (table x W b) E ⟨n.val * 1024 + o.val * 16 + h.val / 2, by have := n.isLt; have := o.isLt; have := h.isLt; omega⟩) ⟨h.val % 2 * 32 + w.val, by have := w.isLt; omega⟩)
  rw [he, ← EReal.coe_sub, ← EReal.coe_add]
  exact congrArg _ (by ring)

end Cert.Vq

end
-- ==== Proof.Loss.lean ====
/- The kernel's loss equals the reference's, for finite inputs and a codebook without zero rows. -/
module

public import proofs.«01_k».proof.Proof.Equal

@[expose] public section

noncomputable section

namespace Cert.Vq

open Idealize.ShloMosaic
open Cert.KernelIdeal.Own (leasts loss)
open Cert.ReferenceIdeal.Own (conv flat dist near take loss' contr meanSq penalty over diff2 dir0 dir1 dirs taken)

/-- A sum over the latent's entries, row by row. -/
theorem sum_flat (f : FVec Ideal Cert.ReferenceIdeal.S8x64x32x32 .f32) : ∑ i, f i = ∑ p : Fin 8192, ∑ c : Fin 64, flat f (ix2 p c) :=
  (Equiv.sum_comp (Shape.reshapeEquiv Cert.ReferenceIdeal.Gen.shapeCasts_S8x64x32x32_S8192x64) f).symm.trans (sum_idx2 _)

/-- Flattening takes the products of differences entry by entry. -/
theorem flat_sq (q z : FVec Ideal Cert.ReferenceIdeal.S8x64x32x32 .f32) :
    flat (mulf (F := Ideal) (subf (F := Ideal) q z) (subf (F := Ideal) q z)) = mulf (F := Ideal) (subf (F := Ideal) (flat q) (flat z)) (subf (F := Ideal) (flat q) (flat z)) := rfl

variable (x : FVec Ideal ⟨4, ![8, 384, 32, 32]⟩ .f32) (W : FVec Ideal ⟨2, ![64, 384]⟩ .f32) (b : FVec Ideal ⟨1, ![64]⟩ .f32) (E : FVec Ideal ⟨2, ![8192, 64]⟩ .f32)

/-- The reference's mean of squares: the sum, over the rows, of the squares of the differences from the nearest code. -/
theorem ref_meanSq (j : Cert.ReferenceIdeal.S_.Idx) : meanSq (subf (F := Ideal) (take E (near (dist (flat (conv x W b)) E))) (conv x W b)) j
    = Ideal.div (∑ p : Fin 8192, ∑ c : Fin 64, (E (ix2 (code (table x W b) E p) c) - table x W b (ix2 p c)) * (E (ix2 (code (table x W b) E p) c) - table x W b (ix2 p c)))
      (Ideal.ofBits .f32 0x49000000#32) := by
  have hq : flat (take E (near (dist (flat (conv x W b)) E))) = taken E (code (table x W b) E) := by
    rw [Cert.ReferenceIdeal.Own.take_eq _ (code (table x W b) E) (ref_index x W b E)]
    exact shapeCast_shapeCast _ _ _
  have hz := Cert.ReferenceIdeal.Own.flat_conv x W b
  generalize take E (near (dist (flat (conv x W b)) E)) = q at hq ⊢
  generalize conv x W b = z at hz ⊢
  rw [Cert.ReferenceIdeal.Own.meanSq_apply]
  refine congrArg (Ideal.div · _) ((sum_flat (mulf (F := Ideal) (subf (F := Ideal) q z) (subf (F := Ideal) q z))).trans ?_)
  rw [flat_sq, hq, hz]
  rfl

section Finite
variable {x W b E} (hp : Proper x W b E)
include hp

/-- The second differences are zero, whatever finite direction they are taken along. -/
theorem diff2_zero {s : FVec Ideal ⟨4, ![8, 384, 32, 32]⟩ .f32} (hs : ∀ i, ∃ r : ℝ, s i = (r : EReal)) (n : Fin 8) (o : Fin 64) (h w : Fin 32) :
    over (F := Ideal) (diff2 (F := Ideal) x W b (conv x W b) s) (ix4 n o h w) = 0 := by
  obtain ⟨x', hx⟩ := Classical.axiomOfChoice hp.hx
  obtain ⟨W', hW⟩ := Classical.axiomOfChoice hp.hW
  obtain ⟨b', hb⟩ := Classical.axiomOfChoice hp.hb
  obtain ⟨s', hs⟩ := Classical.axiomOfChoice hs
  have e : diff2 (F := Ideal) x W b (conv x W b) s (ix4 n o h w) = ((0 : ℝ) : EReal) := by
    rw [Cert.ReferenceIdeal.Own.diff2_apply, Cert.ReferenceIdeal.Own.conv_apply, lat_coe hx hW hb,
      lat_coe (x := addf x s) (x' := fun i => x' i + s' i) (fun i => (congrArg₂ (fun u v : EReal => u + v) (hx i) (hs i)).trans (EReal.coe_add _ _).symm) hW hb,
      lat_coe (x := subf x s) (x' := fun i => x' i - s' i) (fun i => (congrArg₂ (fun u v : EReal => u - v) (hx i) (hs i)).trans (EReal.coe_sub _ _).symm) hW hb,
      two_coe, ← EReal.coe_mul, ← EReal.coe_sub, ← EReal.coe_add]
    exact congrArg _ (latR_second x' s' W' b' n o h w)
  generalize diff2 (F := Ideal) x W b (conv x W b) s = d at e ⊢
  pointwise [over]
  rw [e, ofBits_step2, div_coe_coe _ (by norm_num), zero_div]
  rfl

/-- The losses agree. -/
theorem loss_eq (S : IVec ⟨5, ![2, 8, 384, 32, 32]⟩ 32) :
    loss (F := Ideal) (leasts (F := Ideal) (table x W b) E) (Cert.KernelIdeal.Gen.k1_pay3 (F := Ideal) E)
      = addf (F := Ideal) (loss' (F := Ideal) (conv x W b) (take E (near (dist (flat (conv x W b)) E))) (contr E))
        (penalty (F := Ideal) (over (F := Ideal) (diff2 (F := Ideal) x W b (conv x W b) (dir0 (F := Ideal) (dirs (F := Ideal) S))))
          (over (F := Ideal) (diff2 (F := Ideal) x W b (conv x W b) (dir1 (F := Ideal) (dirs (F := Ideal) S))))) := by
  funext j
  have h0 : ∀ i, ∃ r : ℝ, dir0 (F := Ideal) (dirs (F := Ideal) S) i = (r : EReal) := fun i => by
    obtain ⟨n, o, h, w, rfl⟩ : ∃ n o h w, i = ix4 n o h w := ⟨i 0, i 1, i 2, i 3, eq_ix4 i⟩
    exact ⟨_, by rw [Cert.ReferenceIdeal.Own.dir0_apply, ofBits_step, ← EReal.coe_mul]⟩
  have h1 : ∀ i, ∃ r : ℝ, dir1 (F := Ideal) (dirs (F := Ideal) S) i = (r : EReal) := fun i => by
    obtain ⟨n, o, h, w, rfl⟩ : ∃ n o h w, i = ix4 n o h w := ⟨i 0, i 1, i 2, i 3, eq_ix4 i⟩
    exact ⟨_, by rw [Cert.ReferenceIdeal.Own.dir1_apply, ofBits_step, ← EReal.coe_mul]⟩
  have hpen := Cert.ReferenceIdeal.Own.penalty_zero _ _ (diff2_zero hp h0) (diff2_zero hp h1) j
  generalize penalty (F := Ideal) (over (F := Ideal) (diff2 (F := Ideal) x W b (conv x W b) (dir0 (F := Ideal) (dirs (F := Ideal) S))))
    (over (F := Ideal) (diff2 (F := Ideal) x W b (conv x W b) (dir1 (F := Ideal) (dirs (F := Ideal) S)))) = pen at hpen ⊢
  have hm := ref_meanSq x W b E j
  have hl := Cert.ReferenceIdeal.Own.loss'_apply (conv x W b) (take E (near (dist (flat (conv x W b)) E))) (contr E) j
  rw [hm, Cert.ReferenceIdeal.Own.contr_apply] at hl
  have hk := Cert.KernelIdeal.Own.loss_apply (table x W b) E j
  obtain ⟨x', hx⟩ := Classical.axiomOfChoice hp.hx
  obtain ⟨W', hW⟩ := Classical.axiomOfChoice hp.hW
  obtain ⟨b', hb⟩ := Classical.axiomOfChoice hp.hb
  obtain ⟨e, he⟩ := Classical.axiomOfChoice hp.hE
  obtain ⟨t, ht⟩ : ∃ t : Fin 8192 → Fin 64 → ℝ, ∀ p c, table x W b (ix2 p c) = (t p c : EReal) := ⟨_, fun p c => lat_coe hx hW hb _ _ _ _⟩
  obtain ⟨r, hr1, hr2⟩ := cosines (e := fun k c => e (ix2 k c)) (E := fun k c => E (ix2 k c)) (fun k c => he _) hp.h0
  rw [hr1] at hl
  rw [hr2] at hk
  generalize code (table x W b) E = f at hl hk
  have hd : ∀ p, dists (fun c => table x W b (ix2 p c)) E (f p) = ((∑ c, (e (ix2 (f p) c) - t p c) * (e (ix2 (f p) c) - t p c) : ℝ) : EReal) := fun p => by
    unfold dists
    simp only [ht, he]
    exact dsq_coe _ _
  simp only [hd, sum_coe] at hk
  simp only [ht, he, ← EReal.coe_sub, ← EReal.coe_mul, sum_coe] at hl
  generalize loss' (F := Ideal) (conv x W b) (take E (near (dist (flat (conv x W b)) E))) (contr E) = l at hl ⊢
  rw [hk, weighted]
  refine Eq.trans ?_ (congrArg₂ (fun u v : EReal => u + v) hl hpen).symm
  rfl

end Finite

end Cert.Vq

end
-- ==== Proof.Algebraic.lean ====
/- From inputs that agree and are proper, the kernel and the reference end with the same four results. -/
module

public import proofs.«01_k».proof.Proof.Loss

@[expose] public section

noncomputable section

namespace Cert.Vq

open Idealize.ShloMosaic Idealize.ShloMosaic.TcCoe Idealize.SL.Sem Idealize.ShloMosaic.StableHlo
open Cert.KernelIdeal.Own (W5 indices nearests leasts marks loss sampled)
open Cert.ReferenceIdeal.Own (conv flat dist near take loss' contr penalty over diff2 dir0 dir1 dirs used signs opsA signOps opsB)

variable (x : FVec Ideal ⟨4, ![8, 384, 32, 32]⟩ .f32) (W : FVec Ideal ⟨2, ![64, 384]⟩ .f32) (b : FVec Ideal ⟨1, ![64]⟩ .f32) (E : FVec Ideal ⟨2, ![8192, 64]⟩ .f32)

/-- The quantized latents, as the reference writes them. -/
abbrev quantVal : FVec Ideal ⟨4, ![8, 64, 32, 32]⟩ .f32 :=
  addf (F := Ideal) (conv x W b) (subf (F := Ideal) (take E (near (dist (flat (conv x W b)) E))) (conv x W b))
/-- The loss, as the reference writes it, of the signs `S`. -/
abbrev lossVal (S : IVec ⟨5, ![2, 8, 384, 32, 32]⟩ 32) : FVec Ideal ⟨0, ![]⟩ .f32 :=
  addf (F := Ideal) (loss' (F := Ideal) (conv x W b) (take E (near (dist (flat (conv x W b)) E))) (contr E))
    (penalty (F := Ideal) (over (F := Ideal) (diff2 (F := Ideal) x W b (conv x W b) (dir0 (F := Ideal) (dirs (F := Ideal) S))))
      (over (F := Ideal) (diff2 (F := Ideal) x W b (conv x W b) (dir1 (F := Ideal) (dirs (F := Ideal) S)))))
/-- The marks of the codes used, as the reference writes them. -/
abbrev usedVal : FVec Ideal ⟨2, ![8, 8192]⟩ .f32 := used (F := Ideal) (near (dist (flat (conv x W b)) E))
/-- The indices, as the reference writes them. -/
abbrev indexVal : IVec ⟨2, ![8, 1024]⟩ 32 :=
  shapeCast (s := Cert.ReferenceIdeal.S8192) Cert.ReferenceIdeal.S8x1024 (near (dist (flat (conv x W b)) E)) Cert.ReferenceIdeal.Gen.shapeCasts_S8192_S8x1024

section Kernel

open Cert.KernelIdeal

variable (m : (ℓ : Loc nD τ sig) → Buf (Elt Ideal) ℓ) (ρ : Dev nD → PrngReg) (c : Dev nD)
variable (h0 : m ((c : Thread nD τ).loc main_arg0) = x) (h1 : m ((c : Thread nD τ).loc main_arg1) = W)
  (h2 : m ((c : Thread nD τ).loc main_arg2) = b) (h3 : m ((c : Thread nD τ).loc main_arg3) = E)
include h0 h1 h2

/-- The rows the kernel's second call reads are the latent's. -/
theorem zRows_eq : Own.zRows (F := Ideal) m c = table x W b := by
  subst h0 h1 h2
  exact Own.rows_table _ _ _

include h3

/-- The kernel's indices are the reference's, -/
theorem kernel_index : W5 (F := Ideal) m ρ c (Proc.devRef .tc main_v10) = indexVal x W b E := by
  refine (Own.W5_v10 m ρ c).trans ?_
  rw [zRows_eq x W b m c h0 h1 h2, h3]
  exact index_eq x W b E
/-- its marks are the reference's, -/
theorem kernel_used : W5 (F := Ideal) m ρ c (Proc.devRef .tc main_v21) = usedVal x W b E := by
  refine (Own.W5_v21 m ρ c).trans ?_
  rw [zRows_eq x W b m c h0 h1 h2, h3]
  exact sampled_eq x W b E
/-- its quantized latents are the reference's -/
theorem kernel_quant (hp : Proper x W b E) : W5 (F := Ideal) m ρ c (Proc.devRef .tc main_v11) = quantVal x W b E := by
  refine (Own.W5_v11 m ρ c).trans ?_
  rw [zRows_eq x W b m c h0 h1 h2, h3]
  exact quant_eq x W b E hp
/-- and its loss is the reference's, whatever the signs. -/
theorem kernel_loss (hp : Proper x W b E) (S : IVec ⟨5, ![2, 8, 384, 32, 32]⟩ 32) :
    W5 (F := Ideal) m ρ c (Proc.devRef .tc main_v17) = lossVal x W b E S := by
  refine (Own.W5_v17 m ρ c).trans ?_
  rw [zRows_eq x W b m c h0 h1 h2, h3]
  exact loss_eq hp S

end Kernel

section Reference

open Cert.ReferenceIdeal

variable (V : Valuation τ sig (Elt Ideal))
variable (h0 : V (Proc.devRef .tc main_arg0) = x) (h1 : V (Proc.devRef .tc main_arg1) = W) (h2 : V (Proc.devRef .tc main_arg2) = b) (h3 : V (Proc.devRef .tc main_arg3) = E)
include h0 h1 h2 h3

/-- The reference's run leaves its indices, -/
theorem ref_end_index : after (opsA ++ (signOps ++ opsB)) V (Proc.devRef .tc main_v119) = indexVal x W b E := by
  subst h0 h1 h2 h3
  exact Own.end_v119 V
/-- its marks, -/
theorem ref_end_used : after (opsA ++ (signOps ++ opsB)) V (Proc.devRef .tc main_v118) = usedVal x W b E := by
  subst h0 h1 h2 h3
  exact Own.end_v118 V
/-- its quantized latents -/
theorem ref_end_quant : after (opsA ++ (signOps ++ opsB)) V (Proc.devRef .tc main_v108) = quantVal x W b E := by
  subst h0 h1 h2 h3
  exact Own.end_v108 V
/-- and its loss. -/
theorem ref_end_loss : after (opsA ++ (signOps ++ opsB)) V (Proc.devRef .tc main_v106) = lossVal x W b E (signs V) := by
  subst h0 h1 h2 h3
  exact Own.end_v106 V

end Reference

/-- The kernel equals the reference, for finite inputs and a codebook without zero rows. -/
theorem algebraic : Cert.algebraic_KernelIdeal_ReferenceIdeal_pre_proper (hKernelIdeal := Cert.KernelIdeal.Gen.facts)
    (hReferenceIdeal := Cert.ReferenceIdeal.Gen.facts) (hPre_proper := properFacts) := by
  intro m g m' g' hpre hag
  haveI := properFacts
  have hp := fun c => proper_of _ _ _ _ (hpre c)
  have hk := Cert.KernelIdeal.Own.run_ends (F := Ideal) m g
  have hr := Cert.ReferenceIdeal.Own.run_ends (F := Ideal) m' g'
  refine ⟨fun c => W5 (F := Ideal) m g c (Proc.devRef .tc Cert.KernelIdeal.main_v11), fun c => W5 (F := Ideal) m g c (Proc.devRef .tc Cert.KernelIdeal.main_v17),
    fun c => W5 (F := Ideal) m g c (Proc.devRef .tc Cert.KernelIdeal.main_v21), fun c => W5 (F := Ideal) m g c (Proc.devRef .tc Cert.KernelIdeal.main_v10),
    (θ_run _ _ _).mono (fun r h c => ⟨h.1 c _ (Cert.KernelIdeal.Own.mem_uc Cert.KernelIdeal.main_v11 (by decide)), h.1 c _ (Cert.KernelIdeal.Own.mem_uc Cert.KernelIdeal.main_v17 (by decide)),
      h.1 c _ (Cert.KernelIdeal.Own.mem_uc Cert.KernelIdeal.main_v21 (by decide)), h.1 c _ (Cert.KernelIdeal.Own.mem_uc Cert.KernelIdeal.main_v10 (by decide)),
      (h.1 c _ (Cert.KernelIdeal.Own.mem_uc Cert.KernelIdeal.main_arg0 (by decide))).trans (Cert.KernelIdeal.Own.W5_main_arg0 m g c),
      (h.1 c _ (Cert.KernelIdeal.Own.mem_uc Cert.KernelIdeal.main_arg1 (by decide))).trans (Cert.KernelIdeal.Own.W5_main_arg1 m g c),
      (h.1 c _ (Cert.KernelIdeal.Own.mem_uc Cert.KernelIdeal.main_arg2 (by decide))).trans (Cert.KernelIdeal.Own.W5_main_arg2 m g c),
      (h.1 c _ (Cert.KernelIdeal.Own.mem_uc Cert.KernelIdeal.main_arg3 (by decide))).trans (Cert.KernelIdeal.Own.W5_main_arg3 m g c)⟩) hk,
    (θ_run _ _ _).mono (fun r h c => ⟨?_, ?_, ?_, ?_,
      (h c Cert.ReferenceIdeal.main_arg0).trans (Cert.ReferenceIdeal.Own.all_keep _ Cert.ReferenceIdeal.main_arg0 (by decide) (by decide) (by decide) (by decide) (by decide) (by decide) (by decide)),
      (h c Cert.ReferenceIdeal.main_arg1).trans (Cert.ReferenceIdeal.Own.all_keep _ Cert.ReferenceIdeal.main_arg1 (by decide) (by decide) (by decide) (by decide) (by decide) (by decide) (by decide)),
      (h c Cert.ReferenceIdeal.main_arg2).trans (Cert.ReferenceIdeal.Own.all_keep _ Cert.ReferenceIdeal.main_arg2 (by decide) (by decide) (by decide) (by decide) (by decide) (by decide) (by decide)),
      (h c Cert.ReferenceIdeal.main_arg3).trans (Cert.ReferenceIdeal.Own.all_keep _ Cert.ReferenceIdeal.main_arg3 (by decide) (by decide) (by decide) (by decide) (by decide) (by decide) (by decide))⟩) hr⟩
  · exact ((h c _).trans (ref_end_quant _ _ _ _ _ (hag c).1 (hag c).2.1 (hag c).2.2.1 (hag c).2.2.2)).trans (kernel_quant _ _ _ _ m g c rfl rfl rfl rfl (hp c)).symm
  · exact ((h c _).trans (ref_end_loss _ _ _ _ _ (hag c).1 (hag c).2.1 (hag c).2.2.1 (hag c).2.2.2)).trans (kernel_loss _ _ _ _ m g c rfl rfl rfl rfl (hp c) _).symm
  · exact ((h c _).trans (ref_end_used _ _ _ _ _ (hag c).1 (hag c).2.1 (hag c).2.2.1 (hag c).2.2.2)).trans (kernel_used _ _ _ _ m g c rfl rfl rfl rfl).symm
  · exact ((h c _).trans (ref_end_index _ _ _ _ _ (hag c).1 (hag c).2.1 (hag c).2.2.1 (hag c).2.2.2)).trans (kernel_index _ _ _ _ m g c rfl rfl rfl rfl).symm

end Cert.Vq

end
-- ==== Proof.lean ====
/- The claim assembled from the frames of the three programs and from the kernel's equality with the reference. -/
module

public import proofs.«01_k».proof.Defs
public import proofs.«01_k».proof.Proof.KernelFrame
public import proofs.«01_k».proof.Proof.KernelIdealFrame
public import proofs.«01_k».proof.Proof.RefRun
public import proofs.«01_k».proof.Proof.Algebraic

@[expose] public section

noncomputable section

namespace Cert.Proof

open Idealize.ShloMosaic Idealize.SL.Sem

/-- Everything the certificate claims. -/
theorem claim : Cert.Claim := ⟨Cert.Kernel.Gen.facts, Cert.KernelIdeal.Gen.facts, Cert.ReferenceIdeal.Gen.facts, Cert.Vq.properFacts,
  fun m ρ _ => Cert.Kernel.Own.frame m ρ, fun m ρ _ => Cert.KernelIdeal.Own.frame m ρ, fun m ρ _ => Cert.KernelIdeal.Own.frame m ρ,
  fun m ρ _ => Cert.ReferenceIdeal.Own.frame m ρ, fun m ρ _ => Cert.ReferenceIdeal.Own.frame m ρ, trivial, Cert.Vq.algebraic⟩

end Cert.Proof

end
